-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_scores [hPre_finite_scores : Cert.Pre_finite_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_scores [hPre_finite_scores : Cert.Pre_finite_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_scores [hKernel5Ideal : Cert.Kernel5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_scores [hReference5Ideal : Cert.Reference5Ideal.Facts] [hPre_finite_scores : Cert.Pre_finite_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v65_0)) (v1 : (c : Dev Cert.Kernel2Ideal.nD) → Buf (Elt Ideal) ((c.tc : Thread Cert.Kernel2Ideal.nD Cert.Kernel2Ideal.τ).loc Cert.Kernel2Ideal.main_v65_1)) (v2 : (c : Dev Cert.Kernel2Ideal.nD) → Buf (Elt Ideal) ((c.tc : Thread Cert.Kernel2Ideal.nD Cert.Kernel2Ideal.τ).loc Cert.Kernel2Ideal.main_v65_2)) (v3 : (c : Dev Cert.Kernel2Ideal.nD) → Buf (Elt Ideal) ((c.tc : Thread Cert.Kernel2Ideal.nD Cert.Kernel2Ideal.τ).loc Cert.Kernel2Ideal.main_v65_3)) (v4 : (c : Dev Cert.Kernel2Ideal.nD) → Buf (Elt Ideal) ((c.tc : Thread Cert.Kernel2Ideal.nD Cert.Kernel2Ideal.τ).loc Cert.Kernel2Ideal.main_v65_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v65_0) = v0 c
          ∧ r.2.mem ((c.tc : Thread Cert.Kernel2Ideal.nD Cert.Kernel2Ideal.τ).loc Cert.Kernel2Ideal.main_v65_1) = v1 c
          ∧ r.2.mem ((c.tc : Thread Cert.Kernel2Ideal.nD Cert.Kernel2Ideal.τ).loc Cert.Kernel2Ideal.main_v65_2) = v2 c
          ∧ r.2.mem ((c.tc : Thread Cert.Kernel2Ideal.nD Cert.Kernel2Ideal.τ).loc Cert.Kernel2Ideal.main_v65_3) = v3 c
          ∧ r.2.mem ((c.tc : Thread Cert.Kernel2Ideal.nD Cert.Kernel2Ideal.τ).loc Cert.Kernel2Ideal.main_v65_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_v142) = v1 c
          ∧ r.2.mem ((c.tc : Thread Cert.Reference2Ideal.nD Cert.Reference2Ideal.τ).loc Cert.Reference2Ideal.main_v143) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v144) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_scores [hKernel5Ideal : Cert.Kernel5Ideal.Facts] [hReference5Ideal : Cert.Reference5Ideal.Facts] [hPre_finite_scores : Cert.Pre_finite_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v173)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v173) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v123) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_valid : Cert.Pre_valid.Facts) (hPre_finite : Cert.Pre_finite.Facts) (hPre_finite_scores : Cert.Pre_finite_scores.Facts),
    quiescent_Kernel (hKernel := hKernel) (hPre_in_range := hPre_in_range)
    ∧ quiescent_KernelIdeal (hKernelIdeal := hKernelIdeal) (hPre_in_range := hPre_in_range)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite_scores (hKernel5Ideal := hKernel5Ideal) (hPre_finite_scores := hPre_finite_scores)
    ∧ quiescent_Reference5Ideal (hReference5Ideal := hReference5Ideal)
    ∧ quiescent_Reference5Ideal_pre_finite_scores (hReference5Ideal := hReference5Ideal) (hPre_finite_scores := hPre_finite_scores)
    ∧ preserves_Kernel_KernelIdeal
    ∧ algebraic_KernelIdeal_ReferenceIdeal_pre_valid (hKernelIdeal := hKernelIdeal) (hReferenceIdeal := hReferenceIdeal) (hPre_valid := hPre_valid)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite_scores (hKernel5Ideal := hKernel5Ideal) (hReference5Ideal := hReference5Ideal) (hPre_finite_scores := hPre_finite_scores)
-- ==== Pre_finite.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S24x1024 : S_.BroadcastsInDim S24x1024 (![] : Fin 0 → Fin S24x1024.rank)
  reducesTo_S24x1024_S_d0_1 : S24x1024.ReducesTo [0, 1] S_
  h_S_ : 0 < S_.numel
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S24x1024 .f32) (main_arg1 : FVec F S2x1024x6144 .f32) (main_arg2 : FVec F S2x6144 .f32) : IVec S_ 1 :=
  let main_cst : FVec F S_ .f32 := constant S_ .f32 0x7F800000#32
  let main_v0 : FVec F S24x1024 .f32 := broadcastInDim S24x1024 ![] bcast_S_S24x1024 main_cst
  let main_v1 : IVec S24x1024 1 := cmpf .olt main_arg0 main_v0
  let main_c : IVec S_ 1 := constantI S_ 1 1#1
  let main_v2 : IVec S_ 1 := (fun x v => Host.reduce IntOp.andi x v reducesTo_S24x1024_S_d0_1 h_S_) main_v1 main_c
  let main_cst_0 : FVec F S_ .f32 := constant S_ .f32 0xFF800000#32
  let main_v3 : FVec F S24x1024 .f32 := broadcastInDim S24x1024 ![] bcast_S_S24x1024 main_cst_0
  let main_v4 : IVec S24x1024 1 := cmpf .ogt main_arg0 main_v3
  let main_c_1 : IVec S_ 1 := constantI S_ 1 1#1
  let main_v5 : IVec S_ 1 := (fun x v => Host.reduce IntOp.andi x v reducesTo_S24x1024_S_d0_1 h_S_) main_v4 main_c_1
  let main_v6 : IVec S_ 1 := andi main_v2 main_v5
  let main_cst_2 : FVec F S_ .f32 := constant S_ .f32 0x7F800000#32
  let main_v7 : FVec F S2x1024x6144 .f32 := broadcastInDim S2x1024x6144 ![] bcast_S_S2x1024x6144 main_cst_2
  let main_v8 : IVec S2x1024x6144 1 := cmpf .olt main_arg1 main_v7
  let main_c_3 : IVec S_ 1 := constantI S_ 1 1#1
  let main_v9 : IVec S_ 1 := (fun x v => Host.reduce IntOp.andi x v reducesTo_S2x1024x6144_S_d0_1_2 h_S_) main_v8 main_c_3
  let main_v10 : IVec S_ 1 := andi main_v6 main_v9
  let main_cst_4 : FVec F S_ .f32 := constant S_ .f32 0xFF800000#32
  let main_v11 : FVec F S2x1024x6144 .f32 := broadcastInDim S2x1024x6144 ![] bcast_S_S2x1024x6144 main_cst_4
  let main_v12 : IVec S2x1024x6144 1 := cmpf .ogt main_arg1 main_v11
  let main_c_5 : IVec S_ 1 := constantI S_ 1 1#1
  let main_v13 : IVec S_ 1 := (fun x v => Host.reduce IntOp.andi x v reducesTo_S2x1024x6144_S_d0_1_2 h_S_) main_v12 main_c_5
  let main_v14 : IVec S_ 1 := andi main_v10 main_v13
  main_v14
-- ==== Pre_finite_scores.lean ====
abbrev S16x2304x512 : Shape := ⟨3, ![16, 2304, 512]⟩
abbrev S8x15x31 : Shape := ⟨3, ![8, 15, 31]⟩
abbrev S_ : Shape := ⟨0, ![]⟩

class Facts : Prop where
  bitsLt_bf16_f32 : FTy.bits .bf16 < FTy.bits .f32
  bcast_S_S16x2304x512 : S_.BroadcastsInDim S16x2304x512 (![] : Fin 0 → Fin S16x2304x512.rank)
  reducesTo_S16x2304x512_S_d0_1_2 : S16x2304x512.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_arg3 : FVec F S8x15x31 .f32) (main_v8 : IVec S_ 1) (main_v12 : IVec S_ 1) (main_v15 : IVec S16x2304x512 1) (main_c_5 : IVec S_ 1) : IVec S_ 1 :=
  let main_v16 : IVec S_ 1 := (fun x v => Host.reduce IntOp.andi x v reducesTo_S16x2304x512_S_d0_1_2 h_S_) main_v15 main_c_5
  let main_v17 : IVec S_ 1 := andi main_v12 main_v16
  let main_v18 : IVec S_ 1 := andi main_v8 main_v17
  let main_cst_6 : FVec F S_ .f32 := constant S_ .f32 0x7F800000#32
  let main_v19 : FVec F S8x15x31 .f32 := broadcastInDim S8x15x31 ![] bcast_S_S8x15x31 main_cst_6
  let main_v20 : IVec S8x15x31 1 := cmpf .olt main_arg3 main_v19
  let main_c_7 : IVec S_ 1 := constantI S_ 1 1#1
  let main_v21 : IVec S_ 1 := (fun x v => Host.reduce IntOp.andi x v reducesTo_S8x15x31_S_d0_1_2 h_S_) main_v20 main_c_7
  let main_cst_8 : FVec F S_ .f32 := constant S_ .f32 0xFF800000#32
  let main_v22 : FVec F S8x15x31 .f32 := broadcastInDim S8x15x31 ![] bcast_S_S8x15x31 main_cst_8
  let main_v23 : IVec S8x15x31 1 := cmpf .ogt main_arg3 main_v22
  let main_c_9 : IVec S_ 1 := constantI S_ 1 1#1
  let main_v24 : IVec S_ 1 := (fun x v => Host.reduce IntOp.andi x v reducesTo_S8x15x31_S_d0_1_2 h_S_) main_v23 main_c_9
  let main_v25 : IVec S_ 1 := andi main_v21 main_v24
  let main_v26 : IVec S_ 1 := andi main_v18 main_v25
  main_v26

def fn {F : FTy → Type} [FloatOps F] (main_arg0 : FVec F S16x2304x512 .bf16) (main_arg1 : FVec F S16x2304x512 .bf16) (main_arg2 : FVec F S16x2304x512 .bf16) (main_arg3 : FVec F S8x15x31 .f32) : IVec S_ 1 :=
  let main_v0 : FVec F S16x2304x512 .f32 := (extf .f32 · bitsLt_bf16_f32) main_arg0
  let main_cst : FVec F S_ .f32 := constant S_ .f32 0x7F800000#32
  let main_v1 : FVec F S16x2304x512 .f32 := broadcastInDim S16x2304x512 ![] bcast_S_S16x2304x512 main_cst
  let main_v2 : IVec S16x2304x512 1 := cmpf .olt main_v0 main_v1
  let main_c : IVec S_ 1 := constantI S_ 1 1#1
  let main_v3 : IVec S_ 1 := (fun x v => Host.reduce IntOp.andi x v reducesTo_S16x2304x512_S_d0_1_2 h_S_) main_v2 main_c
  let main_v4 : FVec F S16x2304x512 .f32 := (extf .f32 · bitsLt_bf16_f32) main_arg0
  let main_cst_0 : FVec F S_ .f32 := constant S_ .f32 0xFF800000#32
  let main_v5 : FVec F S16x2304x512 .f32 := broadcastInDim S16x2304x512 ![] bcast_S_S16x2304x512 main_cst_0
  let main_v6 : IVec S16x2304x512 1 := cmpf .ogt main_v4 main_v5
  let main_c_1 : IVec S_ 1 := constantI S_ 1 1#1
  let main_v7 : IVec S_ 1 := (fun x v => Host.reduce IntOp.andi x v reducesTo_S16x2304x512_S_d0_1_2 h_S_) main_v6 main_c_1
  let main_v8 : IVec S_ 1 := andi main_v3 main_v7
  let main_v9 : FVec F S16x2304x512 .f32 := (extf .f32 · bitsLt_bf16_f32) main_arg1
  let main_cst_2 : FVec F S_ .f32 := constant S_ .f32 0x7F800000#32
  let main_v10 : FVec F S16x2304x512 .f32 := broadcastInDim S16x2304x512 ![] bcast_S_S16x2304x512 main_cst_2
  let main_v11 : IVec S16x2304x512 1 := cmpf .olt main_v9 main_v10
  let main_c_3 : IVec S_ 1 := constantI S_ 1 1#1
  let main_v12 : IVec S_ 1 := (fun x v => Host.reduce IntOp.andi x v reducesTo_S16x2304x512_S_d0_1_2 h_S_) main_v11 main_c_3
  let main_v13 : FVec F S16x2304x512 .f32 := (extf .f32 · bitsLt_bf16_f32) main_arg1
  let main_cst_4 : FVec F S_ .f32 := constant S_ .f32 0xFF800000#32
  let main_v14 : FVec F S16x2304x512 .f32 := broadcastInDim S16x2304x512 ![] bcast_S_S16x2304x512 main_cst_4
  let main_v15 : IVec S16x2304x512 1 := cmpf .ogt main_v13 main_v14
  let main_c_5 : IVec S_ 1 := constantI S_ 1 1#1
  fn_part1 (F := F) main_arg3 main_v8 main_v12 main_v15 main_c_5
-- ==== Pre_in_range.lean ====
abbrev S84 : Shape := ⟨1, ![84]⟩
abbrev S1 : Shape := ⟨1, ![1]⟩
abbrev S43008x1152 : Shape := ⟨2, ![43008, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S84 : S_.BroadcastsInDim S84 (![] : Fin 0 → Fin S84.rank)
  reducesTo_S84_S_d0 : S84.ReducesTo [0] S_
  h_S_ : 0 < S_.numel

variable [Facts]

def fn {F : FTy → Type} [FloatOps F] (main_arg0 : IVec S84 32) (main_arg1 : IVec S1 32) (main_arg2 : FVec F S43008x1152 .f32) (main_arg3 : FVec F S16x1024x512 .f32) (main_arg4 : FVec F S16x1024x512 .f32) (main_arg5 : FVec F S16x512x1024 .f32) : IVec S_ 1 :=
  let main_c : IVec S_ 32 := constantI S_ 32 0#32
  let main_v0 : IVec S84 32 := broadcastInDim S84 ![] bcast_S_S84 main_c
  let main_v1 : IVec S84 1 := cmpi .sge main_arg0 main_v0
  let main_c_0 : IVec S_ 1 := constantI S_ 1 1#1
  let main_v2 : IVec S_ 1 := (fun x v => Host.reduce IntOp.andi x v reducesTo_S84_S_d0 h_S_) main_v1 main_c_0
  let main_c_1 : IVec S_ 32 := constantI S_ 32 4#32
  let main_v3 : IVec S84 32 := broadcastInDim S84 ![] bcast_S_S84 main_c_1
  let main_v4 : IVec S84 1 := cmpi .slt main_arg0 main_v3
  let main_c_2 : IVec S_ 1 := constantI S_ 1 1#1
  let main_v5 : IVec S_ 1 := (fun x v => Host.reduce IntOp.andi x v reducesTo_S84_S_d0 h_S_) main_v4 main_c_2
  let main_v6 : IVec S_ 1 := andi main_v2 main_v5
  main_v6
-- ==== Pre_valid.lean ====
abbrev S84 : Shape := ⟨1, ![84]⟩
abbrev S1 : Shape := ⟨1, ![1]⟩
abbrev S43008x1152 : Shape := ⟨2, ![43008, 1152]⟩
abbrev S16x1024x512 : Shape := ⟨3, ![16, 1024, 512]⟩
abbrev S16x512x1024 : Shape := ⟨3, ![16, 512, 1024]⟩
abbrev S43008x16 : Shape := ⟨2, ![43008, 16]⟩
abbrev S_ : Shape := ⟨0, ![]⟩

class Facts : Prop where
  slices_S43008x1152_S43008x16_0_1024 : S43008x1152.Slices ![0, 1024] S43008x16
  bcast_S_S84 : S_.BroadcastsInDim S84 (![] : Fin 0 → Fin S84.rank)
  reducesTo_S84_S_d0 : S84.ReducesTo [0] S_
  h_S_ : 0 < S_.numel
  bcast_S_S43008x16 : S_.BroadcastsInDim S43008x16 (![] : Fin 0 → Fin S43008x16.rank)
  reducesTo_S43008x16_S_d0_1 : S43008x16.ReducesTo [0, 1] S_

variable [Facts]

def fn {F : FTy → Type} [FloatOps F] (main_arg0 : IVec S84 32) (main_arg1 : IVec S1 32) (main_arg2 : FVec F S43008x1152 .f32) (main_arg3 : FVec F S16x1024x512 .f32) (main_arg4 : FVec F S16x1024x512 .f32) (main_arg5 : FVec F S16x512x1024 .f32) : IVec S_ 1 :=
  let main_v0 : FVec F S43008x16 .f32 := (extractStridedSlice S43008x16 ![0, 1024] · slices_S43008x1152_S43008x16_0_1024) main_arg2
  let main_c : IVec S_ 32 := constantI S_ 32 0#32
  let main_v1 : IVec S84 32 := broadcastInDim S84 ![] bcast_S_S84 main_c
  let main_v2 : IVec S84 1 := cmpi .sge main_arg0 main_v1
  let main_c_0 : IVec S_ 1 := constantI S_ 1 1#1
  let main_v3 : IVec S_ 1 := (fun x v => Host.reduce IntOp.andi x v reducesTo_S84_S_d0 h_S_) main_v2 main_c_0
  let main_c_1 : IVec S_ 32 := constantI S_ 32 4#32
  let main_v4 : IVec S84 32 := broadcastInDim S84 ![] bcast_S_S84 main_c_1
  let main_v5 : IVec S84 1 := cmpi .slt main_arg0 main_v4
  let main_c_2 : IVec S_ 1 := constantI S_ 1 1#1
  let main_v6 : IVec S_ 1 := (fun x v => Host.reduce IntOp.andi x v reducesTo_S84_S_d0 h_S_) main_v5 main_c_2
  let main_v7 : IVec S_ 1 := andi main_v3 main_v6
  let main_cst : FVec F S_ .f32 := constant S_ .f32 0x00000000#32
  let main_v8 : FVec F S43008x16 .f32 := broadcastInDim S43008x16 ![] bcast_S_S43008x16 main_cst
  let main_v9 : IVec S43008x16 1 := cmpf .oge main_v0 main_v8
  let main_c_3 : IVec S_ 1 := constantI S_ 1 1#1
  let main_v10 : IVec S_ 1 := (fun x v => Host.reduce IntOp.andi x v reducesTo_S43008x16_S_d0_1 h_S_) main_v9 main_c_3
  let main_v11 : IVec S_ 1 := andi main_v7 main_v10
  let main_cst_4 : FVec F S_ .f32 := constant S_ .f32 0x7F800000#32
  let main_v12 : FVec F S43008x16 .f32 := broadcastInDim S43008x16 ![] bcast_S_S43008x16 main_cst_4
  let main_v13 : IVec S43008x16 1 := cmpf .olt main_v0 main_v12
  let main_c_5 : IVec S_ 1 := constantI S_ 1 1#1
  let main_v14 : IVec S_ 1 := (fun x v => Host.reduce IntOp.andi x v reducesTo_S43008x16_S_d0_1 h_S_) main_v13 main_c_5
  let main_v15 : IVec S_ 1 := andi main_v11 main_v14
  main_v15
-- ==== Kernel.lean ====
abbrev S84 : Shape := ⟨1, ![84]⟩
abbrev S1 : Shape := ⟨1, ![1]⟩
abbrev S43008x1152 : Shape := ⟨2, ![43008, 1152]⟩
abbrev S16x1024x512 : Shape := ⟨3, ![16, 1024, 512]⟩
abbrev S16x512x1024 : Shape := ⟨3, ![16, 512, 1024]⟩
abbrev S4x4x1024x512 : Shape := ⟨4, ![4, 4, 1024, 512]⟩
abbrev S4x4x512x1024 : Shape := ⟨4, ![4, 4, 512, 1024]⟩
abbrev S43008x1024 : Shape := ⟨2, ![43008, 1024]⟩
abbrev S512x1152 : Shape := ⟨2, ![512, 1152]⟩
abbrev S1x4x1024x512 : Shape := ⟨4, ![1, 4, 1024, 512]⟩
abbrev S1x4x512x1024 : Shape := ⟨4, ![1, 4, 512, 1024]⟩
abbrev S512x1024 : Shape := ⟨2, ![512, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩

abbrev nBuf : Space → Nat
  | .hbm => 11
  | .vmem => 10
  | .smem => 2
  | _ => 0

abbrev bufTy : (tb : Table) → Fin (tcTables nBuf tb) → BufTy
  | .hbm, ⟨0, _⟩ => ⟨S43008x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x1024x512, .bf16⟩
  | .hbm, ⟨5, _⟩ => ⟨S4x4x1024x512, .bf16⟩
  | .hbm, ⟨6, _⟩ => ⟨S16x1024x512, .bf16⟩
  | .hbm, ⟨7, _⟩ => ⟨S4x4x1024x512, .bf16⟩
  | .hbm, ⟨8, _⟩ => ⟨S16x512x1024, .bf16⟩
  | .hbm, ⟨9, _⟩ => ⟨S4x4x512x1024, .bf16⟩
  | .hbm, ⟨10, _⟩ => ⟨S43008x1024, .f32⟩
  | .local _ .vmem, ⟨0, _⟩ => ⟨S512x1152, .f32⟩
  | .local _ .vmem, ⟨1, _⟩ => ⟨S512x1152, .f32⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x512x1024, .bf16⟩
  | .local _ .vmem, ⟨7, _⟩ => ⟨S1x4x512x1024, .bf16⟩
  | .local _ .vmem, ⟨8, _⟩ => ⟨S512x1024, .f32⟩
  | .local _ .vmem, ⟨9, _⟩ => ⟨S512x1024, .f32⟩
  | .local _ .smem, ⟨0, _⟩ => ⟨S84, .i32⟩
  | .local _ .smem, ⟨1, _⟩ => ⟨S1, .i32⟩
  | _, _ => ⟨S43008x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![84], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v12 : Index := Scalar.indexCast arg0
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S84.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S84.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S84.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S84) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S84 : Shape := ⟨1, ![84]⟩
abbrev S1 : Shape := ⟨1, ![1]⟩
abbrev S43008x1152 : Shape := ⟨2, ![43008, 1152]⟩
abbrev S16x1024x512 : Shape := ⟨3, ![16, 1024, 512]⟩
abbrev S16x512x1024 : Shape := ⟨3, ![16, 512, 1024]⟩
abbrev S43008x1024 : Shape := ⟨2, ![43008, 1024]⟩
abbrev S43008 : Shape := ⟨1, ![43008]⟩
abbrev S_ : Shape := ⟨0, ![]⟩
abbrev S16 : Shape := ⟨1, ![16]⟩
abbrev S84x1 : Shape := ⟨2, ![84, 1]⟩
abbrev S84x512 : Shape := ⟨2, ![84, 512]⟩
abbrev S1x16 : Shape := ⟨2, ![1, 16]⟩
abbrev S43008x1 : Shape := ⟨2, ![43008, 1]⟩
abbrev S43008x16 : Shape := ⟨2, ![43008, 16]⟩
abbrev S43008x16x512 : Shape := ⟨3, ![43008, 16, 512]⟩
abbrev S16x43008 : Shape := ⟨2, ![16, 43008]⟩
abbrev S16x43008x1 : Shape := ⟨3, ![16, 43008, 1]⟩
abbrev S16x43008x1024 : Shape := ⟨3, ![16, 43008, 1024]⟩

abbrev nBuf : Space → Nat
  | .hbm => 83
  | .vmem => 0
  | .smem => 0
  | _ => 0

abbrev bufTy : (tb : Table) → Fin (tcTables nBuf tb) → BufTy
  | .hbm, ⟨0, _⟩ => ⟨S84, .i32⟩
  | .hbm, ⟨1, _⟩ => ⟨S1, .i32⟩
  | .hbm, ⟨2, _⟩ => ⟨S43008x1152, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S43008x1024, .f32⟩
  | .hbm, ⟨7, _⟩ => ⟨S43008, .i32⟩
  | .hbm, ⟨8, _⟩ => ⟨S_, .i32⟩
  | .hbm, ⟨9, _⟩ => ⟨S_, .i32⟩
  | .hbm, ⟨10, _⟩ => ⟨S43008, .i32⟩
  | .hbm, ⟨11, _⟩ => ⟨S43008, .i32⟩
  | .hbm, ⟨12, _⟩ => ⟨S43008, .i32⟩
  | .hbm, ⟨13, _⟩ => ⟨S_, .i32⟩
  | .hbm, ⟨14, _⟩ => ⟨S43008, .i32⟩
  | .hbm, ⟨15, _⟩ => ⟨S43008, .i1⟩
  | .hbm, ⟨16, _⟩ => ⟨S43008, .i32⟩
  | .hbm, ⟨17, _⟩ => ⟨S43008, .i32⟩
  | .hbm, ⟨18, _⟩ => ⟨S_, .i32⟩
  | .hbm, ⟨19, _⟩ => ⟨S43008, .i32⟩
  | .hbm, ⟨20, _⟩ => ⟨S43008, .i1⟩
  | .hbm, ⟨21, _⟩ => ⟨S43008, .i1⟩
  | .hbm, ⟨22, _⟩ => ⟨S_, .i32⟩
  | .hbm, ⟨23, _⟩ => ⟨S43008, .i32⟩
  | .hbm, ⟨24, _⟩ => ⟨S43008, .i32⟩
  | .hbm, ⟨25, _⟩ => ⟨S43008, .i32⟩
  | .hbm, ⟨26, _⟩ => ⟨S16, .i32⟩
  | .hbm, ⟨27, _⟩ => ⟨S84x1, .i32⟩
  | .hbm, ⟨28, _⟩ => ⟨S84x512, .i32⟩
  | .hbm, ⟨29, _⟩ => ⟨S43008, .i32⟩
  | .hbm, ⟨30, _⟩ => ⟨S1x16, .i32⟩
  | .hbm, ⟨31, _⟩ => ⟨S_, .i32⟩
  | .hbm, ⟨32, _⟩ => ⟨S_, .i32⟩
  | .hbm, ⟨33, _⟩ => ⟨S1x16, .i32⟩
  | .hbm, ⟨34, _⟩ => ⟨S1x16, .i32⟩
  | .hbm, ⟨35, _⟩ => ⟨S1x16, .i32⟩
  | .hbm, ⟨36, _⟩ => ⟨S_, .i32⟩
  | .hbm, ⟨37, _⟩ => ⟨S1x16, .i32⟩
  | .hbm, ⟨38, _⟩ => ⟨S1x16, .i1⟩
  | .hbm, ⟨39, _⟩ => ⟨S1x16, .i32⟩
  | .hbm, ⟨40, _⟩ => ⟨S1x16, .i32⟩
  | .hbm, ⟨41, _⟩ => ⟨S_, .i32⟩
  | .hbm, ⟨42, _⟩ => ⟨S1x16, .i32⟩
  | .hbm, ⟨43, _⟩ => ⟨S1x16, .i1⟩
  | .hbm, ⟨44, _⟩ => ⟨S1x16, .i1⟩
  | .hbm, ⟨45, _⟩ => ⟨S_, .i32⟩
  | .hbm, ⟨46, _⟩ => ⟨S1x16, .i32⟩
  | .hbm, ⟨47, _⟩ => ⟨S1x16, .i32⟩
  | .hbm, ⟨48, _⟩ => ⟨S1x16, .i32⟩
  | .hbm, ⟨49, _⟩ => ⟨S43008x1, .i32⟩
  | .hbm, ⟨50, _⟩ => ⟨S43008x16, .i32⟩
  | .hbm, ⟨51, _⟩ => ⟨S43008x16, .i32⟩
  | .hbm, ⟨52, _⟩ => ⟨S43008x16, .i1⟩
  | .hbm, ⟨53, _⟩ => ⟨S_, .i32⟩
  | .hbm, ⟨54, _⟩ => ⟨S43008, .i32⟩
  | .hbm, ⟨55, _⟩ => ⟨S43008, .i1⟩
  | .hbm, ⟨56, _⟩ => ⟨S43008x1, .i1⟩
  | .hbm, ⟨57, _⟩ => ⟨S43008x16, .i1⟩
  | .hbm, ⟨58, _⟩ => ⟨S43008x16, .i1⟩
  | .hbm, ⟨59, _⟩ => ⟨S43008x16, .f32⟩
  | .hbm, ⟨60, _⟩ => ⟨S_, .f32⟩
  | .hbm, ⟨61, _⟩ => ⟨S_, .f32⟩
  | .hbm, ⟨62, _⟩ => ⟨S43008x16, .f32⟩
  | .hbm, ⟨63, _⟩ => ⟨S43008x16, .f32⟩
  | .hbm, ⟨64, _⟩ => ⟨S43008x16x512, .f32⟩
  | .hbm, ⟨65, _⟩ => ⟨S43008x16x512, .f32⟩
  | .hbm, ⟨66, _⟩ => ⟨S43008x16x512, .f32⟩
  | .hbm, ⟨67, _⟩ => ⟨S_, .f32⟩
  | .hbm, ⟨68, _⟩ => ⟨S43008x16x512, .f32⟩
  | .hbm, ⟨69, _⟩ => ⟨S43008x16x512, .f32⟩
  | .hbm, ⟨70, _⟩ => ⟨S_, .f32⟩
  | .hbm, ⟨71, _⟩ => ⟨S43008x16x512, .f32⟩
  | .hbm, ⟨72, _⟩ => ⟨S43008x16x512, .f32⟩
  | .hbm, ⟨73, _⟩ => ⟨S43008x16x512, .f32⟩
  | .hbm, ⟨74, _⟩ => ⟨S43008x16x512, .f32⟩
  | .hbm, ⟨75, _⟩ => ⟨S43008x16x512, .f32⟩
  | .hbm, ⟨76, _⟩ => ⟨S16x43008, .f32⟩
  | .hbm, ⟨77, _⟩ => ⟨S16x43008x1, .f32⟩
  | .hbm, ⟨78, _⟩ => ⟨S16x43008x1024, .f32⟩
  | .hbm, ⟨79, _⟩ => ⟨S16x43008x1024, .f32⟩
  | .hbm, ⟨80, _⟩ => ⟨S16x43008x1024, .f32⟩
  | .hbm, ⟨81, _⟩ => ⟨S_, .f32⟩
  | .hbm, ⟨82, _⟩ => ⟨S43008x1024, .f32⟩
  | _, _ => ⟨S84, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_v20 : Ref sig .tc := ⟨.hbm, 63, rfl⟩
abbrev main_v21 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_1 : Ref sig .tc := ⟨.hbm, 81, rfl⟩
abbrev main_v30 : Ref sig .tc := ⟨.hbm, 82, rfl⟩

abbrev nD : Nat := 1
abbrev τ : Topo := Topo.v7x

variable {F : FTy → Type} [FloatOps F]
-- ==== Kernel2.lean ====
abbrev S16x2304x1024 : Shape := ⟨3, ![16, 2304, 1024]⟩
abbrev S16x2x6x1024 : Shape := ⟨4, ![16, 2, 6, 1024]⟩
abbrev S1024 : Shape := ⟨1, ![1024]⟩
abbrev S1024x2048 : Shape := ⟨2, ![1024, 2048]⟩
abbrev S64 : Shape := ⟨1, ![64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S256x512 : Shape := ⟨2, ![256, 512]⟩
abbrev S2304x512 : Shape := ⟨2, ![2304, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x1024 : Shape := ⟨2, ![1, 1024]⟩
abbrev S16x2304x512 : Shape := ⟨3, ![16, 2304, 512]⟩
abbrev S16x2304x256 : Shape := ⟨3, ![16, 2304, 256]⟩
abbrev S2x256x1024 : Shape := ⟨3, ![2, 256, 1024]⟩
abbrev S2x1x6x1024 : Shape := ⟨4, ![2, 1, 6, 1024]⟩
abbrev S2x256x512 : Shape := ⟨3, ![2, 256, 512]⟩
abbrev S2x256x256 : Shape := ⟨3, ![2, 256, 256]⟩
abbrev S1x256x1024 : Shape := ⟨3, ![1, 256, 1024]⟩
abbrev S256x1024 : Shape := ⟨2, ![256, 1024]⟩
abbrev S1x1x6x1024 : Shape := ⟨4, ![1, 1, 6, 1024]⟩
abbrev S6x1024 : Shape := ⟨2, ![6, 1024]⟩
abbrev S256 : Shape := ⟨1, ![256]⟩
abbrev S256x1 : Shape := ⟨2, ![256, 1]⟩
abbrev S256x2048 : Shape := ⟨2, ![256, 2048]⟩
abbrev S1x256x512 : Shape := ⟨3, ![1, 256, 512]⟩
abbrev S256x256 : Shape := ⟨2, ![256, 256]⟩
abbrev S1x256x256 : Shape := ⟨3, ![1, 256, 256]⟩

abbrev nBuf : Space → Nat
  | .hbm => 128
  | .vmem => 25
  | .smem => 0
  | _ => 0

abbrev bufTy : (tb : Table) → Fin (tcTables nBuf tb) → BufTy
  | .hbm, ⟨0, _⟩ => ⟨S16x2304x1024, .f32⟩
  | .hbm, ⟨1, _⟩ => ⟨S16x2x6x1024, .f32⟩
  | .hbm, ⟨2, _⟩ => ⟨S1024, .f32⟩
  | .hbm, ⟨3, _⟩ => ⟨S1024x2048, .f32⟩
  | .hbm, ⟨4, _⟩ => ⟨S64, .f32⟩
  | .hbm, ⟨5, _⟩ => ⟨S64, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S2048x1, .f32⟩
  | .hbm, ⟨63, _⟩ => ⟨S1x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S_, .f32⟩
  | .hbm, ⟨71, _⟩ => ⟨S2048x32, .f32⟩
  | .hbm, ⟨72, _⟩ => ⟨S2048x64, .f32⟩
  | .hbm, ⟨73, _⟩ => ⟨S2048x32, .f32⟩
  | .hbm, ⟨74, _⟩ => ⟨S2048x64, .f32⟩
  | .hbm, ⟨75, _⟩ => ⟨S2048x64, .f32⟩
  | .hbm, ⟨76, _⟩ => ⟨S1x2048x1x64, .f32⟩
  | .hbm, ⟨77, _⟩ => ⟨S1x2048x8x64, .f32⟩
  | .hbm, ⟨78, _⟩ => ⟨S2048x512, .f32⟩
  | .hbm, ⟨79, _⟩ => ⟨S_, .f32⟩
  | .hbm, ⟨80, _⟩ => ⟨S256x512, .f32⟩
  | .hbm, ⟨81, _⟩ => ⟨S2304x512, .f32⟩
  | .hbm, ⟨82, _⟩ => ⟨S1x2048x1x64, .f32⟩
  | .hbm, ⟨83, _⟩ => ⟨S1x2048x8x64, .f32⟩
  | .hbm, ⟨84, _⟩ => ⟨S2048x512, .f32⟩
  | .hbm, ⟨85, _⟩ => ⟨S_, .f32⟩
  | .hbm, ⟨86, _⟩ => ⟨S256x512, .f32⟩
  | .hbm, ⟨87, _⟩ => ⟨S2304x512, .f32⟩
  | .hbm, ⟨88, _⟩ => ⟨S1x2048x1x64, .f32⟩
  | .hbm, ⟨89, _⟩ => ⟨S1x2048x8x64, .f32⟩
  | .hbm, ⟨90, _⟩ => ⟨S2048x512, .f32⟩
  | .hbm, ⟨91, _⟩ => ⟨S_, .f32⟩
  | .hbm, ⟨92, _⟩ => ⟨S256x512, .f32⟩
  | .hbm, ⟨93, _⟩ => ⟨S2304x512, .f32⟩
  | .hbm, ⟨94, _⟩ => ⟨S8x8, .i32⟩
  | .hbm, ⟨95, _⟩ => ⟨S8x8, .i32⟩
  | .hbm, ⟨96, _⟩ => ⟨S_, .i32⟩
  | .hbm, ⟨97, _⟩ => ⟨S8x8, .i32⟩
  | .hbm, ⟨98, _⟩ => ⟨S8x8, .i32⟩
  | .hbm, ⟨99, _⟩ => ⟨S8x8, .i1⟩
  | .hbm, ⟨100, _⟩ => ⟨S8x8, .f32⟩
  | .hbm, ⟨101, _⟩ => ⟨S_, .f32⟩
  | .hbm, ⟨102, _⟩ => ⟨S64x64, .f32⟩
  | .hbm, ⟨103, _⟩ => ⟨S8x1x8x1, .f32⟩
  | .hbm, ⟨104, _⟩ => ⟨S1x64x1x64, .f32⟩
  | .hbm, ⟨105, _⟩ => ⟨S8x64x8x64, .f32⟩
  | .hbm, ⟨106, _⟩ => ⟨S8x64x8x64, .f32⟩
  | .hbm, ⟨107, _⟩ => ⟨S8x64x8x64, .f32⟩
  | .hbm, ⟨108, _⟩ => ⟨S512x512, .f32⟩
  | .hbm, ⟨109, _⟩ => ⟨S512x512, .bf16⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S1x64, .f32⟩
  | .hbm, ⟨114, _⟩ => ⟨S8x64, .f32⟩
  | .hbm, ⟨115, _⟩ => ⟨S512, .f32⟩
  | .hbm, ⟨116, _⟩ => ⟨S1x512, .f32⟩
  | .hbm, ⟨117, _⟩ => ⟨S1x64, .f32⟩
  | .hbm, ⟨118, _⟩ => ⟨S8x64, .f32⟩
  | .hbm, ⟨119, _⟩ => ⟨S512, .f32⟩
  | .hbm, ⟨120, _⟩ => ⟨S1x512, .f32⟩
  | .hbm, ⟨121, _⟩ => ⟨S1x1024, .f32⟩
  | .hbm, ⟨122, _⟩ => ⟨S1024x2048, .bf16⟩
  | .hbm, ⟨123, _⟩ => ⟨S16x2304x512, .bf16⟩
  | .hbm, ⟨124, _⟩ => ⟨S16x2304x512, .bf16⟩
  | .hbm, ⟨125, _⟩ => ⟨S16x2304x512, .bf16⟩
  | .hbm, ⟨126, _⟩ => ⟨S16x2304x256, .f32⟩
  | .hbm, ⟨127, _⟩ => ⟨S16x2304x256, .bf16⟩
  | .local _ .vmem, ⟨0, _⟩ => ⟨S2x256x1024, .f32⟩
  | .local _ .vmem, ⟨1, _⟩ => ⟨S2x256x1024, .f32⟩
  | .local _ .vmem, ⟨2, _⟩ => ⟨S2x1x6x1024, .f32⟩
  | .local _ .vmem, ⟨3, _⟩ => ⟨S2x1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S2x256x512, .bf16⟩
  | .local _ .vmem, ⟨16, _⟩ => ⟨S2x256x512, .bf16⟩
  | .local _ .vmem, ⟨17, _⟩ => ⟨S2x256x512, .bf16⟩
  | .local _ .vmem, ⟨18, _⟩ => ⟨S2x256x512, .bf16⟩
  | .local _ .vmem, ⟨19, _⟩ => ⟨S2x256x512, .bf16⟩
  | .local _ .vmem, ⟨20, _⟩ => ⟨S2x256x512, .bf16⟩
  | .local _ .vmem, ⟨21, _⟩ => ⟨S2x256x256, .f32⟩
  | .local _ .vmem, ⟨22, _⟩ => ⟨S2x256x256, .f32⟩
  | .local _ .vmem, ⟨23, _⟩ => ⟨S2x256x256, .bf16⟩
  | .local _ .vmem, ⟨24, _⟩ => ⟨S2x256x256, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_2 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_3 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_4 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_5 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_6 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_7 : Ref sig .tc := ⟨.hbm, 101, rfl⟩
abbrev main_v50 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v51 : Ref sig .tc := ⟨.hbm, 108, rfl⟩
abbrev main_v52 : Ref sig .tc := ⟨.hbm, 109, rfl⟩
abbrev main_cst_8 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65_0 : Ref sig .tc := ⟨.hbm, 123, rfl⟩
abbrev main_v65_1 : Ref sig .tc := ⟨.hbm, 124, rfl⟩
abbrev main_v65_2 : Ref sig .tc := ⟨.hbm, 125, rfl⟩
abbrev main_v65_3 : Ref sig .tc := ⟨.hbm, 126, rfl⟩
abbrev main_v65_4 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg1.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S16x2304x1024 : Shape := ⟨3, ![16, 2304, 1024]⟩
abbrev S16x2x6x1024 : Shape := ⟨4, ![16, 2, 6, 1024]⟩
abbrev S1024 : Shape := ⟨1, ![1024]⟩
abbrev S1024x2048 : Shape := ⟨2, ![1024, 2048]⟩
abbrev S64 : Shape := ⟨1, ![64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2304 : Shape := ⟨1, ![2304]⟩
abbrev S1x2304x1 : Shape := ⟨3, ![1, 2304, 1]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2304 : Shape := ⟨2, ![16, 2304]⟩
abbrev S16x2304x1 : Shape := ⟨3, ![16, 2304, 1]⟩
abbrev S1x1x1024 : Shape := ⟨3, ![1, 1, 1024]⟩
abbrev S16x2304x2048 : Shape := ⟨3, ![16, 2304, 2048]⟩
abbrev S16x2304x512 : Shape := ⟨3, ![16, 2304, 512]⟩
abbrev S16x2304x256 : Shape := ⟨3, ![16, 2304, 256]⟩
abbrev S16x2304x8x64 : Shape := ⟨4, ![16, 2304, 8, 64]⟩
abbrev S16x2304x8 : Shape := ⟨3, ![16, 2304, 8]⟩
abbrev S16x2304x8x1 : Shape := ⟨4, ![16, 2304, 8, 1]⟩
abbrev S1x1x1x64 : Shape := ⟨4, ![1, 1, 1, 64]⟩
abbrev S16x256x8x64 : Shape := ⟨4, ![16, 256, 8, 64]⟩
abbrev S16x2048x8x64 : Shape := ⟨4, ![16, 2048, 8, 64]⟩
abbrev S16x2048x8x32 : Shape := ⟨4, ![16, 2048, 8, 32]⟩
abbrev S2048x1x32 : Shape := ⟨3, ![2048, 1, 32]⟩
abbrev S1x2048x1x32 : Shape := ⟨4, ![1, 2048, 1, 32]⟩

abbrev nBuf : Space → Nat
  | .hbm => 209
  | .vmem => 0
  | .smem => 0
  | _ => 0

abbrev hbmTy0_0 (i : Nat) : BufTy := match i % 128 with
  | 0 => ⟨S16x2304x1024, .f32⟩
  | 1 => ⟨S16x2x6x1024, .f32⟩
  | 2 => ⟨S1024, .f32⟩
  | 3 => ⟨S1024x2048, .f32⟩
  | 4 => ⟨S64, .f32⟩
  | 5 => ⟨S64, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i1⟩
  | 37 => ⟨S_, .i32⟩
  | 38 => ⟨S2048, .i32⟩
  | 39 => ⟨S2048, .i1⟩
  | 40 => ⟨S_, .i32⟩
  | 41 => ⟨S_, .i1⟩
  | 42 => ⟨S2048, .i1⟩
  | 43 => ⟨S2048, .i1⟩
  | 44 => ⟨S2048, .i1⟩
  | 45 => ⟨S2048, .i32⟩
  | 46 => ⟨S2048, .i32⟩
  | 47 => ⟨S2048, .i32⟩
  | 48 => ⟨S2048, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2048x1, .f32⟩
  | 58 => ⟨S1x16, .f32⟩
  | 59 => ⟨S2048x16, .f32⟩
  | 60 => ⟨S2048x16, .f32⟩
  | 61 => ⟨S2048x16, .f32⟩
  | 62 => ⟨S2048x1, .f32⟩
  | 63 => ⟨S1x16, .f32⟩
  | 64 => ⟨S2048x16, .f32⟩
  | 65 => ⟨S2048x16, .f32⟩
  | 66 => ⟨S2048x16, .f32⟩
  | 67 => ⟨S2048x32, .f32⟩
  | 68 => ⟨S2048x32, .f32⟩
  | 69 => ⟨S2048x32, .f32⟩
  | 70 => ⟨S2304, .i32⟩
  | 71 => ⟨S_, .i32⟩
  | 72 => ⟨S2304, .i32⟩
  | 73 => ⟨S2304, .i1⟩
  | 74 => ⟨S1x2304x1, .i1⟩
  | 75 => ⟨S16x1x1x1024, .f32⟩
  | 76 => ⟨S16x1024, .f32⟩
  | 77 => ⟨S16x1x1024, .f32⟩
  | 78 => ⟨S16x1x1x1024, .f32⟩
  | 79 => ⟨S16x1024, .f32⟩
  | 80 => ⟨S16x1x1024, .f32⟩
  | 81 => ⟨S16x2304x1024, .i1⟩
  | 82 => ⟨S16x2304x1024, .f32⟩
  | 83 => ⟨S16x2304x1024, .f32⟩
  | 84 => ⟨S16x2304x1024, .f32⟩
  | 85 => ⟨S16x1x1x1024, .f32⟩
  | 86 => ⟨S16x1024, .f32⟩
  | 87 => ⟨S16x1x1024, .f32⟩
  | 88 => ⟨S16x1x1x1024, .f32⟩
  | 89 => ⟨S16x1024, .f32⟩
  | 90 => ⟨S16x1x1024, .f32⟩
  | 91 => ⟨S16x2304x1024, .i1⟩
  | 92 => ⟨S16x2304x1024, .f32⟩
  | 93 => ⟨S16x2304x1024, .f32⟩
  | 94 => ⟨S16x2304x1024, .f32⟩
  | 95 => ⟨S16x2304x1024, .f32⟩
  | 96 => ⟨S_, .f32⟩
  | 97 => ⟨S16x2304, .f32⟩
  | 98 => ⟨S16x2304x1, .f32⟩
  | 99 => ⟨S_, .f32⟩
  | 100 => ⟨S16x2304x1, .f32⟩
  | 101 => ⟨S16x2304x1, .f32⟩
  | 102 => ⟨S_, .f32⟩
  | 103 => ⟨S16x2304x1, .f32⟩
  | 104 => ⟨S16x2304x1, .f32⟩
  | 105 => ⟨S16x2304x1, .f32⟩
  | 106 => ⟨S16x2304x1024, .f32⟩
  | 107 => ⟨S16x2304x1024, .f32⟩
  | 108 => ⟨S1x1x1024, .f32⟩
  | 109 => ⟨S16x2304x1024, .f32⟩
  | 110 => ⟨S16x2304x1024, .f32⟩
  | 111 => ⟨S_, .f32⟩
  | 112 => ⟨S16x2304x1024, .f32⟩
  | 113 => ⟨S16x2304x1024, .f32⟩
  | 114 => ⟨S16x2304x1024, .f32⟩
  | 115 => ⟨S16x2304x1024, .f32⟩
  | 116 => ⟨S16x2304x2048, .f32⟩
  | 117 => ⟨S16x2304x512, .f32⟩
  | 118 => ⟨S16x2304x512, .f32⟩
  | 119 => ⟨S16x2304x512, .f32⟩
  | 120 => ⟨S16x2304x256, .f32⟩
  | 121 => ⟨S16x2304x256, .f32⟩
  | 122 => ⟨S16x2304x8x64, .f32⟩
  | 123 => ⟨S16x2304x8x64, .f32⟩
  | 124 => ⟨S_, .f32⟩
  | 125 => ⟨S16x2304x8, .f32⟩
  | 126 => ⟨S16x2304x8x1, .f32⟩
  | 127 => ⟨S_, .f32⟩
  | _ => ⟨S16x2304x1024, .f32⟩

abbrev hbmTy0_1 (i : Nat) : BufTy := match i % 128 with
  | 0 => ⟨S16x2304x8x1, .f32⟩
  | 1 => ⟨S16x2304x8x1, .f32⟩
  | 2 => ⟨S_, .f32⟩
  | 3 => ⟨S16x2304x8x1, .f32⟩
  | 4 => ⟨S16x2304x8x1, .f32⟩
  | 5 => ⟨S16x2304x8x1, .f32⟩
  | 6 => ⟨S16x2304x8x64, .f32⟩
  | 7 => ⟨S16x2304x8x64, .f32⟩
  | 8 => ⟨S1x1x1x64, .f32⟩
  | 9 => ⟨S16x2304x8x64, .f32⟩
  | 10 => ⟨S16x2304x8x64, .f32⟩
  | 11 => ⟨S16x256x8x64, .f32⟩
  | 12 => ⟨S16x2048x8x64, .f32⟩
  | 13 => ⟨S16x2048x8x32, .f32⟩
  | 14 => ⟨S16x2048x8x32, .f32⟩
  | 15 => ⟨S2048x1x32, .f32⟩
  | 16 => ⟨S2048x1x32, .f32⟩
  | 17 => ⟨S1x2048x1x32, .f32⟩
  | 18 => ⟨S16x2048x8x32, .f32⟩
  | 19 => ⟨S16x2048x8x32, .f32⟩
  | 20 => ⟨S1x2048x1x32, .f32⟩
  | 21 => ⟨S16x2048x8x32, .f32⟩
  | 22 => ⟨S16x2048x8x32, .f32⟩
  | 23 => ⟨S16x2048x8x32, .f32⟩
  | 24 => ⟨S1x2048x1x32, .f32⟩
  | 25 => ⟨S16x2048x8x32, .f32⟩
  | 26 => ⟨S16x2048x8x32, .f32⟩
  | 27 => ⟨S1x2048x1x32, .f32⟩
  | 28 => ⟨S16x2048x8x32, .f32⟩
  | 29 => ⟨S16x2048x8x32, .f32⟩
  | 30 => ⟨S16x2048x8x32, .f32⟩
  | 31 => ⟨S16x2048x8x64, .f32⟩
  | 32 => ⟨S16x2304x8x64, .f32⟩
  | 33 => ⟨S16x2304x512, .f32⟩
  | 34 => ⟨S_, .f32⟩
  | 35 => ⟨S16x2304x512, .f32⟩
  | 36 => ⟨S16x2304x512, .f32⟩
  | 37 => ⟨S16x2304x512, .bf16⟩
  | 38 => ⟨S16x2304x8x64, .f32⟩
  | 39 => ⟨S16x2304x8x64, .f32⟩
  | 40 => ⟨S_, .f32⟩
  | 41 => ⟨S16x2304x8, .f32⟩
  | 42 => ⟨S16x2304x8x1, .f32⟩
  | 43 => ⟨S_, .f32⟩
  | 44 => ⟨S16x2304x8x1, .f32⟩
  | 45 => ⟨S16x2304x8x1, .f32⟩
  | 46 => ⟨S_, .f32⟩
  | 47 => ⟨S16x2304x8x1, .f32⟩
  | 48 => ⟨S16x2304x8x1, .f32⟩
  | 49 => ⟨S16x2304x8x1, .f32⟩
  | 50 => ⟨S16x2304x8x64, .f32⟩
  | 51 => ⟨S16x2304x8x64, .f32⟩
  | 52 => ⟨S1x1x1x64, .f32⟩
  | 53 => ⟨S16x2304x8x64, .f32⟩
  | 54 => ⟨S16x2304x8x64, .f32⟩
  | 55 => ⟨S16x256x8x64, .f32⟩
  | 56 => ⟨S16x2048x8x64, .f32⟩
  | 57 => ⟨S16x2048x8x32, .f32⟩
  | 58 => ⟨S16x2048x8x32, .f32⟩
  | 59 => ⟨S2048x1x32, .f32⟩
  | 60 => ⟨S2048x1x32, .f32⟩
  | 61 => ⟨S1x2048x1x32, .f32⟩
  | 62 => ⟨S16x2048x8x32, .f32⟩
  | 63 => ⟨S16x2048x8x32, .f32⟩
  | 64 => ⟨S1x2048x1x32, .f32⟩
  | 65 => ⟨S16x2048x8x32, .f32⟩
  | 66 => ⟨S16x2048x8x32, .f32⟩
  | 67 => ⟨S16x2048x8x32, .f32⟩
  | 68 => ⟨S1x2048x1x32, .f32⟩
  | 69 => ⟨S16x2048x8x32, .f32⟩
  | 70 => ⟨S16x2048x8x32, .f32⟩
  | 71 => ⟨S1x2048x1x32, .f32⟩
  | 72 => ⟨S16x2048x8x32, .f32⟩
  | 73 => ⟨S16x2048x8x32, .f32⟩
  | 74 => ⟨S16x2048x8x32, .f32⟩
  | 75 => ⟨S16x2048x8x64, .f32⟩
  | 76 => ⟨S16x2304x8x64, .f32⟩
  | 77 => ⟨S16x2304x512, .f32⟩
  | 78 => ⟨S16x2304x512, .bf16⟩
  | 79 => ⟨S16x2304x512, .bf16⟩
  | 80 => ⟨S16x2304x256, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_2 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v41 : Ref sig .tc := ⟨.hbm, 94, rfl⟩
abbrev main_v42 : Ref sig .tc := ⟨.hbm, 95, rfl⟩
abbrev main_cst_3 : Ref sig .tc := ⟨.hbm, 96, rfl⟩
abbrev main_v43 : Ref sig .tc := ⟨.hbm, 97, rfl⟩
abbrev main_v44 : Ref sig .tc := ⟨.hbm, 98, rfl⟩
abbrev main_cst_4 : Ref sig .tc := ⟨.hbm, 99, rfl⟩
abbrev main_v45 : Ref sig .tc := ⟨.hbm, 100, rfl⟩
abbrev main_v46 : Ref sig .tc := ⟨.hbm, 101, rfl⟩
abbrev main_cst_5 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_6 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_7 : Ref sig .tc := ⟨.hbm, 124, rfl⟩
abbrev main_v67 : Ref sig .tc := ⟨.hbm, 125, rfl⟩
abbrev main_v68 : Ref sig .tc := ⟨.hbm, 126, rfl⟩
abbrev main_cst_8 : Ref sig .tc := ⟨.hbm, 127, rfl⟩
abbrev main_v69 : Ref sig .tc := ⟨.hbm, 128, rfl⟩
abbrev main_v70 : Ref sig .tc := ⟨.hbm, 129, rfl⟩
abbrev main_cst_9 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_10 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_11 : Ref sig .tc := ⟨.hbm, 168, rfl⟩
abbrev main_v107 : Ref sig .tc := ⟨.hbm, 169, rfl⟩
abbrev main_v108 : Ref sig .tc := ⟨.hbm, 170, rfl⟩
abbrev main_cst_12 : Ref sig .tc := ⟨.hbm, 171, rfl⟩
abbrev main_v109 : Ref sig .tc := ⟨.hbm, 172, rfl⟩
abbrev main_v110 : Ref sig .tc := ⟨.hbm, 173, rfl⟩
abbrev main_cst_13 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩

abbrev nD : Nat := 1
abbrev τ : Topo := Topo.v7x

variable {F : FTy → Type} [FloatOps F]
-- ==== Kernel3.lean ====
abbrev S16x2304x1024 : Shape := ⟨3, ![16, 2304, 1024]⟩
abbrev S16x2304x512 : Shape := ⟨3, ![16, 2304, 512]⟩
abbrev S16x2304x256 : Shape := ⟨3, ![16, 2304, 256]⟩
abbrev S16x2x6x1024 : Shape := ⟨4, ![16, 2, 6, 1024]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S512x512 : Shape := ⟨2, ![512, 512]⟩
abbrev S_ : Shape := ⟨0, ![]⟩
abbrev S16x1024 : Shape := ⟨2, ![16, 1024]⟩
abbrev S1x256 : Shape := ⟨2, ![1, 256]⟩
abbrev S1x1024 : Shape := ⟨2, ![1, 1024]⟩
abbrev S16x2304x128 : Shape := ⟨3, ![16, 2304, 128]⟩
abbrev S16x9x128x256 : Shape := ⟨4, ![16, 9, 128, 256]⟩
abbrev S2x256x1024 : Shape := ⟨3, ![2, 256, 1024]⟩
abbrev S2x256x512 : Shape := ⟨3, ![2, 256, 512]⟩
abbrev S2x256x256 : Shape := ⟨3, ![2, 256, 256]⟩
abbrev S2x1x6x1024 : Shape := ⟨4, ![2, 1, 6, 1024]⟩
abbrev S2x256x128 : Shape := ⟨3, ![2, 256, 128]⟩
abbrev S2x1x128x256 : Shape := ⟨4, ![2, 1, 128, 256]⟩
abbrev S1x1x6x1024 : Shape := ⟨4, ![1, 1, 6, 1024]⟩
abbrev S6x1024 : Shape := ⟨2, ![6, 1024]⟩
abbrev S1x256x256 : Shape := ⟨3, ![1, 256, 256]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S256x1 : Shape := ⟨2, ![256, 1]⟩
abbrev S16x512 : Shape := ⟨2, ![16, 512]⟩
abbrev S1x512 : Shape := ⟨2, ![1, 512]⟩
abbrev S1 : Shape := ⟨1, ![1]⟩
abbrev S128x512 : Shape := ⟨2, ![128, 512]⟩
abbrev S512x128 : Shape := ⟨2, ![512, 128]⟩
abbrev S128x256 : Shape := ⟨2, ![128, 256]⟩
abbrev S1x1x128x256 : Shape := ⟨4, ![1, 1, 128, 256]⟩
abbrev S256x128 : Shape := ⟨2, ![256, 128]⟩
abbrev S1x256x128 : Shape := ⟨3, ![1, 256, 128]⟩

abbrev nBuf : Space → Nat
  | .hbm => 31
  | .vmem => 29
  | .smem => 1
  | _ => 0

abbrev bufTy : (tb : Table) → Fin (tcTables nBuf tb) → BufTy
  | .hbm, ⟨0, _⟩ => ⟨S16x2304x1024, .f32⟩
  | .hbm, ⟨1, _⟩ => ⟨S16x2304x512, .bf16⟩
  | .hbm, ⟨2, _⟩ => ⟨S16x2304x256, .f32⟩
  | .hbm, ⟨3, _⟩ => ⟨S16x2304x256, .f32⟩
  | .hbm, ⟨4, _⟩ => ⟨S16x2304x256, .f32⟩
  | .hbm, ⟨5, _⟩ => ⟨S16x2304x256, .bf16⟩
  | .hbm, ⟨6, _⟩ => ⟨S16x2x6x1024, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024x16, .f32⟩
  | .hbm, ⟨13, _⟩ => ⟨S16, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .bf16⟩
  | .hbm, ⟨21, _⟩ => ⟨S16x1024, .f32⟩
  | .hbm, ⟨22, _⟩ => ⟨S1x256, .f32⟩
  | .hbm, ⟨23, _⟩ => ⟨S256x256, .bf16⟩
  | .hbm, ⟨24, _⟩ => ⟨S1x256, .f32⟩
  | .hbm, ⟨25, _⟩ => ⟨S1024x1024, .bf16⟩
  | .hbm, ⟨26, _⟩ => ⟨S1x1024, .f32⟩
  | .hbm, ⟨27, _⟩ => ⟨S16x2304x1024, .f32⟩
  | .hbm, ⟨28, _⟩ => ⟨S16x2304x1024, .bf16⟩
  | .hbm, ⟨29, _⟩ => ⟨S16x2304x128, .f32⟩
  | .hbm, ⟨30, _⟩ => ⟨S16x9x128x256, .f32⟩
  | .local _ .vmem, ⟨0, _⟩ => ⟨S2x256x1024, .f32⟩
  | .local _ .vmem, ⟨1, _⟩ => ⟨S2x256x1024, .f32⟩
  | .local _ .vmem, ⟨2, _⟩ => ⟨S2x256x512, .bf16⟩
  | .local _ .vmem, ⟨3, _⟩ => ⟨S2x256x512, .bf16⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .bf16⟩
  | .local _ .vmem, ⟨11, _⟩ => ⟨S2x256x256, .bf16⟩
  | .local _ .vmem, ⟨12, _⟩ => ⟨S2x1x6x1024, .f32⟩
  | .local _ .vmem, ⟨13, _⟩ => ⟨S2x1x6x1024, .f32⟩
  | .local _ .vmem, ⟨14, _⟩ => ⟨S1x256, .f32⟩
  | .local _ .vmem, ⟨15, _⟩ => ⟨S256x256, .bf16⟩
  | .local _ .vmem, ⟨16, _⟩ => ⟨S1x256, .f32⟩
  | .local _ .vmem, ⟨17, _⟩ => ⟨S1024x1024, .bf16⟩
  | .local _ .vmem, ⟨18, _⟩ => ⟨S1x1024, .f32⟩
  | .local _ .vmem, ⟨19, _⟩ => ⟨S16x1024, .f32⟩
  | .local _ .vmem, ⟨20, _⟩ => ⟨S512x512, .bf16⟩
  | .local _ .vmem, ⟨21, _⟩ => ⟨S2x256x1024, .f32⟩
  | .local _ .vmem, ⟨22, _⟩ => ⟨S2x256x1024, .f32⟩
  | .local _ .vmem, ⟨23, _⟩ => ⟨S2x256x1024, .bf16⟩
  | .local _ .vmem, ⟨24, _⟩ => ⟨S2x256x1024, .bf16⟩
  | .local _ .vmem, ⟨25, _⟩ => ⟨S2x256x128, .f32⟩
  | .local _ .vmem, ⟨26, _⟩ => ⟨S2x256x128, .f32⟩
  | .local _ .vmem, ⟨27, _⟩ => ⟨S2x1x128x256, .f32⟩
  | .local _ .vmem, ⟨28, _⟩ => ⟨S2x1x128x256, .f32⟩
  | .local _ .smem, ⟨0, _⟩ => ⟨S16, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![9, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg1.toNat, v1.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .smem S16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S2x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2x1x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S16x2304x1024 : Shape := ⟨3, ![16, 2304, 1024]⟩
abbrev S16x2304x512 : Shape := ⟨3, ![16, 2304, 512]⟩
abbrev S16x2304x256 : Shape := ⟨3, ![16, 2304, 256]⟩
abbrev S16x2x6x1024 : Shape := ⟨4, ![16, 2, 6, 1024]⟩
abbrev S256 : Shape := ⟨1, ![256]⟩
abbrev S256x256 : Shape := ⟨2, ![256, 256]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S2304 : Shape := ⟨1, ![2304]⟩
abbrev S_ : Shape := ⟨0, ![]⟩
abbrev S1x2304x1 : Shape := ⟨3, ![1, 2304, 1]⟩
abbrev S1x1x256 : Shape := ⟨3, ![1, 1, 256]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2304 : Shape := ⟨2, ![16, 2304]⟩
abbrev S16x2304x1 : Shape := ⟨3, ![16, 2304, 1]⟩
abbrev S1x1x1024 : Shape := ⟨3, ![1, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x512, .bf16⟩
  | .hbm, ⟨2, _⟩ => ⟨S16x2304x256, .f32⟩
  | .hbm, ⟨3, _⟩ => ⟨S16x2304x256, .f32⟩
  | .hbm, ⟨4, _⟩ => ⟨S16x2304x256, .f32⟩
  | .hbm, ⟨5, _⟩ => ⟨S16x2304x256, .bf16⟩
  | .hbm, ⟨6, _⟩ => ⟨S16x2x6x1024, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024x16, .f32⟩
  | .hbm, ⟨13, _⟩ => ⟨S16, .f32⟩
  | .hbm, ⟨14, _⟩ => ⟨S2304, .i32⟩
  | .hbm, ⟨15, _⟩ => ⟨S_, .i32⟩
  | .hbm, ⟨16, _⟩ => ⟨S2304, .i32⟩
  | .hbm, ⟨17, _⟩ => ⟨S2304, .i1⟩
  | .hbm, ⟨18, _⟩ => ⟨S1x2304x1, .i1⟩
  | .hbm, ⟨19, _⟩ => ⟨S1x1x256, .f32⟩
  | .hbm, ⟨20, _⟩ => ⟨S16x2304x256, .f32⟩
  | .hbm, ⟨21, _⟩ => ⟨S16x2304x256, .f32⟩
  | .hbm, ⟨22, _⟩ => ⟨S16x2304x256, .f32⟩
  | .hbm, ⟨23, _⟩ => ⟨S16x2304x256, .f32⟩
  | .hbm, ⟨24, _⟩ => ⟨S16x2304x256, .f32⟩
  | .hbm, ⟨25, _⟩ => ⟨S16x2304x256, .f32⟩
  | .hbm, ⟨26, _⟩ => ⟨S_, .f32⟩
  | .hbm, ⟨27, _⟩ => ⟨S16x2304x256, .f32⟩
  | .hbm, ⟨28, _⟩ => ⟨S16x2304x256, .f32⟩
  | .hbm, ⟨29, _⟩ => ⟨S16x2304x256, .f32⟩
  | .hbm, ⟨30, _⟩ => ⟨S_, .f32⟩
  | .hbm, ⟨31, _⟩ => ⟨S16x2304x256, .f32⟩
  | .hbm, ⟨32, _⟩ => ⟨S16x2304x256, .f32⟩
  | .hbm, ⟨33, _⟩ => ⟨S16x2304x256, .f32⟩
  | .hbm, ⟨34, _⟩ => ⟨S_, .f32⟩
  | .hbm, ⟨35, _⟩ => ⟨S16x2304x256, .f32⟩
  | .hbm, ⟨36, _⟩ => ⟨S16x2304x256, .f32⟩
  | .hbm, ⟨37, _⟩ => ⟨S_, .f32⟩
  | .hbm, ⟨38, _⟩ => ⟨S16x2304x256, .f32⟩
  | .hbm, ⟨39, _⟩ => ⟨S16x2304x256, .f32⟩
  | .hbm, ⟨40, _⟩ => ⟨S16x2304x256, .f32⟩
  | .hbm, ⟨41, _⟩ => ⟨S16x2304x256, .f32⟩
  | .hbm, ⟨42, _⟩ => ⟨S1x1x256, .f32⟩
  | .hbm, ⟨43, _⟩ => ⟨S16x2304x256, .f32⟩
  | .hbm, ⟨44, _⟩ => ⟨S16x2304x256, .f32⟩
  | .hbm, ⟨45, _⟩ => ⟨S16x2304x256, .f32⟩
  | .hbm, ⟨46, _⟩ => ⟨S16x2304x256, .f32⟩
  | .hbm, ⟨47, _⟩ => ⟨S_, .f32⟩
  | .hbm, ⟨48, _⟩ => ⟨S16x2304x256, .f32⟩
  | .hbm, ⟨49, _⟩ => ⟨S16x2304x256, .f32⟩
  | .hbm, ⟨50, _⟩ => ⟨S_, .f32⟩
  | .hbm, ⟨51, _⟩ => ⟨S16x2304x256, .f32⟩
  | .hbm, ⟨52, _⟩ => ⟨S16x2304x256, .f32⟩
  | .hbm, ⟨53, _⟩ => ⟨S16x2304x256, .f32⟩
  | .hbm, ⟨54, _⟩ => ⟨S16x2304x512, .f32⟩
  | .hbm, ⟨55, _⟩ => ⟨S16x2304x256, .f32⟩
  | .hbm, ⟨56, _⟩ => ⟨S16x2304x1024, .f32⟩
  | .hbm, ⟨57, _⟩ => ⟨S16x2304x1024, .f32⟩
  | .hbm, ⟨58, _⟩ => ⟨S16x1x1x1024, .f32⟩
  | .hbm, ⟨59, _⟩ => ⟨S16x1024, .f32⟩
  | .hbm, ⟨60, _⟩ => ⟨S16x1x1024, .f32⟩
  | .hbm, ⟨61, _⟩ => ⟨S16x1x1x1024, .f32⟩
  | .hbm, ⟨62, _⟩ => ⟨S16x1024, .f32⟩
  | .hbm, ⟨63, _⟩ => ⟨S16x1x1024, .f32⟩
  | .hbm, ⟨64, _⟩ => ⟨S16x2304x1024, .i1⟩
  | .hbm, ⟨65, _⟩ => ⟨S16x2304x1024, .f32⟩
  | .hbm, ⟨66, _⟩ => ⟨S16x2304x1024, .f32⟩
  | .hbm, ⟨67, _⟩ => ⟨S16x2304x1024, .f32⟩
  | .hbm, ⟨68, _⟩ => ⟨S16x2304x1024, .f32⟩
  | .hbm, ⟨69, _⟩ => ⟨S16x2304x1024, .f32⟩
  | .hbm, ⟨70, _⟩ => ⟨S16x2304x1024, .f32⟩
  | .hbm, ⟨71, _⟩ => ⟨S_, .f32⟩
  | .hbm, ⟨72, _⟩ => ⟨S16x2304, .f32⟩
  | .hbm, ⟨73, _⟩ => ⟨S16x2304x1, .f32⟩
  | .hbm, ⟨74, _⟩ => ⟨S_, .f32⟩
  | .hbm, ⟨75, _⟩ => ⟨S16x2304x1, .f32⟩
  | .hbm, ⟨76, _⟩ => ⟨S16x2304x1, .f32⟩
  | .hbm, ⟨77, _⟩ => ⟨S_, .f32⟩
  | .hbm, ⟨78, _⟩ => ⟨S16x2304x1, .f32⟩
  | .hbm, ⟨79, _⟩ => ⟨S16x2304x1, .f32⟩
  | .hbm, ⟨80, _⟩ => ⟨S16x2304x1, .f32⟩
  | .hbm, ⟨81, _⟩ => ⟨S16x2304x1024, .f32⟩
  | .hbm, ⟨82, _⟩ => ⟨S16x2304x1024, .f32⟩
  | .hbm, ⟨83, _⟩ => ⟨S1x1x1024, .f32⟩
  | .hbm, ⟨84, _⟩ => ⟨S16x2304x1024, .f32⟩
  | .hbm, ⟨85, _⟩ => ⟨S16x2304x1024, .f32⟩
  | .hbm, ⟨86, _⟩ => ⟨S16x1x1x1024, .f32⟩
  | .hbm, ⟨87, _⟩ => ⟨S16x1024, .f32⟩
  | .hbm, ⟨88, _⟩ => ⟨S16x1x1024, .f32⟩
  | .hbm, ⟨89, _⟩ => ⟨S16x1x1x1024, .f32⟩
  | .hbm, ⟨90, _⟩ => ⟨S16x1024, .f32⟩
  | .hbm, ⟨91, _⟩ => ⟨S16x1x1024, .f32⟩
  | .hbm, ⟨92, _⟩ => ⟨S16x2304x1024, .i1⟩
  | .hbm, ⟨93, _⟩ => ⟨S16x2304x1024, .f32⟩
  | .hbm, ⟨94, _⟩ => ⟨S16x2304x1024, .f32⟩
  | .hbm, ⟨95, _⟩ => ⟨S16x2304x1024, .f32⟩
  | .hbm, ⟨96, _⟩ => ⟨S_, .f32⟩
  | .hbm, ⟨97, _⟩ => ⟨S16x2304x1024, .f32⟩
  | .hbm, ⟨98, _⟩ => ⟨S16x2304x1024, .f32⟩
  | .hbm, ⟨99, _⟩ => ⟨S16x2304x1024, .f32⟩
  | .hbm, ⟨100, _⟩ => ⟨S16x1x1x1024, .f32⟩
  | .hbm, ⟨101, _⟩ => ⟨S16x1024, .f32⟩
  | .hbm, ⟨102, _⟩ => ⟨S16x1x1024, .f32⟩
  | .hbm, ⟨103, _⟩ => ⟨S16x1x1x1024, .f32⟩
  | .hbm, ⟨104, _⟩ => ⟨S16x1024, .f32⟩
  | .hbm, ⟨105, _⟩ => ⟨S16x1x1024, .f32⟩
  | .hbm, ⟨106, _⟩ => ⟨S16x2304x1024, .i1⟩
  | .hbm, ⟨107, _⟩ => ⟨S16x2304x1024, .f32⟩
  | .hbm, ⟨108, _⟩ => ⟨S16x2304x1024, .f32⟩
  | .hbm, ⟨109, _⟩ => ⟨S16x2304x1024, .f32⟩
  | .hbm, ⟨110, _⟩ => ⟨S16x2304x1024, .f32⟩
  | .hbm, ⟨111, _⟩ => ⟨S16x2304x1024, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Kernel4.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x768 : Shape := ⟨3, ![1, 1024, 768]⟩
abbrev S1x1x768 : Shape := ⟨3, ![1, 1, 768]⟩
abbrev S1x24x768 : Shape := ⟨3, ![1, 24, 768]⟩
abbrev S1024x768 : Shape := ⟨2, ![1024, 768]⟩
abbrev S24x768 : Shape := ⟨2, ![24, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x24x768, .f32⟩
  | .local _ .vmem, ⟨6, _⟩ => ⟨S1x24x768, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S24x6144 : Shape := ⟨2, ![24, 6144]⟩
abbrev S1x6144 : Shape := ⟨2, ![1, 6144]⟩
abbrev S6144 : Shape := ⟨1, ![6144]⟩
abbrev S1x24x6144 : Shape := ⟨3, ![1, 24, 6144]⟩
abbrev S2x24x6144 : Shape := ⟨3, ![2, 24, 6144]⟩

abbrev nBuf : Space → Nat
  | .hbm => 31
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S1x1024x6144, .f32⟩
  | .hbm, ⟨13, _⟩ => ⟨S1024x6144, .f32⟩
  | .hbm, ⟨14, _⟩ => ⟨S24x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S24x6144, .f32⟩
  | .hbm, ⟨19, _⟩ => ⟨S24x6144, .f32⟩
  | .hbm, ⟨20, _⟩ => ⟨S1x1024x6144, .f32⟩
  | .hbm, ⟨21, _⟩ => ⟨S1024x6144, .f32⟩
  | .hbm, ⟨22, _⟩ => ⟨S24x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S24x6144, .f32⟩
  | .hbm, ⟨27, _⟩ => ⟨S24x6144, .f32⟩
  | .hbm, ⟨28, _⟩ => ⟨S1x24x6144, .f32⟩
  | .hbm, ⟨29, _⟩ => ⟨S1x24x6144, .f32⟩
  | .hbm, ⟨30, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S16x2304x512 : Shape := ⟨3, ![16, 2304, 512]⟩
abbrev S8x15x31 : Shape := ⟨3, ![8, 15, 31]⟩
abbrev S4 : Shape := ⟨1, ![4]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S4x1 : Shape := ⟨2, ![4, 1]⟩
abbrev S11 : Shape := ⟨1, ![11]⟩
abbrev S1x11 : Shape := ⟨2, ![1, 11]⟩
abbrev S4x11 : Shape := ⟨2, ![4, 11]⟩
abbrev S44 : Shape := ⟨1, ![44]⟩
abbrev S44x1 : Shape := ⟨2, ![44, 1]⟩
abbrev S8x44x31 : Shape := ⟨3, ![8, 44, 31]⟩
abbrev S4096 : Shape := ⟨1, ![4096]⟩
abbrev S4096x1 : Shape := ⟨2, ![4096, 1]⟩
abbrev S8x44x4096 : Shape := ⟨3, ![8, 44, 4096]⟩
abbrev S8x4x11x64x64 : Shape := ⟨5, ![8, 4, 11, 64, 64]⟩
abbrev S8x4x64x11x64 : Shape := ⟨5, ![8, 4, 64, 11, 64]⟩
abbrev S4x1x11x1 : Shape := ⟨4, ![4, 1, 11, 1]⟩
abbrev S1x64x1x64 : Shape := ⟨4, ![1, 64, 1, 64]⟩
abbrev S4x64x11x64 : Shape := ⟨4, ![4, 64, 11, 64]⟩
abbrev S1x4x64x11x64 : Shape := ⟨5, ![1, 4, 64, 11, 64]⟩
abbrev S8x256x704 : Shape := ⟨3, ![8, 256, 704]⟩
abbrev S1x8x256x704 : Shape := ⟨4, ![1, 8, 256, 704]⟩
abbrev S3x8x256x704 : Shape := ⟨4, ![3, 8, 256, 704]⟩
abbrev S1x2304x128 : Shape := ⟨3, ![1, 2304, 128]⟩
abbrev S3x2x256x704 : Shape := ⟨4, ![3, 2, 256, 704]⟩
abbrev S1x128 : Shape := ⟨2, ![1, 128]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x704x128 : Shape := ⟨3, ![1, 704, 128]⟩
abbrev S704x128 : Shape := ⟨2, ![704, 128]⟩
abbrev S512x704 : Shape := ⟨2, ![512, 704]⟩
abbrev S1x2x256x704 : Shape := ⟨4, ![1, 2, 256, 704]⟩
abbrev S2x256x704 : Shape := ⟨3, ![2, 256, 704]⟩

abbrev nBuf : Space → Nat
  | .hbm => 252
  | .vmem => 10
  | .smem => 0
  | _ => 0

abbrev hbmTy0_0 (i : Nat) : BufTy := match i % 128 with
  | 0 => ⟨S16x2304x512, .bf16⟩
  | 1 => ⟨S16x2304x512, .bf16⟩
  | 2 => ⟨S16x2304x512, .bf16⟩
  | 3 => ⟨S8x15x31, .f32⟩
  | 4 => ⟨S4, .i32⟩
  | 5 => ⟨S4, .i32⟩
  | 6 => ⟨S4, .i32⟩
  | 7 => ⟨S64, .i32⟩
  | 8 => ⟨S_, .i32⟩
  | 9 => ⟨S64, .i32⟩
  | 10 => ⟨S64, .i32⟩
  | 11 => ⟨S_, .i32⟩
  | 12 => ⟨S_, .i32⟩
  | 13 => ⟨S_, .i32⟩
  | 14 => ⟨S64, .i32⟩
  | 15 => ⟨S64, .i32⟩
  | 16 => ⟨S_, .i32⟩
  | 17 => ⟨S64, .i32⟩
  | 18 => ⟨S64, .i32⟩
  | 19 => ⟨S1x64, .i32⟩
  | 20 => ⟨S64x1, .i32⟩
  | 21 => ⟨S64x64, .i32⟩
  | 22 => ⟨S64x64, .i32⟩
  | 23 => ⟨S64x64, .i32⟩
  | 24 => ⟨S_, .i32⟩
  | 25 => ⟨S64x64, .i32⟩
  | 26 => ⟨S64x64, .i32⟩
  | 27 => ⟨S_, .i32⟩
  | 28 => ⟨S_, .i32⟩
  | 29 => ⟨S_, .i32⟩
  | 30 => ⟨S64x64, .i32⟩
  | 31 => ⟨S64x64, .i32⟩
  | 32 => ⟨S_, .i32⟩
  | 33 => ⟨S64x64, .i32⟩
  | 34 => ⟨S64x64, .i32⟩
  | 35 => ⟨S1x64, .i32⟩
  | 36 => ⟨S64x1, .i32⟩
  | 37 => ⟨S64x64, .i32⟩
  | 38 => ⟨S64x64, .i32⟩
  | 39 => ⟨S64x64, .i1⟩
  | 40 => ⟨S1x64, .i32⟩
  | 41 => ⟨S64x1, .i32⟩
  | 42 => ⟨S_, .i32⟩
  | 43 => ⟨S64x1, .i32⟩
  | 44 => ⟨S64x1, .i32⟩
  | 45 => ⟨S64x64, .i32⟩
  | 46 => ⟨S64x64, .i32⟩
  | 47 => ⟨S64x64, .i1⟩
  | 48 => ⟨S64x64, .i1⟩
  | 49 => ⟨S4, .i32⟩
  | 50 => ⟨S4x1, .i32⟩
  | 51 => ⟨S11, .i32⟩
  | 52 => ⟨S1x11, .i32⟩
  | 53 => ⟨S4x1, .i32⟩
  | 54 => ⟨S4x11, .i32⟩
  | 55 => ⟨S4x11, .i32⟩
  | 56 => ⟨S4x11, .i1⟩
  | 57 => ⟨S_, .i32⟩
  | 58 => ⟨S4x1, .i32⟩
  | 59 => ⟨S4x1, .i32⟩
  | 60 => ⟨S4x11, .i32⟩
  | 61 => ⟨S4x11, .i32⟩
  | 62 => ⟨S4x11, .i1⟩
  | 63 => ⟨S4x11, .i1⟩
  | 64 => ⟨S_, .i32⟩
  | 65 => ⟨S4x1, .i32⟩
  | 66 => ⟨S4x1, .i32⟩
  | 67 => ⟨S4x11, .i32⟩
  | 68 => ⟨S4x11, .i32⟩
  | 69 => ⟨S4x11, .i32⟩
  | 70 => ⟨S_, .i32⟩
  | 71 => ⟨S4x11, .i32⟩
  | 72 => ⟨S4x11, .i32⟩
  | 73 => ⟨S_, .i32⟩
  | 74 => ⟨S_, .i32⟩
  | 75 => ⟨S_, .i32⟩
  | 76 => ⟨S4x11, .i32⟩
  | 77 => ⟨S4x11, .i32⟩
  | 78 => ⟨S_, .i32⟩
  | 79 => ⟨S4x11, .i32⟩
  | 80 => ⟨S4x11, .i32⟩
  | 81 => ⟨S44, .i32⟩
  | 82 => ⟨S_, .i32⟩
  | 83 => ⟨S44, .i32⟩
  | 84 => ⟨S44, .i1⟩
  | 85 => ⟨S_, .i32⟩
  | 86 => ⟨S44, .i32⟩
  | 87 => ⟨S44, .i32⟩
  | 88 => ⟨S44, .i32⟩
  | 89 => ⟨S44x1, .i32⟩
  | 90 => ⟨S8x44x31, .f32⟩
  | 91 => ⟨S4096, .i32⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S4096x1, .i32⟩
  | 100 => ⟨S8x44x4096, .f32⟩
  | 101 => ⟨S8x4x11x64x64, .f32⟩
  | 102 => ⟨S8x4x64x11x64, .f32⟩
  | 103 => ⟨S4x1x11x1, .i1⟩
  | 104 => ⟨S1x64x1x64, .i1⟩
  | 105 => ⟨S4x64x11x64, .i1⟩
  | 106 => ⟨S4x64x11x64, .i1⟩
  | 107 => ⟨S4x64x11x64, .i1⟩
  | 108 => ⟨S1x4x64x11x64, .i1⟩
  | 109 => ⟨S_, .f32⟩
  | 110 => ⟨S_, .f32⟩
  | 111 => ⟨S8x4x64x11x64, .i1⟩
  | 112 => ⟨S8x4x64x11x64, .f32⟩
  | 113 => ⟨S8x4x64x11x64, .f32⟩
  | 114 => ⟨S8x256x704, .f32⟩
  | 115 => ⟨S4, .i32⟩
  | 116 => ⟨S4x1, .i32⟩
  | 117 => ⟨S11, .i32⟩
  | 118 => ⟨S1x11, .i32⟩
  | 119 => ⟨S4x1, .i32⟩
  | 120 => ⟨S4x11, .i32⟩
  | 121 => ⟨S4x11, .i32⟩
  | 122 => ⟨S4x11, .i1⟩
  | 123 => ⟨S_, .i32⟩
  | 124 => ⟨S4x1, .i32⟩
  | 125 => ⟨S4x1, .i32⟩
  | 126 => ⟨S4x11, .i32⟩
  | 127 => ⟨S4x11, .i32⟩
  | _ => ⟨S16x2304x512, .bf16⟩

abbrev hbmTy0_1 (i : Nat) : BufTy := match i % 128 with
  | 0 => ⟨S4x11, .i1⟩
  | 1 => ⟨S4x11, .i1⟩
  | 2 => ⟨S_, .i32⟩
  | 3 => ⟨S4x1, .i32⟩
  | 4 => ⟨S4x1, .i32⟩
  | 5 => ⟨S4x11, .i32⟩
  | 6 => ⟨S4x11, .i32⟩
  | 7 => ⟨S4x11, .i32⟩
  | 8 => ⟨S_, .i32⟩
  | 9 => ⟨S4x11, .i32⟩
  | 10 => ⟨S4x11, .i32⟩
  | 11 => ⟨S_, .i32⟩
  | 12 => ⟨S_, .i32⟩
  | 13 => ⟨S_, .i32⟩
  | 14 => ⟨S4x11, .i32⟩
  | 15 => ⟨S4x11, .i32⟩
  | 16 => ⟨S_, .i32⟩
  | 17 => ⟨S4x11, .i32⟩
  | 18 => ⟨S4x11, .i32⟩
  | 19 => ⟨S44, .i32⟩
  | 20 => ⟨S_, .i32⟩
  | 21 => ⟨S44, .i32⟩
  | 22 => ⟨S44, .i1⟩
  | 23 => ⟨S_, .i32⟩
  | 24 => ⟨S44, .i32⟩
  | 25 => ⟨S44, .i32⟩
  | 26 => ⟨S44, .i32⟩
  | 27 => ⟨S44x1, .i32⟩
  | 28 => ⟨S8x44x31, .f32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S8x44x4096, .f32⟩
  | 39 => ⟨S8x4x11x64x64, .f32⟩
  | 40 => ⟨S8x4x64x11x64, .f32⟩
  | 41 => ⟨S4x1x11x1, .i1⟩
  | 42 => ⟨S1x64x1x64, .i1⟩
  | 43 => ⟨S4x64x11x64, .i1⟩
  | 44 => ⟨S4x64x11x64, .i1⟩
  | 45 => ⟨S4x64x11x64, .i1⟩
  | 46 => ⟨S1x4x64x11x64, .i1⟩
  | 47 => ⟨S_, .f32⟩
  | 48 => ⟨S_, .f32⟩
  | 49 => ⟨S8x4x64x11x64, .i1⟩
  | 50 => ⟨S8x4x64x11x64, .f32⟩
  | 51 => ⟨S8x4x64x11x64, .f32⟩
  | 52 => ⟨S8x256x704, .f32⟩
  | 53 => ⟨S4, .i32⟩
  | 54 => ⟨S4x1, .i32⟩
  | 55 => ⟨S11, .i32⟩
  | 56 => ⟨S1x11, .i32⟩
  | 57 => ⟨S4x1, .i32⟩
  | 58 => ⟨S4x11, .i32⟩
  | 59 => ⟨S4x11, .i32⟩
  | 60 => ⟨S4x11, .i1⟩
  | 61 => ⟨S_, .i32⟩
  | 62 => ⟨S4x1, .i32⟩
  | 63 => ⟨S4x1, .i32⟩
  | 64 => ⟨S4x11, .i32⟩
  | 65 => ⟨S4x11, .i32⟩
  | 66 => ⟨S4x11, .i1⟩
  | 67 => ⟨S4x11, .i1⟩
  | 68 => ⟨S_, .i32⟩
  | 69 => ⟨S4x1, .i32⟩
  | 70 => ⟨S4x1, .i32⟩
  | 71 => ⟨S4x11, .i32⟩
  | 72 => ⟨S4x11, .i32⟩
  | 73 => ⟨S4x11, .i32⟩
  | 74 => ⟨S_, .i32⟩
  | 75 => ⟨S4x11, .i32⟩
  | 76 => ⟨S4x11, .i32⟩
  | 77 => ⟨S_, .i32⟩
  | 78 => ⟨S_, .i32⟩
  | 79 => ⟨S_, .i32⟩
  | 80 => ⟨S4x11, .i32⟩
  | 81 => ⟨S4x11, .i32⟩
  | 82 => ⟨S_, .i32⟩
  | 83 => ⟨S4x11, .i32⟩
  | 84 => ⟨S4x11, .i32⟩
  | 85 => ⟨S44, .i32⟩
  | 86 => ⟨S_, .i32⟩
  | 87 => ⟨S44, .i32⟩
  | 88 => ⟨S44, .i1⟩
  | 89 => ⟨S_, .i32⟩
  | 90 => ⟨S44, .i32⟩
  | 91 => ⟨S44, .i32⟩
  | 92 => ⟨S44, .i32⟩
  | 93 => ⟨S44x1, .i32⟩
  | 94 => ⟨S8x44x31, .f32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S8x44x4096, .f32⟩
  | 105 => ⟨S8x4x11x64x64, .f32⟩
  | 106 => ⟨S8x4x64x11x64, .f32⟩
  | 107 => ⟨S4x1x11x1, .i1⟩
  | 108 => ⟨S1x64x1x64, .i1⟩
  | 109 => ⟨S4x64x11x64, .i1⟩
  | 110 => ⟨S4x64x11x64, .i1⟩
  | 111 => ⟨S4x64x11x64, .i1⟩
  | 112 => ⟨S1x4x64x11x64, .i1⟩
  | 113 => ⟨S_, .f32⟩
  | 114 => ⟨S_, .f32⟩
  | 115 => ⟨S8x4x64x11x64, .i1⟩
  | 116 => ⟨S8x4x64x11x64, .f32⟩
  | 117 => ⟨S8x4x64x11x64, .f32⟩
  | 118 => ⟨S8x256x704, .f32⟩
  | 119 => ⟨S1x8x256x704, .f32⟩
  | 120 => ⟨S1x8x256x704, .f32⟩
  | 121 => ⟨S1x8x256x704, .f32⟩
  | 122 => ⟨S3x8x256x704, .f32⟩
  | 123 => ⟨S16x2304x512, .bf16⟩
  | _ => ⟨S16x2304x512, .bf16⟩

abbrev hbmTy (i : Nat) : BufTy := match i / 128 with
  | 0 => hbmTy0_0 i
  | 1 => hbmTy0_1 i
  | _ => ⟨S16x2304x512, .bf16⟩

abbrev bufTy : (tb : Table) → Fin (tcTables nBuf tb) → BufTy
  | .hbm, ⟨i, _⟩ => hbmTy i
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S3x2x256x704, .f32⟩
  | .local _ .vmem, ⟨7, _⟩ => ⟨S3x2x256x704, .f32⟩
  | .local _ .vmem, ⟨8, _⟩ => ⟨S1x2304x128, .bf16⟩
  | .local _ .vmem, ⟨9, _⟩ => ⟨S1x2304x128, .bf16⟩
  | _, _ => ⟨S16x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_c_3 : Ref sig .tc := ⟨.hbm, 11, rfl⟩
abbrev main_c_4 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_5 : Ref sig .tc := ⟨.hbm, 24, rfl⟩
abbrev main_v9 : Ref sig .tc := ⟨.hbm, 25, rfl⟩
abbrev main_v10 : Ref sig .tc := ⟨.hbm, 26, rfl⟩
abbrev main_c_6 : Ref sig .tc := ⟨.hbm, 27, rfl⟩
abbrev main_c_7 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_8 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_c_13 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v46 : Ref sig .tc := ⟨.hbm, 80, rfl⟩
abbrev main_v47 : Ref sig .tc := ⟨.hbm, 81, rfl⟩
abbrev main_c_14 : Ref sig .tc := ⟨.hbm, 82, rfl⟩
abbrev main_v48 : Ref sig .tc := ⟨.hbm, 83, rfl⟩
abbrev main_v49 : Ref sig .tc := ⟨.hbm, 84, rfl⟩
abbrev main_c_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_16 : Ref sig .tc := ⟨.hbm, 92, rfl⟩
abbrev main_v56 : Ref sig .tc := ⟨.hbm, 93, rfl⟩
abbrev main_v57 : Ref sig .tc := ⟨.hbm, 94, rfl⟩
abbrev main_c_17 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_19 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c_20 : Ref sig .tc := ⟨.hbm, 136, rfl⟩
abbrev main_v92 : Ref sig .tc := ⟨.hbm, 137, rfl⟩
abbrev main_v93 : Ref sig .tc := ⟨.hbm, 138, rfl⟩
abbrev main_c_21 : Ref sig .tc := ⟨.hbm, 139, rfl⟩
abbrev main_c_22 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_v94 : Ref sig .tc := ⟨.hbm, 146, rfl⟩
abbrev main_v95 : Ref sig .tc := ⟨.hbm, 147, rfl⟩
abbrev main_c_23 : Ref sig .tc := ⟨.hbm, 148, rfl⟩
abbrev main_v96 : Ref sig .tc := ⟨.hbm, 149, rfl⟩
abbrev main_v97 : Ref sig .tc := ⟨.hbm, 150, rfl⟩
abbrev main_c_24 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_c_25 : Ref sig .tc := ⟨.hbm, 158, rfl⟩
abbrev main_v104 : Ref sig .tc := ⟨.hbm, 159, rfl⟩
abbrev main_v105 : Ref sig .tc := ⟨.hbm, 160, rfl⟩
abbrev main_c_26 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_27 : Ref sig .tc := ⟨.hbm, 175, rfl⟩
abbrev main_call5_v0 : Ref sig .tc := ⟨.hbm, 176, rfl⟩
abbrev main_call5_v1 : Ref sig .tc := ⟨.hbm, 177, rfl⟩
abbrev main_call5_v2 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_c_28 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_c_29 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_c_30 : Ref sig .tc := ⟨.hbm, 202, rfl⟩
abbrev main_v140 : Ref sig .tc := ⟨.hbm, 203, rfl⟩
abbrev main_v141 : Ref sig .tc := ⟨.hbm, 204, rfl⟩
abbrev main_c_31 : Ref sig .tc := ⟨.hbm, 205, rfl⟩
abbrev main_c_32 : Ref sig .tc := ⟨.hbm, 206, rfl⟩
abbrev main_call6_v0 : Ref sig .tc := ⟨.hbm, 207, rfl⟩
abbrev main_call6_v1 : Ref sig .tc := ⟨.hbm, 208, rfl⟩
abbrev main_call6_v2 : Ref sig .tc := ⟨.hbm, 209, rfl⟩
abbrev main_call6_v3 : Ref sig .tc := ⟨.hbm, 210, rfl⟩
abbrev main_call6_v4 : Ref sig .tc := ⟨.hbm, 211, rfl⟩
abbrev main_v142 : Ref sig .tc := ⟨.hbm, 212, rfl⟩
abbrev main_v143 : Ref sig .tc := ⟨.hbm, 213, rfl⟩
abbrev main_c_33 : Ref sig .tc := ⟨.hbm, 214, rfl⟩
abbrev main_v144 : Ref sig .tc := ⟨.hbm, 215, rfl⟩
abbrev main_v145 : Ref sig .tc := ⟨.hbm, 216, rfl⟩
abbrev main_c_34 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_c_35 : Ref sig .tc := ⟨.hbm, 224, rfl⟩
abbrev main_v152 : Ref sig .tc := ⟨.hbm, 225, rfl⟩
abbrev main_v153 : Ref sig .tc := ⟨.hbm, 226, rfl⟩
abbrev main_c_36 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_cst_37 : Ref sig .tc := ⟨.hbm, 241, rfl⟩
abbrev main_call7_v0 : Ref sig .tc := ⟨.hbm, 242, rfl⟩
abbrev main_call7_v1 : Ref sig .tc := ⟨.hbm, 243, rfl⟩
abbrev main_call7_v2 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x2x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x2304x512 : Shape := ⟨3, ![16, 2304, 512]⟩
abbrev S8x15x31 : Shape := ⟨3, ![8, 15, 31]⟩
abbrev S16x2304x8x64 : Shape := ⟨4, ![16, 2304, 8, 64]⟩
abbrev S16x256x8x64 : Shape := ⟨4, ![16, 256, 8, 64]⟩
abbrev S16x8x256x256 : Shape := ⟨4, ![16, 8, 256, 256]⟩
abbrev S_ : Shape := ⟨0, ![]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S16x2048x8x64 : Shape := ⟨4, ![16, 2048, 8, 64]⟩
abbrev S32 : Shape := ⟨1, ![32]⟩
abbrev S64 : Shape := ⟨1, ![64]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S2048x128 : Shape := ⟨2, ![2048, 128]⟩
abbrev S2048x128x1 : Shape := ⟨3, ![2048, 128, 1]⟩
abbrev S16x2048x128x8x64 : Shape := ⟨5, ![16, 2048, 128, 8, 64]⟩
abbrev S32x8x1 : Shape := ⟨3, ![32, 8, 1]⟩
abbrev S8x32x8x31 : Shape := ⟨4, ![8, 32, 8, 31]⟩
abbrev S64x16x1 : Shape := ⟨3, ![64, 16, 1]⟩
abbrev S8x32x8x64x16 : Shape := ⟨5, ![8, 32, 8, 64, 16]⟩
abbrev S8x32x64x8x16 : Shape := ⟨5, ![8, 32, 64, 8, 16]⟩
abbrev S8x2048x128 : Shape := ⟨3, ![8, 2048, 128]⟩
abbrev S16x8x2048x128 : Shape := ⟨4, ![16, 8, 2048, 128]⟩
abbrev S1x8x2048x128 : Shape := ⟨4, ![1, 8, 2048, 128]⟩
abbrev S16x8x2048x256 : Shape := ⟨4, ![16, 8, 2048, 256]⟩
abbrev S16x8x2048x384 : Shape := ⟨4, ![16, 8, 2048, 384]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 161
  | .vmem => 0
  | .smem => 0
  | _ => 0

abbrev hbmTy0_0 (i : Nat) : BufTy := match i % 128 with
  | 0 => ⟨S16x2304x512, .bf16⟩
  | 1 => ⟨S16x2304x512, .bf16⟩
  | 2 => ⟨S16x2304x512, .bf16⟩
  | 3 => ⟨S8x15x31, .f32⟩
  | 4 => ⟨S16x2304x512, .f32⟩
  | 5 => ⟨S16x2304x8x64, .f32⟩
  | 6 => ⟨S16x2304x512, .f32⟩
  | 7 => ⟨S16x2304x8x64, .f32⟩
  | 8 => ⟨S16x2304x512, .f32⟩
  | 9 => ⟨S16x2304x8x64, .f32⟩
  | 10 => ⟨S16x256x8x64, .f32⟩
  | 11 => ⟨S16x256x8x64, .f32⟩
  | 12 => ⟨S16x256x8x64, .f32⟩
  | 13 => ⟨S16x8x256x256, .f32⟩
  | 14 => ⟨S_, .f32⟩
  | 15 => ⟨S16x8x256, .f32⟩
  | 16 => ⟨S_, .f32⟩
  | 17 => ⟨S16x8x256, .f32⟩
  | 18 => ⟨S16x8x256, .f32⟩
  | 19 => ⟨S16x8x256x1, .f32⟩
  | 20 => ⟨S16x8x256x256, .f32⟩
  | 21 => ⟨S16x8x256x256, .f32⟩
  | 22 => ⟨S16x8x256x256, .f32⟩
  | 23 => ⟨S_, .f32⟩
  | 24 => ⟨S16x8x256, .f32⟩
  | 25 => ⟨S16x8x256x1, .f32⟩
  | 26 => ⟨S16x8x256x256, .f32⟩
  | 27 => ⟨S16x8x256x256, .f32⟩
  | 28 => ⟨S16x8x256x256, .bf16⟩
  | 29 => ⟨S16x8x256x256, .f32⟩
  | 30 => ⟨S16x8x64x256, .f32⟩
  | 31 => ⟨S16x256x8x64, .f32⟩
  | 32 => ⟨S16x2048x8x64, .f32⟩
  | 33 => ⟨S32, .i32⟩
  | 34 => ⟨S64, .i32⟩
  | 35 => ⟨S_, .i32⟩
  | 36 => ⟨S32, .i32⟩
  | 37 => ⟨S32, .i32⟩
  | 38 => ⟨S_, .i32⟩
  | 39 => ⟨S_, .i32⟩
  | 40 => ⟨S_, .i32⟩
  | 41 => ⟨S32, .i32⟩
  | 42 => ⟨S32, .i32⟩
  | 43 => ⟨S_, .i32⟩
  | 44 => ⟨S32, .i32⟩
  | 45 => ⟨S32, .i32⟩
  | 46 => ⟨S32x1, .i32⟩
  | 47 => ⟨S8, .i32⟩
  | 48 => ⟨S1x8, .i32⟩
  | 49 => ⟨S32x8, .i32⟩
  | 50 => ⟨S32x8, .i32⟩
  | 51 => ⟨S32x8, .i32⟩
  | 52 => ⟨S_, .i32⟩
  | 53 => ⟨S64, .i32⟩
  | 54 => ⟨S64, .i32⟩
  | 55 => ⟨S_, .i32⟩
  | 56 => ⟨S_, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S64x1, .i32⟩
  | 64 => ⟨S16, .i32⟩
  | 65 => ⟨S1x16, .i32⟩
  | 66 => ⟨S64x16, .i32⟩
  | 67 => ⟨S64x16, .i32⟩
  | 68 => ⟨S64x16, .i32⟩
  | 69 => ⟨S32x1x8x1, .i32⟩
  | 70 => ⟨S_, .i32⟩
  | 71 => ⟨S32x1x8x1, .i32⟩
  | 72 => ⟨S32x1x8x1, .i32⟩
  | 73 => ⟨S1x64x1x16, .i32⟩
  | 74 => ⟨S32x64x8x16, .i32⟩
  | 75 => ⟨S32x64x8x16, .i32⟩
  | 76 => ⟨S32x64x8x16, .i32⟩
  | 77 => ⟨S2048x128, .i32⟩
  | 78 => ⟨S16x2048x8x64, .f32⟩
  | 79 => ⟨S_, .i32⟩
  | 80 => ⟨S2048x128, .i32⟩
  | 81 => ⟨S2048x128, .i1⟩
  | 82 => ⟨S_, .i32⟩
  | 83 => ⟨S2048x128, .i32⟩
  | 84 => ⟨S2048x128, .i32⟩
  | 85 => ⟨S2048x128, .i32⟩
  | 86 => ⟨S2048x128x1, .i32⟩
  | 87 => ⟨S16x2048x128x8x64, .f32⟩
  | 88 => ⟨S16x2048x8x64, .f32⟩
  | 89 => ⟨S_, .i32⟩
  | 90 => ⟨S2048x128, .i32⟩
  | 91 => ⟨S2048x128, .i1⟩
  | 92 => ⟨S_, .i32⟩
  | 93 => ⟨S2048x128, .i32⟩
  | 94 => ⟨S2048x128, .i32⟩
  | 95 => ⟨S2048x128, .i32⟩
  | 96 => ⟨S2048x128x1, .i32⟩
  | 97 => ⟨S16x2048x128x8x64, .f32⟩
  | 98 => ⟨S32x1, .i32⟩
  | 99 => ⟨S32x8, .i32⟩
  | 100 => ⟨S32x8, .i32⟩
  | 101 => ⟨S_, .i32⟩
  | 102 => ⟨S32x8, .i32⟩
  | 103 => ⟨S32x8, .i32⟩
  | 104 => ⟨S64x1, .i32⟩
  | 105 => ⟨S64x16, .i32⟩
  | 106 => ⟨S64x16, .i32⟩
  | 107 => ⟨S_, .i32⟩
  | 108 => ⟨S64x16, .i32⟩
  | 109 => ⟨S64x16, .i32⟩
  | 110 => ⟨S_, .i32⟩
  | 111 => ⟨S32x8, .i32⟩
  | 112 => ⟨S32x8, .i1⟩
  | 113 => ⟨S_, .i32⟩
  | 114 => ⟨S32x8, .i32⟩
  | 115 => ⟨S32x8, .i32⟩
  | 116 => ⟨S32x8, .i32⟩
  | 117 => ⟨S32x8x1, .i32⟩
  | 118 => ⟨S8x32x8x31, .f32⟩
  | 119 => ⟨S_, .i32⟩
  | 120 => ⟨S64x16, .i32⟩
  | 121 => ⟨S64x16, .i1⟩
  | 122 => ⟨S_, .i32⟩
  | 123 => ⟨S64x16, .i32⟩
  | 124 => ⟨S64x16, .i32⟩
  | 125 => ⟨S64x16, .i32⟩
  | 126 => ⟨S64x16x1, .i32⟩
  | 127 => ⟨S8x32x8x64x16, .f32⟩
  | _ => ⟨S16x2304x512, .bf16⟩

abbrev hbmTy0_1 (i : Nat) : BufTy := match i % 128 with
  | 0 => ⟨S8x32x64x8x16, .f32⟩
  | 1 => ⟨S8x2048x128, .f32⟩
  | 2 => ⟨S16x8x2048x128, .f32⟩
  | 3 => ⟨S1x8x2048x128, .f32⟩
  | 4 => ⟨S16x8x2048x128, .f32⟩
  | 5 => ⟨S16x8x2048x128, .f32⟩
  | 6 => ⟨S16x8x2048x256, .f32⟩
  | 7 => ⟨S16x8x2048x384, .f32⟩
  | 8 => ⟨S_, .f32⟩
  | 9 => ⟨S16x8x2048, .f32⟩
  | 10 => ⟨S_, .f32⟩
  | 11 => ⟨S16x8x2048, .f32⟩
  | 12 => ⟨S16x8x2048, .f32⟩
  | 13 => ⟨S16x8x2048x1, .f32⟩
  | 14 => ⟨S16x8x2048x384, .f32⟩
  | 15 => ⟨S16x8x2048x384, .f32⟩
  | 16 => ⟨S16x8x2048x384, .f32⟩
  | 17 => ⟨S_, .f32⟩
  | 18 => ⟨S16x8x2048, .f32⟩
  | 19 => ⟨S16x8x2048x1, .f32⟩
  | 20 => ⟨S16x8x2048x384, .f32⟩
  | 21 => ⟨S16x8x2048x384, .f32⟩
  | 22 => ⟨S16x8x2048x384, .bf16⟩
  | 23 => ⟨S16x8x2048x384, .f32⟩
  | 24 => ⟨S16x8x2048x128, .f32⟩
  | 25 => ⟨S16x2048x8x64, .f32⟩
  | 26 => ⟨S16x8x2048x256, .f32⟩
  | 27 => ⟨S16x8x64x2048, .f32⟩
  | 28 => ⟨S16x2048x8x64, .f32⟩
  | 29 => ⟨S16x2048x8x64, .f32⟩
  | 30 => ⟨S16x2304x8x64, .f32⟩
  | 31 => ⟨S16x2304x8x64, .bf16⟩
  | 32 => ⟨S16x2304x512, .bf16⟩
  | _ => ⟨S16x2304x512, .bf16⟩

abbrev hbmTy (i : Nat) : BufTy := match i / 128 with
  | 0 => hbmTy0_0 i
  | 1 => hbmTy0_1 i
  | _ => ⟨S16x2304x512, .bf16⟩

abbrev bufTy : (tb : Table) → Fin (tcTables nBuf tb) → BufTy
  | .hbm, ⟨i, _⟩ => hbmTy i
  | _, _ => ⟨S16x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_c_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_c_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_13 : Ref sig .tc := ⟨.hbm, 107, rfl⟩
abbrev main_v78 : Ref sig .tc := ⟨.hbm, 108, rfl⟩
abbrev main_v79 : Ref sig .tc := ⟨.hbm, 109, rfl⟩
abbrev main_c_14 : Ref sig .tc := ⟨.hbm, 110, rfl⟩
abbrev main_v80 : Ref sig .tc := ⟨.hbm, 111, rfl⟩
abbrev main_v81 : Ref sig .tc := ⟨.hbm, 112, rfl⟩
abbrev main_c_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_v87 : Ref sig .tc := ⟨.hbm, 120, rfl⟩
abbrev main_v88 : Ref sig .tc := ⟨.hbm, 121, rfl⟩
abbrev main_c_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_18 : Ref sig .tc := ⟨.hbm, 136, rfl⟩
abbrev main_v102 : Ref sig .tc := ⟨.hbm, 137, rfl⟩
abbrev main_cst_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩

abbrev nD : Nat := 1
abbrev τ : Topo := Topo.v7x

variable {F : FTy → Type} [FloatOps F]
-- ==== Proof.FfnPre.lean ====
/-
  What the two preconditions say: every tile's group is one of the four, and, for the second, every gate is a
  nonnegative finite number.
-/
module

public import proofs.«01_k».proof.Proof.Gen.Pre_in_range
public import proofs.«01_k».proof.Proof.Gen.Pre_valid
public import Idealize.ShloMosaic.Lib.Affine
public import Idealize.ShloMosaic.Lib.ReduceAll
public import Idealize.ShloMosaic.Lib.IdealHost
public import Idealize.ShloMosaic.Lib.Pointwise

@[expose] public section

set_option maxRecDepth 16384

noncomputable section

namespace Cert.FfnPre

open Idealize.ShloMosaic

/-- A word between 0 and 3, read signed, is below 4 read unsigned. -/
theorem toNat_lt_four (w : BitVec 32) (h0 : (0#32).toInt ≤ w.toInt) (h4 : w.toInt < (4#32).toInt) : w.toNat < 4 := by
  simp only [BitVec.toInt, BitVec.toNat_ofNat] at h0 h4; omega

theorem ofBool_one (b : Bool) (h : BitVec.ofBool b = 1#1) : b = true := by
  cases b
  · exact absurd h (by decide)
  · rfl

theorem groups_of_in_range {F : FTy → Type} [FloatOps F]
    (a0 : IVec Pre_in_range.S84 32) (a1 : IVec Pre_in_range.S1 32) (a2 : FVec F Pre_in_range.S43008x1152 .f32)
    (a3 a4 : FVec F Pre_in_range.S16x1024x512 .f32) (a5 : FVec F Pre_in_range.S16x512x1024 .f32)
    (h : Pre_in_range.fn a0 a1 a2 a3 a4 a5 = fun _ => 1#1) (y : Pre_in_range.S84.Idx) : (a0 y).toNat < 4 := by
  have e := congrFun h (fun a => a.elim0)
  dsimp only [Pre_in_range.fn] at e
  obtain ⟨e0, e4⟩ := IntOp.andi_eq_one.1 e
  have one : ∀ u v : Pre_in_range.S_.Idx, u = v := fun u v => funext fun a => a.elim0
  exact toNat_lt_four _ (IntOp.cmpi_sge.1 (Host.reduce_andi_all _ _ _ _ _ e0 y)) (IntOp.cmpi_slt.1 (Host.reduce_andi_all _ _ _ _ _ e4 y))

theorem groups_of_valid {F : FTy → Type} [FloatOps F]
    (a0 : IVec Pre_valid.S84 32) (a1 : IVec Pre_valid.S1 32) (a2 : FVec F Pre_valid.S43008x1152 .f32)
    (a3 a4 : FVec F Pre_valid.S16x1024x512 .f32) (a5 : FVec F Pre_valid.S16x512x1024 .f32)
    (h : Pre_valid.fn a0 a1 a2 a3 a4 a5 = fun _ => 1#1) (y : Pre_valid.S84.Idx) : (a0 y).toNat < 4 := by
  have e := congrFun h (fun a => a.elim0)
  dsimp only [Pre_valid.fn] at e
  obtain ⟨e0, e4⟩ := IntOp.andi_eq_one.1 (IntOp.andi_eq_one.1 (IntOp.andi_eq_one.1 e).1).1
  exact toNat_lt_four _ (IntOp.cmpi_sge.1 (Host.reduce_andi_all _ _ _ _ _ e0 y)) (IntOp.cmpi_slt.1 (Host.reduce_andi_all _ _ _ _ _ e4 y))

/-- The gates: columns 1024 to 1039. -/
theorem gates_of_valid
    (a0 : IVec Pre_valid.S84 32) (a1 : IVec Pre_valid.S1 32) (a2 : FVec Ideal Pre_valid.S43008x1152 .f32)
    (a3 a4 : FVec Ideal Pre_valid.S16x1024x512 .f32) (a5 : FVec Ideal Pre_valid.S16x512x1024 .f32)
    (h : Pre_valid.fn a0 a1 a2 a3 a4 a5 = fun _ => 1#1) (y : Pre_valid.S43008x16.Idx) :
    (0 : EReal) ≤ extractStridedSlice Pre_valid.S43008x16 ![0, 1024] a2 Pre_valid.Facts.slices_S43008x1152_S43008x16_0_1024 y
      ∧ extractStridedSlice Pre_valid.S43008x16 ![0, 1024] a2 Pre_valid.Facts.slices_S43008x1152_S43008x16_0_1024 y < (⊤ : EReal) := by
  have e := congrFun h (fun a => a.elim0)
  dsimp only [Pre_valid.fn] at e
  obtain ⟨e, e1⟩ := IntOp.andi_eq_one.1 e
  have e0 := (IntOp.andi_eq_one.1 e).2
  have g0 := Host.reduce_andi_all _ _ _ _ _ e0 y
  have g1 := Host.reduce_andi_all _ _ _ _ _ e1 y
  clear e e0 e1 h
  generalize extractStridedSlice Pre_valid.S43008x16 ![0, 1024] a2 Pre_valid.Facts.slices_S43008x1152_S43008x16_0_1024 = g at g0 g1 ⊢
  constructor
  · revert g0; pointwise; exact fun h => of_decide_eq_true (ofBool_one _ h)
  · revert g1; pointwise
    have inf : Ideal.ofBits .f32 0x7F800000#32 = (⊤ : EReal) := by
      simp only [Ideal.ofBits, Ideal.ieee]
      rw [if_pos (by decide), if_pos (by decide), if_neg (by decide)]
    rw [inf]; exact fun h => of_decide_eq_true (ofBool_one _ h)

/-- The same at a row and an expert. -/
theorem gate_of_valid
    (a0 : IVec Pre_valid.S84 32) (a1 : IVec Pre_valid.S1 32) (a2 : FVec Ideal Pre_valid.S43008x1152 .f32)
    (a3 a4 : FVec Ideal Pre_valid.S16x1024x512 .f32) (a5 : FVec Ideal Pre_valid.S16x512x1024 .f32)
    (h : Pre_valid.fn a0 a1 a2 a3 a4 a5 = fun _ => 1#1) (t : Fin 43008) (e : Fin 16) :
    (0 : EReal) ≤ a2 (ix2 t ⟨1024 + (e : ℕ), by omega⟩) ∧ a2 (ix2 t ⟨1024 + (e : ℕ), by omega⟩) ≠ (⊤ : EReal) := by
  have g := gates_of_valid a0 a1 a2 a3 a4 a5 h (ix2 t e)
  clear h
  pointwise at g
  exact ⟨g.1, g.2.ne⟩

end Cert.FfnPre

end
-- ==== Proof.FfnBody.lean ====
/-
  The grouped expert feed-forward, the body at one tile of rows. The tile's number is compared with the count of tiles
  in use: below it the body stores the four experts' gated sum, else it stores zeros. Each of the two ways is one run
  of the printed body on symbolic staging buffers, stated over what the two tables hold.
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables in scalar memory: each tile's group of experts, and the count of tiles in use. -/
abbrev groups : Memref sig .tc .smem S84 .i32 := Memref.whole main_arg0
abbrev count : Memref sig .tc .smem S1 .i32 := Memref.whole main_arg1

/-- The one word of the count table, as the body loads it. -/
abbrev used (T1 : S1.Idx → Elt F .i32) : BitVec 32 :=
  View.readAt (Elt F) count.view (Rect.unit (s := S1) ![0] S1.size inb_S1_S1_0).toLoadRect T1 (Shape.Idx.first (numel1_S1.symm ▸ Nat.one_pos))

/-- One staging buffer of the output window, through which what is stored there is read. -/
abbrev outView : View sig .tc .vmem S512x1024 .f32 := (Memref.whole cc0_stg4_0 : Memref sig .tc .vmem S512x1024 .f32).view

/-- A tile is in use or it is not: the body's second comparison is the first one's negation. -/
theorem cond_compl (i : grid0.Coords) (w : BitVec 32) : k0_cond2 i w = 1#1 ↔ ¬ k0_cond1 i w = 1#1 := by
  unfold k0_cond1 k0_cond2
  simp only [Scalar.cmpi, Scalar.extui, IntOp.cmpi, BitVec.slt, BitVec.sle]
  rcases lt_or_ge (BitVec.ofNat 32 (i 0).val).toInt w.toInt with h | h
  · simp [h, not_le.mpr h]
  · simp [h, not_lt.mpr h]

section Run

variable (c : Dev nD) (i : grid0.Coords)
  (xs : Memref sig .tc .vmem S512x1152 .f32) (hxs : xs.IsWhole)
  (wg : Memref sig .tc .vmem S1x4x1024x512 .bf16) (hwg : wg.IsWhole)
  (wu : Memref sig .tc .vmem S1x4x1024x512 .bf16) (hwu : wu.IsWhole)
  (wd : Memref sig .tc .vmem S1x4x512x1024 .bf16) (hwd : wd.IsWhole)
  (ys : Memref sig .tc .vmem S512x1024 .f32) (hys : ys.IsWhole)
  (T0 : S84.Idx → Elt F .i32) (T1 : S1.Idx → Elt F .i32)
  (x0 : S512x1152.Idx → Elt F .f32) (x1 : S1x4x1024x512.Idx → Elt F .bf16)
  (x2 : S1x4x1024x512.Idx → Elt F .bf16) (x3 : S1x4x512x1024.Idx → Elt F .bf16)

/-- What the body holds beside the output: its four input blocks and its halves of the tables. -/
abbrev held : sProp 𝕄 :=
  iprop((xs.view.loc (c : Thread nD τ) ↦[xs.view.set]{fullShare} xs.view.rep x0)
    ∗ (wg.view.loc (c : Thread nD τ) ↦[wg.view.set]{fullShare} wg.view.rep x1)
    ∗ (wu.view.loc (c : Thread nD τ) ↦[wu.view.set]{fullShare} wu.view.rep x2)
    ∗ (wd.view.loc (c : Thread nD τ) ↦[wd.view.set]{fullShare} wd.view.rep x3)
    ∗ (groups.view.loc (c : Thread nD τ) ↦{fullShare.right} T0)
    ∗ (count.view.loc (c : Thread nD τ) ↦{fullShare.right} T1))

/-- The body's triple, leaving the pieces `out` in the output's staging buffer. -/
abbrev Runs (out : List (View.Piece (Elt F) S512x1024 .f32)) : Prop :=
  ∀ (K : PUnit → sProp 𝕄),
    iprop(held c xs wg wu wd T0 T1 x0 x1 x2 x3 ∗ (∃ d, owns (c : Thread nD τ) ys fullShare d)
      ∗ (iprop(held c xs wg wu wd T0 T1 x0 x1 x2 x3
          ∗ (∃ f, ys.view.loc (c : Thread nD τ) ↦[ys.view.set]{fullShare} ys.view.writes (Elt F) f out)) -∗ K ⟨⟩))
    ⊢ wp frame (wpE (defs₀ (F := F)) Variants.none c none) Set.univ
        (cc0__group_ffn_kernel i groups (Memref.isWhole_whole _) count (Memref.isWhole_whole _) xs hxs wg hwg wu hwu wd hwd ys hys) K

set_option backward.proofsInPublic true in
set_option maxHeartbeats 8000000 in
/-- A tile in use. -/
def runUsed (h1 : k0_cond1 i (used T1) = 1#1) (h2 : ¬ k0_cond2 i (used T1) = 1#1) :
    { out : List (View.Piece (Elt F) S512x1024 .f32) // Runs c i xs hxs wg hwg wu hwu wd hwd ys hys T0 T1 x0 x1 x2 x3 out } :=
  ⟨_, fun K => by
    unfold owns
    rw [cc0__group_ffn_kernel_eq_skeleton]; unfold cc0__group_ffn_kernel_skel
    iintro ⟨⟨H0, H1, H2, H3, HT0, HT1⟩, ⟨%d4, %f4, -, HO4⟩, Hk⟩
    have hT0 : groups.IsWhole := Memref.isWhole_whole _
    have hT1 : count.IsWhole := Memref.isWhole_whole _
    sl_exec! (disch := first | (guard_target = k0_cond1 _ _ = _; exact h1) | (guard_target = ¬(k0_cond2 _ _ = _); exact h2))
    sl_step
    iapply Hk
    isplitr [HO4]
    · isplitl [H0]; · iexact H0
      isplitl [H1]; · iexact H1
      isplitl [H2]; · iexact H2
      isplitl [H3]; · iexact H3
      isplitl [HT0]; · iexact HT0
      iexact HT1
    iexists _; iexact HO4⟩

set_option backward.proofsInPublic true in
set_option maxHeartbeats 8000000 in
/-- A tile not in use. -/
def runIdle (h1 : ¬ k0_cond1 i (used T1) = 1#1) (h2 : k0_cond2 i (used T1) = 1#1) :
    { out : List (View.Piece (Elt F) S512x1024 .f32) // Runs c i xs hxs wg hwg wu hwu wd hwd ys hys T0 T1 x0 x1 x2 x3 out } :=
  ⟨_, fun K => by
    unfold owns
    rw [cc0__group_ffn_kernel_eq_skeleton]; unfold cc0__group_ffn_kernel_skel
    iintro ⟨⟨H0, H1, H2, H3, HT0, HT1⟩, ⟨%d4, %f4, -, HO4⟩, Hk⟩
    have hT0 : groups.IsWhole := Memref.isWhole_whole _
    have hT1 : count.IsWhole := Memref.isWhole_whole _
    sl_exec! (disch := first | (guard_target = ¬(k0_cond1 _ _ = _); exact h1) | (guard_target = k0_cond2 _ _ = _; exact h2))
    sl_step
    iapply Hk
    isplitr [HO4]
    · isplitl [H0]; · iexact H0
      isplitl [H1]; · iexact H1
      isplitl [H2]; · iexact H2
      isplitl [H3]; · iexact H3
      isplitl [HT0]; · iexact HT0
      iexact HT1
    iexists _; iexact HO4⟩

theorem coverUsed (h1 : k0_cond1 i (used T1) = 1#1) (h2 : ¬ k0_cond2 i (used T1) = 1#1) (y : S512x1024.Idx) :
    ∃ pc ∈ (runUsed c i xs hxs wg hwg wu hwu wd hwd ys hys T0 T1 x0 x1 x2 x3 h1 h2).1, y ∈ pc.1.set :=
  View.cover_of_tiledL (runUsed c i xs hxs wg hwg wu hwu wd hwd ys hys T0 T1 x0 x1 x2 x3 h1 h2).1 S512x1024.size (by sl_kernel_rfl) y

theorem coverIdle (h1 : ¬ k0_cond1 i (used T1) = 1#1) (h2 : k0_cond2 i (used T1) = 1#1) (y : S512x1024.Idx) :
    ∃ pc ∈ (runIdle c i xs hxs wg hwg wu hwu wd hwd ys hys T0 T1 x0 x1 x2 x3 h1 h2).1, y ∈ pc.1.set :=
  View.cover_of_tiledL (runIdle c i xs hxs wg hwg wu hwu wd hwd ys hys T0 T1 x0 x1 x2 x3 h1 h2).1 S512x1024.size (by sl_kernel_rfl) y

/-- What the body leaves in the output's staging buffer. -/
def left : S512x1024.Idx → Elt F .f32 :=
  if h : k0_cond1 i (used T1) = 1#1 then
    outView.read (Elt F) (outView.writes (Elt F) outView.junk
      (runUsed c i xs hxs wg hwg wu hwu wd hwd ys hys T0 T1 x0 x1 x2 x3 h (fun h' => (cond_compl i _).1 h' h)).1)
  else
    outView.read (Elt F) (outView.writes (Elt F) outView.junk
      (runIdle c i xs hxs wg hwg wu hwu wd hwd ys hys T0 T1 x0 x1 x2 x3 h ((cond_compl i _).2 h)).1)

/-- The body at any tile: it gives back what it held, and the output's buffer at `left`. -/
theorem run (K : PUnit → sProp 𝕄) :
    iprop(held c xs wg wu wd T0 T1 x0 x1 x2 x3 ∗ (∃ d, owns (c : Thread nD τ) ys fullShare d)
      ∗ (iprop(held c xs wg wu wd T0 T1 x0 x1 x2 x3
          ∗ owns (c : Thread nD τ) ys fullShare (left c i xs hxs wg hwg wu hwu wd hwd ys hys T0 T1 x0 x1 x2 x3)) -∗ K ⟨⟩))
    ⊢ wp frame (wpE (defs₀ (F := F)) Variants.none c none) Set.univ
        (cc0__group_ffn_kernel i groups (Memref.isWhole_whole _) count (Memref.isWhole_whole _) xs hxs wg hwg wu hwu wd hwd ys hys) K := by
  unfold left
  split
  · rename_i h
    iintro ⟨H, Ho, Hk⟩
    iapply ((runUsed c i xs hxs wg hwg wu hwu wd hwd ys hys T0 T1 x0 x1 x2 x3 h (fun h' => (cond_compl i _).1 h' h)).2 K)
    isplitl [H]; · iexact H
    isplitl [Ho]; · iexact Ho
    iintro ⟨H, ⟨%e, Ho⟩⟩
    iapply Hk
    isplitl [H]; · iexact H
    unfold owns; iexists _; isplitr; swap
    · iexact Ho
    · ipureintro; exact View.read_writes_of_cover _ _ _ _ _ (coverUsed c i xs hxs wg hwg wu hwu wd hwd ys hys T0 T1 x0 x1 x2 x3 _ _)
  · rename_i h
    iintro ⟨H, Ho, Hk⟩
    iapply ((runIdle c i xs hxs wg hwg wu hwu wd hwd ys hys T0 T1 x0 x1 x2 x3 h ((cond_compl i _).2 h)).2 K)
    isplitl [H]; · iexact H
    isplitl [Ho]; · iexact Ho
    iintro ⟨H, ⟨%e, Ho⟩⟩
    iapply Hk
    isplitl [H]; · iexact H
    unfold owns; iexists _; isplitr; swap
    · iexact Ho
    · ipureintro; exact View.read_writes_of_cover _ _ _ _ _ (coverIdle c i xs hxs wg hwg wu hwu wd hwd ys hys T0 T1 x0 x1 x2 x3 _ _)

end Run

end Cert.KernelIdeal.Ffn

end
-- ==== Proof.FfnRun.lean ====
/-
  The grouped expert feed-forward, the run: for every pair of tables whose groups are in range the pipeline over the
  84 tiles ends, nothing faults, every array ends at what the pipeline's data say and every other array as it was.
-/
module

public import proofs.«01_k».proof.Proof.FfnBody
public import Idealize.ShloMosaic.Lib.Pipeline.Quiescent
public import Idealize.ShloMosaic.Lib.Claim
public import Idealize.ShloMosaic.Lib.Pipeline.TableIdle
public import Idealize.ShloMosaic.Lib.Affine
public import Idealize.ShloMosaic.Adequacy
public import Idealize.ShloMosaic.Init

@[expose] public section

set_option maxRecDepth 16384
set_option Elab.async false

noncomputable section

namespace Cert.KernelIdeal.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables -/

/-- Every tile's group is one of the four. -/
def InRange (g : S84.Idx → BitVec 32) : Prop := ∀ y, (g y).toNat < 4

/-- The group of the tile at a grid point. -/
abbrev groupAt (pf : pre0.Contents (Elt F)) (i : grid0.Coords) : BitVec 32 :=
  pf.at 0 (Rect.unit (s := S84) (k0_off1 i) S1.size (k0_off1_inb i)) numel1_S1

theorem ok_of_inRange (pf : pre0.Contents (Elt F)) (h : InRange (pf 0)) : ok0 pf := by
  have hg : ∀ i : grid0.Coords, (groupAt pf i).toNat < 4 := fun i => h _
  refine ⟨fun i => ⟨fun a => ?_, .inr (Affine.block_words_dvd (s := S4x4x1024x512) (p := EltTy.packing .bf16) (by decide) (by decide))⟩,
    fun i => ⟨fun a => ?_, .inr (Affine.block_words_dvd (s := S4x4x1024x512) (p := EltTy.packing .bf16) (by decide) (by decide))⟩,
    fun i => ⟨fun a => ?_, .inr (Affine.block_words_dvd (s := S4x4x512x1024) (p := EltTy.packing .bf16) (by decide) (by decide))⟩⟩
  all_goals
    have := hg i
    match a with
    | ⟨0, _⟩ => exact show ((groupAt pf i).toNat + 1) * 1 ≤ 4 by omega
    | ⟨1, _⟩ => exact le_of_eq rfl
    | ⟨2, _⟩ => exact le_of_eq rfl
    | ⟨3, _⟩ => exact le_of_eq rfl
    | ⟨_ + 4, h⟩ => exact absurd h (Nat.not_lt.2 (Nat.le_add_left _ _))

variable (m : (ℓ : Loc nD τ sig) → Buf (Elt F) ℓ) (ρ : Dev nD → PrngReg)

/-- The tables the program starts from. -/
abbrev tables : pre0.Contents (Elt F) := fun k => m (((0 : Dev nD) : Thread nD τ).loc (pre0.ref k))

variable (hr : InRange (tables m 0))

/-- The pipeline at those tables. -/
def adm : (pcfg0 (F := F)).Adm := ⟨tables m, ok_of_inRange _ hr⟩
abbrev cfgA : Pipeline.Cfg sig Λ₀ := cfg0 (F := F) (adm m hr)

/-- The arrays when the pipeline starts: after the casts and the grouping of the weights. -/
abbrev V (c : Dev nD) (b : Ref sig .tc) : Buf (Elt F) ((c : Thread nD τ).loc b) := StableHlo.after hostOps0 (fun b => m (c, b)) b

abbrev crd (t : Fin (cfgA m hr).N) : (cfgA m hr).grid.Coords := (cfgA m hr).grid.coords t

abbrev ms0 (t : Fin (cfgA m hr).N) : Memref sig .tc .vmem S512x1152 .f32 := spec0_0.stage ((cfgA m hr).slots t (0 : Fin 5))
abbrev hs0 (t : Fin (cfgA m hr).N) : (ms0 m hr t).IsWhole := hstage0_0 (((cfgA m hr).slots t (0 : Fin 5)).cast nbuf0_0)
abbrev ms1 (t : Fin (cfgA m hr).N) : Memref sig .tc .vmem S1x4x1024x512 .bf16 := spec0_1.stage ((cfgA m hr).slots t (1 : Fin 5))
abbrev hs1 (t : Fin (cfgA m hr).N) : (ms1 m hr t).IsWhole := hstage0_1 (((cfgA m hr).slots t (1 : Fin 5)).cast nbuf0_1)
abbrev ms2 (t : Fin (cfgA m hr).N) : Memref sig .tc .vmem S1x4x1024x512 .bf16 := spec0_2.stage ((cfgA m hr).slots t (2 : Fin 5))
abbrev hs2 (t : Fin (cfgA m hr).N) : (ms2 m hr t).IsWhole := hstage0_2 (((cfgA m hr).slots t (2 : Fin 5)).cast nbuf0_2)
abbrev ms3 (t : Fin (cfgA m hr).N) : Memref sig .tc .vmem S1x4x512x1024 .bf16 := spec0_3.stage ((cfgA m hr).slots t (3 : Fin 5))
abbrev hs3 (t : Fin (cfgA m hr).N) : (ms3 m hr t).IsWhole := hstage0_3 (((cfgA m hr).slots t (3 : Fin 5)).cast nbuf0_3)
abbrev ms4 (t : Fin (cfgA m hr).N) : Memref sig .tc .vmem S512x1024 .f32 := spec0_4.stage ((cfgA m hr).slots t (4 : Fin 5))
abbrev hs4 (t : Fin (cfgA m hr).N) : (ms4 m hr t).IsWhole := hstage0_4 (((cfgA m hr).slots t (4 : Fin 5)).cast nbuf0_4)

/-- A window's block at a point, read off its array. -/
def iblk (c : Dev nD) (w : Fin (cfgA m hr).W) (t : Fin (cfgA m hr).N) :
    (((cfgA m hr).win w).xblock (crd m hr t)).Idx → Elt F ((cfgA m hr).win w).elt :=
  (((cfgA m hr).win w).blk t).view.read (Elt F) (V m c (Pipeline.arrRef (cfgA m hr).spec w))

/-- What the point leaves in the output's buffer. -/
def leftAt (c : Dev nD) (t : Fin (cfgA m hr).N) : S512x1024.Idx → Elt F .f32 :=
  left c (crd m hr t) (ms0 m hr t) (hs0 m hr t) (ms1 m hr t) (hs1 m hr t) (ms2 m hr t) (hs2 m hr t) (ms3 m hr t) (hs3 m hr t)
    (ms4 m hr t) (hs4 m hr t) (tables m 0) (tables m 1) (iblk m hr c (0 : Fin 5) t) (iblk m hr c (1 : Fin 5) t)
    (iblk m hr c (2 : Fin 5) t) (iblk m hr c (3 : Fin 5) t)

/-! ## The pipeline's data -/

def dats (_ : Fin 1) (c : Dev nD) : Dat τ (Elt F) Unit ℕ (UR sig nD τ) ℕ (cfgA m hr) c where
  A w := V m c (Pipeline.arrRef (cfgA m hr).spec w)
  after w t := match w with
    | ⟨0, _⟩ => iblk m hr c (0 : Fin 5) t
    | ⟨1, _⟩ => iblk m hr c (1 : Fin 5) t
    | ⟨2, _⟩ => iblk m hr c (2 : Fin 5) t
    | ⟨3, _⟩ => iblk m hr c (3 : Fin 5) t
    | ⟨4, _⟩ => leftAt m hr c t
  Φ _ := iprop(Pipeline.ΦA (cfgA m hr).spec c ∗ Pipeline.ΦT pre0 (tables m) c)
  q _ := fullShare
  owed _ := 0

theorem after0 (c : Dev nD) (t : Fin (cfgA m hr).N) : (dats m hr 0 c).after (0 : Fin 5) t = iblk m hr c (0 : Fin 5) t := rfl
theorem after1 (c : Dev nD) (t : Fin (cfgA m hr).N) : (dats m hr 0 c).after (1 : Fin 5) t = iblk m hr c (1 : Fin 5) t := rfl
theorem after2 (c : Dev nD) (t : Fin (cfgA m hr).N) : (dats m hr 0 c).after (2 : Fin 5) t = iblk m hr c (2 : Fin 5) t := rfl
theorem after3 (c : Dev nD) (t : Fin (cfgA m hr).N) : (dats m hr 0 c).after (3 : Fin 5) t = iblk m hr c (3 : Fin 5) t := rfl
theorem after4 (c : Dev nD) (t : Fin (cfgA m hr).N) : (dats m hr 0 c).after (4 : Fin 5) t = leftAt m hr c t := rfl

theorem before0 (c : Dev nD) (t : Fin (cfgA m hr).N) (d) : (dats m hr 0 c).before (0 : Fin 5) t d = iblk m hr c (0 : Fin 5) t :=
  ((dats m hr 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA m hr).N) (d) : (dats m hr 0 c).before (1 : Fin 5) t d = iblk m hr c (1 : Fin 5) t :=
  ((dats m hr 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA m hr).N) (d) : (dats m hr 0 c).before (2 : Fin 5) t d = iblk m hr c (2 : Fin 5) t :=
  ((dats m hr 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA m hr).N) (d) : (dats m hr 0 c).before (3 : Fin 5) t d = iblk m hr c (3 : Fin 5) t :=
  ((dats m hr 0 c).before_in_eq_fetched (3 : Fin 5) rfl (fun _ => rfl) (fun _ _ _ => rfl) (fun t => by rw [after3]; unfold Dat.blockOf iblk; rfl) t d).trans
    (by unfold Dat.fetched Dat.blockOf iblk; rfl)

/-- The output's buffer is stored at every point. -/
theorem never_idle (i : grid0.Coords) : (cfgA m hr).idle (4 : Fin 5) i = false := by
  show (!(k0_cond1 i _ == 1#1) && !(k0_cond2 i _ == 1#1)) = false
  rw [Bool.and_eq_false_iff]
  by_cases h : k0_cond1 i ((tables m).atD 1 ![0]) = 1#1
  · left; simp only [adm]; rw [h]; rfl
  · right; simp only [adm]; rw [(cond_compl i _).2 h]; rfl

/-! ## The body at a point -/

abbrev bodyAt (t : Fin (cfgA m hr).N) : Prog (TpuEff nD τ sig (Elt F) Λ₀ .tc) PUnit :=
  cc0__group_ffn_kernel (crd m hr t) (Memref.whole main_arg0) (Memref.isWhole_whole _) (Memref.whole main_arg1) (Memref.isWhole_whole _)
    (ms0 m hr t) (hs0 m hr t) (ms1 m hr t) (hs1 m hr t) (ms2 m hr t) (hs2 m hr t) (ms3 m hr t) (hs3 m hr t) (ms4 m hr t) (hs4 m hr t)

/-- The body's halves of the tables, one by one. -/
theorem tables_eq (c : Dev nD) (v : pre0.Contents (Elt F)) :
    (Pipeline.ΦT (U := UR sig nD τ) pre0 v c : sProp 𝕄)
      = iprop((((c : Thread nD τ).loc main_arg0) ↦{fullShare.right} v 0) ∗ (((c : Thread nD τ).loc main_arg1) ↦{fullShare.right} v 1)) := by
  unfold Pipeline.ΦT Pipeline.prefHeld
  rw [show (Finset.univ : Finset (Fin 2)) = insert (0 : Fin 2) {(1 : Fin 2)} from by decide,
    bigSep_insert (by decide), bigSep_singleton]
  rfl

set_option maxHeartbeats 4000000 in
theorem sound_body (c : Dev nD) (t : Fin (cfgA m hr).N) :
    iprop((dats m hr 0 c).Φ t.castSucc ∗ (dats m hr 0 c).owesAt () t.castSucc
        ∗ (∃ d, owns (c : Thread nD τ) (ms0 m hr t) fullShare ((dats m hr 0 c).before (0 : Fin 5) t d))
        ∗ (∃ d, owns (c : Thread nD τ) (ms1 m hr t) fullShare ((dats m hr 0 c).before (1 : Fin 5) t d))
        ∗ (∃ d, owns (c : Thread nD τ) (ms2 m hr t) fullShare ((dats m hr 0 c).before (2 : Fin 5) t d))
        ∗ (∃ d, owns (c : Thread nD τ) (ms3 m hr t) fullShare ((dats m hr 0 c).before (3 : Fin 5) t d))
        ∗ (∃ d, owns (c : Thread nD τ) (ms4 m hr t) fullShare ((dats m hr 0 c).before (4 : Fin 5) t d)))
      ⊢ wp frame (wpE (defs₀ (F := F)) Variants.none c none) Set.univ (bodyAt m hr t) fun _ =>
          iprop((dats m hr 0 c).Φ t.succ ∗ (dats m hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m hr 0 c).before w t d))
                  | true => owns (c : Thread nD τ) (((cfgA m hr).win w).stage ((cfgA m hr).slots t w)) fullShare ((dats m hr 0 c).after w t)
                | false => owns (c : Thread nD τ) (((cfgA m hr).win w).stage ((cfgA m hr).slots t w)) fullShare ((dats m hr 0 c).after w t)) := by
  rw [bigSep_W0]
  rewrite [never_idle m hr ((cfgA m hr).grid.coords t)]
  simp only [before0, before1, before2, before3, after0, after1, after2, after3, after4]
  rewrite [show (dats m hr 0 c).Φ t.succ = iprop(Pipeline.ΦA (cfgA m hr).spec c ∗ Pipeline.ΦT pre0 (tables m) c) from rfl,
    show (dats m hr 0 c).Φ t.castSucc = iprop(Pipeline.ΦA (cfgA m hr).spec c ∗ Pipeline.ΦT pre0 (tables m) c) from rfl,
    show (dats m hr 0 c).owesAt () t.succ = (dats m hr 0 c).owesAt () t.castSucc from rfl]
  rw [tables_eq]
  iintro ⟨⟨HA, HT0, HT1⟩, Ho, ⟨%d0, H0⟩, ⟨%d1, H1⟩, ⟨%d2, H2⟩, ⟨%d3, H3⟩, ⟨%d4, H4⟩⟩
  iapply (run c (crd m hr t) (ms0 m hr t) (hs0 m hr t) (ms1 m hr t) (hs1 m hr t) (ms2 m hr t) (hs2 m hr t) (ms3 m hr t) (hs3 m hr t)
    (ms4 m hr t) (hs4 m hr t) (tables m 0) (tables m 1) (iblk m hr c (0 : Fin 5) t) (iblk m hr c (1 : Fin 5) t)
    (iblk m hr c (2 : Fin 5) t) (iblk m hr c (3 : Fin 5) t) _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  iintro ⟨⟨H0, H1, H2, H3, HT0, HT1⟩, H4⟩
  isplitl [HA HT0 HT1]
  · isplitl [HA]; · iexact HA
    isplitl [HT0]; · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats m hr 0 c) (defs₀ (F := F)) Variants.none () Set.univ := fun t => by
  rw [bigSep_W0]
  exact sound_body m hr c t

/-! ## The launch -/

theorem share_eq (c : Dev nD) (w : Fin (cfgA m hr).W) : (dats m hr 0 c).share w = fullShare := by unfold Dat.share; split <;> rfl

theorem hostOps0_fresh : (hostOps0 : List (HloOp τ sig (Elt F))).Forall fun op => op.fresh = ∅ := ⟨rfl, rfl, rfl, rfl, rfl, rfl⟩

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results
theorem V_arg5 (c : Dev nD) : V m c main_arg5 = m ((c : Thread nD τ).loc main_arg5) := by unfold V; after_results

set_option backward.isDefEq.respectTransparency.types false in
set_option maxHeartbeats 4000000 in
theorem run_main : θ_run (defs (F := F)) (onTc (τ := τ) (main (F := F))) (s₀ m ρ)
    (fun r => Pipeline.FramePost (Pipeline.pin (pcfgs (F := F)) fun _ => adm m hr) (dats m hr) 0 (V m) r ∧ r.2.sem = fun _ => 0) :=
  Pipeline.θ_run_frameP (pcfgs (F := F)) (fun _ => adm m hr) (dats m hr) 0 launch0 defs₀ Variants.none m ρ main
    (hbody := fun c => (body_obligation m hr c).loose) (hshare := share_eq m hr) (howed := fun _ _ => rfl)
    (V := V m) (hmain := Pipeline.hmainP_prefix _ 0 defs₀ Variants.none m main hostOps0 hostOps0_sub hostOps0_fresh main_chain)
    (hA := fun _ _ => rfl)
    (hpf := fun c k => by
      obtain rfl : c = 0 := Subsingleton.elim _ _
      match k with
      | ⟨0, _⟩ => exact V_arg0 m 0
      | ⟨1, _⟩ => exact V_arg1 m 0)
    (hΦ := fun _ _ => rfl)
    (Q' := fun r => Pipeline.FramePost (Pipeline.pin (pcfgs (F := F)) fun _ => adm m hr) (dats m hr) 0 (V m) r ∧ r.2.sem = fun _ => 0)
    (hQ' := fun _ h => h)

theorem rest_arg0 : main_arg0 ∈ Pipeline.restRefs sig spec0 := Pipeline.mem_restRefs_of _ rfl (by decide)
theorem rest_arg1 : main_arg1 ∈ Pipeline.restRefs sig spec0 := Pipeline.mem_restRefs_of _ rfl (by decide)
theorem rest_arg3 : main_arg3 ∈ Pipeline.restRefs sig spec0 := Pipeline.mem_restRefs_of _ rfl (by decide)
theorem rest_arg4 : main_arg4 ∈ Pipeline.restRefs sig spec0 := Pipeline.mem_restRefs_of _ rfl (by decide)
theorem rest_arg5 : main_arg5 ∈ Pipeline.restRefs sig spec0 := Pipeline.mem_restRefs_of _ rfl (by decide)

/-- The run, at the arguments and at the result. -/
theorem run_args : θ_run (defs (F := F)) (onTc (τ := τ) (main (F := F))) ⟨m, fun _ => 0, ρ⟩ (fun r => (∀ c : Dev nD,
      r.2.mem ((c : Thread nD τ).loc main_v6) = (dats m hr 0 c).arrAt (4 : Fin 5) (cfgA m hr).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r h => ⟨fun c => ⟨(h.1 c).1 (4 : Fin 5),
      ((h.1 c).2 main_arg0 (rest_arg0)).trans (V_arg0 m c),
      ((h.1 c).2 main_arg1 (rest_arg1)).trans (V_arg1 m c),
      (((h.1 c).1 (0 : Fin 5)).trans ((dats m hr 0 c).arrAt_in (0 : Fin 5) rfl _)).trans (V_arg2 m c),
      ((h.1 c).2 main_arg3 (rest_arg3)).trans (V_arg3 m c),
      ((h.1 c).2 main_arg4 (rest_arg4)).trans (V_arg4 m c),
      ((h.1 c).2 main_arg5 (rest_arg5)).trans (V_arg5 m c)⟩, h.2⟩) (run_main m ρ hr)

end Cert.KernelIdeal.Ffn

end
-- ==== Proof.FfnReference.lean ====
/-
  The reference's term read at one row and one column: the sixteen experts' shares, each its gate (nothing where the
  row's tile is not in use or the expert is not of the tile's group) times its column of the second product.
-/
module

public import proofs.«01_k».proof.Proof.Gen.ReferenceIdeal.Run
public import Idealize.ShloMosaic.Lib.Pointwise
public import Idealize.ShloMosaic.Lib.Routing.Words
public import Idealize.ShloMosaic.Lib.Affine

@[expose] public section

set_option maxRecDepth 16384

noncomputable section

namespace Cert.ReferenceIdeal.Ffn

open Cert.ReferenceIdeal Cert.ReferenceIdeal.Gen
open Idealize.ShloMosaic Idealize.ShloMosaic.TcCoe Idealize.SL.Sem

/-- The reference's term over its arguments. -/
def ref (A0 : IVec S84 32) (A1 : IVec S1 32) (A2 : FVec Ideal S43008x1152 .f32) (A3 A4 : FVec Ideal S16x1024x512 .f32)
    (A5 : FVec Ideal S16x512x1024 .f32) : FVec Ideal S43008x1024 .f32 :=
  Host.reduceAdd (mulf (broadcastInDim S16x43008x1024 ![0, 1, 2] bcast_S16x43008x1_S16x43008x1024_0_1_2 (broadcastInDim S16x43008x1 ![0, 1] bcast_S16x43008_S16x43008x1_0_1 (transpose S16x43008 [1, 0] (select (andi (cmpi .eq (broadcastInDim S43008x16 ![0, 1] bcast_S1x16_S43008x16_0_1 (select (andi (cmpi .ne (signi (broadcastInDim S1x16 ![1] bcast_S16_S1x16_1 (iotaInDim S16 32 0))) (broadcastInDim S1x16 ![] bcast_S_S1x16 (signi (id (constantI S_ 32 4#32))))) (cmpi .ne (Host.remsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 0#32)))) (subi (Host.divsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 1#32))) (Host.divsi (broadcastInDim S1x16 ![1] bcast_S16_S1x16_1 (iotaInDim S16 32 0)) (broadcastInDim S1x16 ![] bcast_S_S1x16 (id (constantI S_ 32 4#32)))))) (broadcastInDim S43008x16 ![0, 1] bcast_S43008x1_S43008x16_0_1 (broadcastInDim S43008x1 ![0] bcast_S43008_S43008x1_0 (shapeCast _ (broadcastInDim S84x512 ![0, 1] bcast_S84x1_S84x512_0_1 (broadcastInDim S84x1 ![0] bcast_S84_S84x1_0 A0)) shapeCasts_S84x512_S43008)))) (broadcastInDim S43008x16 ![0, 1] bcast_S43008x1_S43008x16_0_1 (broadcastInDim S43008x1 ![0] bcast_S43008_S43008x1_0 (cmpi .slt (select (andi (cmpi .ne (signi (iotaInDim S43008 32 0)) (broadcastInDim S43008 ![] bcast_S_S43008 (signi (id (constantI S_ 32 512#32))))) (cmpi .ne (Host.remsi (iotaInDim S43008 32 0) (broadcastInDim S43008 ![] bcast_S_S43008 (id (constantI S_ 32 512#32)))) (broadcastInDim S43008 ![] bcast_S_S43008 (constantI S_ 32 0#32)))) (subi (Host.divsi (iotaInDim S43008 32 0) (broadcastInDim S43008 ![] bcast_S_S43008 (id (constantI S_ 32 512#32)))) (broadcastInDim S43008 ![] bcast_S_S43008 (constantI S_ 32 1#32))) (Host.divsi (iotaInDim S43008 32 0) (broadcastInDim S43008 ![] bcast_S_S43008 (id (constantI S_ 32 512#32))))) (broadcastInDim S43008 ![] bcast_S_S43008 (shapeCast _ A1 shapeCasts_S1_S_)))))) (extractStridedSlice S43008x16 ![0, 1024] A2 slices_S43008x1152_S43008x16_0_1024) (broadcastInDim S43008x16 ![] bcast_S_S43008x16 (id (constant S_ .f32 0x00000000#32)))) transposes_S43008x16_S16x43008_1_0))) (Host.dotGeneral dot_S43008x16x512_S16x512x1024_S16x43008x1024_2_1_0_2_1_0 none (mulf (mulf (Host.dotGeneral dot_S43008x1024_S16x1024x512_S43008x16x512_1_1_0_02_n_n none (extractStridedSlice S43008x1024 ![0, 0] A2 slices_S43008x1152_S43008x1024_0_0) A3) (Host.divf (broadcastInDim S43008x16x512 ![] bcast_S_S43008x16x512 (constant S_ .f32 0x3F800000#32)) (addf (broadcastInDim S43008x16x512 ![] bcast_S_S43008x16x512 (constant S_ .f32 0x3F800000#32)) (Host.exp (Host.negf (Host.dotGeneral dot_S43008x1024_S16x1024x512_S43008x16x512_1_1_0_02_n_n none (extractStridedSlice S43008x1024 ![0, 0] A2 slices_S43008x1152_S43008x1024_0_0) A3)))))) (Host.dotGeneral dot_S43008x1024_S16x1024x512_S43008x16x512_1_1_0_02_n_n none (extractStridedSlice S43008x1024 ![0, 0] A2 slices_S43008x1152_S43008x1024_0_0) A4)) A5)) (constant S_ .f32 0x00000000#32) reducesTo_S16x43008x1024_S43008x1024_d0 h_S_

variable (A0 : IVec S84 32) (A1 : IVec S1 32) (A2 : FVec Ideal S43008x1152 .f32) (A3 A4 : FVec Ideal S16x1024x512 .f32)
    (A5 : FVec Ideal S16x512x1024 .f32)

/-- One hidden unit of an expert: `silu(g) * u`, with `g` and `u` the row's products with two columns. -/
def hidden (x g u : Fin 1024 → EReal) : EReal :=
  (∑ a, x a * g a) * Ideal.logistic (∑ a, x a * g a) * ∑ a, x a * u a

/-- The host's spelling of a floor division reads as the quotient of the numbers. -/
theorem floor_word (u : ArithUnit) (n k : ℕ) (hn : n < 2 ^ 31) (hk : 0 < k) (hk' : k < 2 ^ 31) (s : BitVec 32) (q : BitVec 32)
    (hs : 0 < n → IntOp.cmpi .ne (if BitVec.ofNat 32 n = 0 then 0 else if (BitVec.ofNat 32 n).msb = true then -1 else 1) s = 0#1) :
    Scalar.select (IntOp.andi (IntOp.cmpi .ne (if BitVec.ofNat 32 n = 0 then 0 else if (BitVec.ofNat 32 n).msb = true then -1 else 1) s)
        (IntOp.cmpi .ne (IntOp.remsi u (BitVec.ofNat 32 n) (BitVec.ofNat 32 k)) 0#32)) q (IntOp.divsi u (BitVec.ofNat 32 n) (BitVec.ofNat 32 k))
      = BitVec.ofNat 32 (n / k) := by
  rw [Routing.remsi_word u hn hk hk', Routing.divsi_word u hn hk hk']
  unfold Scalar.select
  rw [if_neg]
  intro h
  obtain ⟨h1, h2⟩ := IntOp.andi_eq_one.1 h
  rcases Nat.eq_zero_or_pos n with rfl | h0
  · exact IntOp.cmpi_ne.1 h2 (by rw [Nat.zero_mod])
  · rw [hs h0] at h1; exact absurd h1 (by decide)

/-- A positive word below `2 ^ 31` has sign one. -/
theorem sign_word (n : ℕ) (hn : n < 2 ^ 31) (h0 : 0 < n) (s : BitVec 32) (hs : s = 1) :
    IntOp.cmpi .ne (if BitVec.ofNat 32 n = 0 then 0 else if (BitVec.ofNat 32 n).msb = true then -1 else 1) s = 0#1 := by
  have hz : ¬ BitVec.ofNat 32 n = 0 := fun h => by
    have := congrArg BitVec.toNat h
    simp only [BitVec.toNat_ofNat, Nat.mod_eq_of_lt (show n < 2 ^ 32 by omega)] at this
    exact absurd this (by simp; omega)
  have hm : ¬ (BitVec.ofNat 32 n).msb = true := by
    rw [BitVec.msb_eq_decide, decide_eq_true_eq, BitVec.toNat_ofNat, Nat.mod_eq_of_lt (show n < 2 ^ 32 by omega)]; omega
  rw [if_neg hz, if_neg hm, hs]; decide

/-- The gate the reference takes for expert `e` at row `t`. -/
def gate (t : Fin 43008) (e : Fin 16) : EReal :=
  if A0 (ix1 ⟨(t : ℕ) / 512, by omega⟩) = BitVec.ofNat 32 ((e : ℕ) / 4)
      ∧ IntOp.cmpi .slt (BitVec.ofNat 32 ((t : ℕ) / 512)) (A1 (ix1 0)) = 1#1
    then A2 (ix2 t ⟨1024 + (e : ℕ), by omega⟩) else 0

set_option maxHeartbeats 1600000 in
theorem ref_at (t : Fin 43008) (d : Fin 1024) : ref A0 A1 A2 A3 A4 A5 (ix2 t d)
    = ∑ e : Fin 16, gate A0 A1 A2 t e * ∑ j : Fin 512,
        hidden (fun a => A2 (ix2 t ⟨(a : ℕ), by omega⟩)) (fun a => A3 (ix3 e a j)) (fun a => A4 (ix3 e a j)) * A5 (ix3 e j d) := by
  pointwise [ref, id_eq]
  refine Finset.sum_congr rfl fun e _ => ?_
  have he := fun q => floor_word .host e 4 (by omega) (by decide) (by decide) _ q fun h => sign_word _ (by omega) h _ rfl
  have ht := fun q => floor_word .host t 512 (by omega) (by decide) (by decide) _ q fun h => sign_word _ (by omega) h _ rfl
  unfold gate
  rw [ite_mul, zero_mul]
  refine (congrArg (fun w => Scalar.select w _ _) (congrArg₂ IntOp.andi
    (congrArg (fun w => IntOp.cmpi .eq w _) (he _)) (congrArg (fun w => IntOp.cmpi .slt w _) (ht _)))).trans ?_
  exact if_congr (IntOp.andi_eq_one.trans (and_congr (IntOp.cmpi_eq.trans eq_comm) Iff.rfl)) rfl rfl

/-- A number from zero up that is not infinite goes into a sum. -/
theorem mul_sum {n : ℕ} (g : EReal) (h0 : 0 ≤ g) (h1 : g ≠ ⊤) (f : Fin n → EReal) : g * ∑ j, f j = ∑ j, g * f j := by
  induction n with
  | zero => simp
  | succ n ih => rw [Fin.sum_univ_succ, Fin.sum_univ_succ, EReal.left_distrib_of_nonneg_of_ne_top h0 h1, ih]

/-- A row whose tile is not in use: nothing. -/
theorem ref_idle (t : Fin 43008) (d : Fin 1024)
    (hu : ¬ IntOp.cmpi .slt (BitVec.ofNat 32 ((t : ℕ) / 512)) (A1 (ix1 0)) = 1#1) : ref A0 A1 A2 A3 A4 A5 (ix2 t d) = (0 : EReal) := by
  rw [ref_at]
  refine Finset.sum_eq_zero fun e _ => ?_
  unfold gate
  rw [if_neg fun h => hu h.2]
  exact zero_mul _

/-- A row whose tile is in use: the four experts of the tile's group, each gate inside its expert's sum. -/
theorem ref_used (t : Fin 43008) (d : Fin 1024) (p : Fin 84) (hp : p = ⟨(t : ℕ) / 512, by omega⟩) (hg : (A0 (ix1 p)).toNat < 4)
    (hu : IntOp.cmpi .slt (BitVec.ofNat 32 ((t : ℕ) / 512)) (A1 (ix1 0)) = 1#1)
    (h0 : ∀ e : Fin 16, (0 : EReal) ≤ A2 (ix2 t ⟨1024 + (e : ℕ), by omega⟩))
    (h1 : ∀ e : Fin 16, A2 (ix2 t ⟨1024 + (e : ℕ), by omega⟩) ≠ (⊤ : EReal)) :
    ref A0 A1 A2 A3 A4 A5 (ix2 t d) = ∑ k : Fin 4, ∑ j : Fin 512,
      (hidden (fun a => A2 (ix2 t ⟨(a : ℕ), by omega⟩)) (fun a => A3 (ix3 ⟨(A0 (ix1 p)).toNat * 4 + k, by omega⟩ a j))
          (fun a => A4 (ix3 ⟨(A0 (ix1 p)).toNat * 4 + k, by omega⟩ a j)) * A2 (ix2 t ⟨1024 + ((A0 (ix1 p)).toNat * 4 + k), by omega⟩))
        * A5 (ix3 ⟨(A0 (ix1 p)).toNat * 4 + k, by omega⟩ j d) := by
  subst hp
  rw [ref_at, Fin.sum_univ_tiles 4 4 rfl, Finset.sum_eq_single (⟨(A0 (ix1 ⟨(t : ℕ) / 512, by omega⟩)).toNat, hg⟩ : Fin 4)]
  · refine Finset.sum_congr rfl fun k _ => ?_
    unfold gate
    rw [if_pos ⟨by rw [← BitVec.toNat_inj, BitVec.toNat_ofNat]; simp only; omega, hu⟩, mul_sum _ (h0 _) (h1 _)]
    exact Finset.sum_congr rfl fun j _ => by rw [← mul_assoc, mul_comm (A2 _) (hidden _ _ _)]
  · intro g _ hne
    refine Finset.sum_eq_zero fun k _ => ?_
    unfold gate
    rw [if_neg]
    · exact zero_mul _
    · rintro ⟨h, -⟩
      refine hne (Fin.ext ?_)
      have := congrArg BitVec.toNat h
      rw [BitVec.toNat_ofNat] at this
      simp only at this ⊢
      omega
  · intro h; exact absurd (Finset.mem_univ _) h

/-- The term at equal arguments. -/
theorem ref_congr {B0 : IVec S84 32} {B1 : IVec S1 32} {B2 : FVec Ideal S43008x1152 .f32} {B3 B4 : FVec Ideal S16x1024x512 .f32}
    {B5 : FVec Ideal S16x512x1024 .f32} (h0 : A0 = B0) (h1 : A1 = B1) (h2 : A2 = B2) (h3 : A3 = B3) (h4 : A4 = B4) (h5 : A5 = B5) :
    ref A0 A1 A2 A3 A4 A5 = ref B0 B1 B2 B3 B4 B5 := by
  subst h0 h1 h2 h3 h4 h5; rfl

/-- The reference's run, at that term. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.ReferenceIdeal.Value.run m ρ

end Cert.ReferenceIdeal.Ffn

end
-- ==== Proof.FfnTile.lean ====
/-
  What the body leaves at one tile, read at one row and one column: of a tile in use the sum over the four experts of
  its group, each hidden unit times the row's gate; zeros of a tile not in use.
-/
module

public import proofs.«01_k».proof.Proof.FfnRun
public import proofs.«01_k».proof.Proof.FfnReference
public import Idealize.ShloMosaic.Lib.Pipeline.ValueKit
public import Idealize.ShloMosaic.Lib.Pointwise

@[expose] public section

set_option maxRecDepth 16384

noncomputable section

namespace Cert.KernelIdeal.Ffn

open Cert.KernelIdeal Cert.KernelIdeal.Gen
open Idealize.ShloMosaic Idealize.ShloMosaic.TcCoe Idealize.SL.Sem

section
variable (c : Dev nD) (i : grid0.Coords)
  (xs : Memref sig .tc .vmem S512x1152 .f32) (hxs : xs.IsWhole)
  (wg : Memref sig .tc .vmem S1x4x1024x512 .bf16) (hwg : wg.IsWhole)
  (wu : Memref sig .tc .vmem S1x4x1024x512 .bf16) (hwu : wu.IsWhole)
  (wd : Memref sig .tc .vmem S1x4x512x1024 .bf16) (hwd : wd.IsWhole)
  (ys : Memref sig .tc .vmem S512x1024 .f32) (hys : ys.IsWhole)
  (T0 : S84.Idx → Elt Ideal .i32) (T1 : S1.Idx → Elt Ideal .i32)
  (x0 : S512x1152.Idx → Elt Ideal .f32) (x1 : S1x4x1024x512.Idx → Elt Ideal .bf16)
  (x2 : S1x4x1024x512.Idx → Elt Ideal .bf16) (x3 : S1x4x512x1024.Idx → Elt Ideal .bf16)

/-- The group of tile `i`, as the body loads it. -/
abbrev groupOf : BitVec 32 := View.read (Elt Ideal) (View.whole main_arg0) T0 (ix1 ⟨k0_off2 i 0, k0_off2_inb i 0⟩)

open Cert.ReferenceIdeal.Ffn (hidden)

/-- The lane of expert `k` of a group. -/
theorem lane_word (g : BitVec 32) (hg : g.toNat < 4) (k : ℕ) (hk : k < 4) (l : Fin 128) :
    BitVec.ofNat 32 (l : ℕ) = Scalar.addi (Scalar.muli g 4#32) (BitVec.ofNat 32 k) ↔ l = ⟨g.toNat * 4 + k, by omega⟩ := by
  rw [← BitVec.toNat_inj, Fin.ext_iff]
  simp only [Scalar.addi, Scalar.muli, IntOp.addi, IntOp.muli, BitVec.toNat_add, BitVec.toNat_mul, BitVec.toNat_ofNat]
  omega

/-- The gate picked out of the 128 lanes. -/
theorem gate_sum (g : BitVec 32) (hg : g.toNat < 4) (k : ℕ) (hk : k < 4) (f : Fin 128 → EReal) :
    ∑ l : Fin 128, Scalar.select (IntOp.cmpi .eq (BitVec.ofNat 32 (l : ℕ)) (Scalar.addi (Scalar.muli g 4#32) (BitVec.ofNat 32 k))) (f l) 0
      = f ⟨g.toNat * 4 + k, by omega⟩ := by
  unfold Scalar.select
  rw [Finset.sum_eq_single (⟨g.toNat * 4 + k, by omega⟩ : Fin 128)]
  · exact if_pos (IntOp.cmpi_eq.2 ((lane_word g hg k hk _).2 rfl))
  · exact fun l _ hne => if_neg fun h => hne ((lane_word g hg k hk _).1 (IntOp.cmpi_eq.1 h))
  · exact fun h => absurd (Finset.mem_univ _) h

set_option maxHeartbeats 1600000 in
theorem used_at (h1 : k0_cond1 i (used T1) = 1#1) (h2) (g : BitVec 32) (hgt : groupOf i T0 = g) (hg : g.toNat < 4) (r : Fin 512) (d : Fin 1024) :
    outView.read (Elt Ideal) (outView.writes (Elt Ideal) outView.junk
      (runUsed c i xs hxs wg hwg wu hwu wd hwd ys hys T0 T1 x0 x1 x2 x3 h1 h2).1) (ix2 r d)
      = ∑ k : Fin 4, ∑ j : Fin 512,
        ((hidden (fun a => x0 (ix2 r ⟨(a : ℕ), by omega⟩)) (fun a => x1 (ix4 0 k a j)) (fun a => x2 (ix4 0 k a j)) : EReal)
          * x0 (ix2 r ⟨1024 + (g.toNat * 4 + k), by omega⟩)) * x3 (ix4 0 k j d) := by
  unfold runUsed
  dsimp only
  frame_out
  pointwise [k0_pay1, k0_pay3, k0_pay4, k0_pay5, k0_pay6, k0_pay7, k0_pay8, k0_pay9, k0_pay10, k0_pay11, View.read_rep]
  rw [show View.read (Elt Ideal) (View.whole main_arg0) T0 (ix1 ⟨k0_off2 i 0, k0_off2_inb i 0⟩) = g from hgt,
    gate_sum g hg 0 (by decide) fun l => x0 (ix2 r ⟨1024 + (l : ℕ), by omega⟩),
    gate_sum g hg 1 (by decide) fun l => x0 (ix2 r ⟨1024 + (l : ℕ), by omega⟩),
    gate_sum g hg 2 (by decide) fun l => x0 (ix2 r ⟨1024 + (l : ℕ), by omega⟩),
    gate_sum g hg 3 (by decide) fun l => x0 (ix2 r ⟨1024 + (l : ℕ), by omega⟩), Fin.sum_univ_four]
  rfl

theorem idle_at (h1) (h2 : k0_cond2 i (used T1) = 1#1) (r : Fin 512) (d : Fin 1024) :
    outView.read (Elt Ideal) (outView.writes (Elt Ideal) outView.junk
      (runIdle c i xs hxs wg hwg wu hwu wd hwd ys hys T0 T1 x0 x1 x2 x3 h1 h2).1) (ix2 r d) = (0 : EReal) := by
  unfold runIdle
  dsimp only
  frame_out
  pointwise [k0_pay2]

end

end Cert.KernelIdeal.Ffn

end
-- ==== Proof.FfnValue.lean ====
/-
  The array the expert feed-forward leaves: the reference's term over the same arguments. Each tile writes its own block
  of rows; its group's weights are the blocks the tables name, and over the extended reals the casts of the weights
  change nothing.
-/
module

public import proofs.«01_k».proof.Proof.FfnTile

@[expose] public section

set_option maxRecDepth 16384

noncomputable section

namespace Cert.KernelIdeal.Ffn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (hr : InRange (tables m 0))

/-! ## The arrays the windows read -/

theorem V_v1 (c : Dev nD) : V m c main_v1
    = (shapeCast S4x4x1024x512 (truncf .bf16 (m ((c : Thread nD τ).loc main_arg3) : FVec Ideal S16x1024x512 .f32) bitsLt_bf16_f32) shapeCasts_S16x1024x512_S4x4x1024x512 : FVec Ideal S4x4x1024x512 .bf16) := by
  unfold V; after_results; rfl
theorem V_v3 (c : Dev nD) : V m c main_v3
    = (shapeCast S4x4x1024x512 (truncf .bf16 (m ((c : Thread nD τ).loc main_arg4) : FVec Ideal S16x1024x512 .f32) bitsLt_bf16_f32) shapeCasts_S16x1024x512_S4x4x1024x512 : FVec Ideal S4x4x1024x512 .bf16) := by
  unfold V; after_results; rfl
theorem V_v5 (c : Dev nD) : V m c main_v5
    = (shapeCast S4x4x512x1024 (truncf .bf16 (m ((c : Thread nD τ).loc main_arg5) : FVec Ideal S16x512x1024 .f32) bitsLt_bf16_f32) shapeCasts_S16x512x1024_S4x4x512x1024 : FVec Ideal S4x4x512x1024 .bf16) := by
  unfold V; after_results; rfl

/-! ## Where the blocks sit -/

theorem coord (t : Fin grid0.N) : ((grid0.coords t) 0 : ℕ) = t := (by decide +kernel : ∀ t : Fin grid0.N, ((grid0.coords t) 0 : ℕ) = t) t
theorem rows (t : Fin grid0.N) : cc0_transform_0 (grid0.coords t) = ![(t : ℕ), 0] := (by decide +kernel : ∀ t : Fin grid0.N, cc0_transform_0 (grid0.coords t) = ![(t : ℕ), 0]) t
theorem rowsOut (t : Fin grid0.N) : cc0_transform_4 (grid0.coords t) = ![(t : ℕ), 0] := (by decide +kernel : ∀ t : Fin grid0.N, cc0_transform_4 (grid0.coords t) = ![(t : ℕ), 0]) t
theorem flushes (t : Fin grid0.N) : Pipeline.Window.flushOf grid0 true cc0_transform_4 t = true := (by decide +kernel : ∀ t : Fin grid0.N, Pipeline.Window.flushOf grid0 true cc0_transform_4 t = true) t

theorem covers : ((cfgA m hr).win (4 : Fin 5)).Covers := by
  refine ⟨fun a => ?_, fun β => ?_⟩
  · match a with
    | ⟨0, _⟩ => exact (by decide : 0 < 512)
    | ⟨1, _⟩ => exact (by decide : 0 < 1024)
  · have h0 : (β (0 : Fin 2) : ℕ) < (43008 + 512 - 1) / 512 := (β (0 : Fin 2)).isLt
    have h1 : (β (1 : Fin 2) : ℕ) < (1024 + 1024 - 1) / 1024 := (β (1 : Fin 2)).isLt
    refine ⟨(⟨(β (0 : Fin 2) : ℕ), by rw [N_0]; exact h0⟩ : Fin grid0.N), flushes _, fun a => ⟨?_, .inl ?_⟩⟩
    · refine (congrFun (rowsOut _) a).trans ?_
      match a with
      | ⟨0, _⟩ => rfl
      | ⟨1, _⟩ => exact (show (0 : ℕ) = β (1 : Fin 2) by omega)
    · rfl

theorem in_at (A : FVec Ideal S16x1024x512 .f32) (g k : Fin 4) (a : Fin 1024) (j : Fin 512) :
    shapeCast S4x4x1024x512 (truncf .bf16 A bitsLt_bf16_f32) shapeCasts_S16x1024x512_S4x4x1024x512 (ix4 g k a j)
      = A (ix3 (⟨(g : ℕ) * 4 + k, by omega⟩ : Fin 16) a j) := by
  pointwise
theorem out_at (A : FVec Ideal S16x512x1024 .f32) (g k : Fin 4) (j : Fin 512) (a : Fin 1024) :
    shapeCast S4x4x512x1024 (truncf .bf16 A bitsLt_bf16_f32) shapeCasts_S16x512x1024_S4x4x512x1024 (ix4 g k j a)
      = A (ix3 (⟨(g : ℕ) * 4 + k, by omega⟩ : Fin 16) j a) := by
  pointwise

theorem blk0 (c : Dev nD) (t : Fin (cfgA m hr).N) (r : Fin 512) (a : Fin 1152) (ht : (t : ℕ) < 84) :
    iblk m hr c (0 : Fin 5) t (ix2 r a) = m ((c : Thread nD τ).loc main_arg2) (ix2 (⟨(t : ℕ) * 512 + r, by omega⟩ : Fin 43008) a) := by
  unfold iblk
  blk_simp
  rw [V_arg2]
  refine congrArg _ (funext fun x => Fin.ext ?_)
  have e : ((cfgA m hr).win (0 : Fin 5)).index t = ![(t : ℕ), 0] := rows t
  match x with
  | ⟨0, _⟩ => blk_simp [e]
  | ⟨1, _⟩ => blk_simp [e]

theorem blk1 (c : Dev nD) (t : Fin (cfgA m hr).N) (k : Fin 4) (a : Fin 1024) (j : Fin 512) (g : BitVec 32)
    (hgt : groupAt (tables m) (crd m hr t) = g) (hg : g.toNat < 4) :
    iblk m hr c (1 : Fin 5) t (ix4 0 k a j) = m ((c : Thread nD τ).loc main_arg3) (ix3 (⟨g.toNat * 4 + k, by omega⟩ : Fin 16) a j) := by
  unfold iblk
  blk_simp
  refine Eq.trans ?_ (in_at (m ((c : Thread nD τ).loc main_arg3)) ⟨g.toNat, hg⟩ k a j)
  rw [V_v1]
  refine congrArg _ (funext fun x => Fin.ext ?_)
  have e : ((cfgA m hr).win (1 : Fin 5)).index t = ![g.toNat, 0, 0, 0] := by rw [← hgt]; rfl
  match x with
  | ⟨0, _⟩ => blk_simp [e]; rfl
  | ⟨1, _⟩ => blk_simp [e]
  | ⟨2, _⟩ => blk_simp [e]
  | ⟨3, _⟩ => blk_simp [e]

theorem blk2 (c : Dev nD) (t : Fin (cfgA m hr).N) (k : Fin 4) (a : Fin 1024) (j : Fin 512) (g : BitVec 32)
    (hgt : groupAt (tables m) (crd m hr t) = g) (hg : g.toNat < 4) :
    iblk m hr c (2 : Fin 5) t (ix4 0 k a j) = m ((c : Thread nD τ).loc main_arg4) (ix3 (⟨g.toNat * 4 + k, by omega⟩ : Fin 16) a j) := by
  unfold iblk
  blk_simp
  refine Eq.trans ?_ (in_at (m ((c : Thread nD τ).loc main_arg4)) ⟨g.toNat, hg⟩ k a j)
  rw [V_v3]
  refine congrArg _ (funext fun x => Fin.ext ?_)
  have e : ((cfgA m hr).win (2 : Fin 5)).index t = ![g.toNat, 0, 0, 0] := by rw [← hgt]; rfl
  match x with
  | ⟨0, _⟩ => blk_simp [e]; rfl
  | ⟨1, _⟩ => blk_simp [e]
  | ⟨2, _⟩ => blk_simp [e]
  | ⟨3, _⟩ => blk_simp [e]

theorem blk3 (c : Dev nD) (t : Fin (cfgA m hr).N) (k : Fin 4) (j : Fin 512) (a : Fin 1024) (g : BitVec 32)
    (hgt : groupAt (tables m) (crd m hr t) = g) (hg : g.toNat < 4) :
    iblk m hr c (3 : Fin 5) t (ix4 0 k j a) = m ((c : Thread nD τ).loc main_arg5) (ix3 (⟨g.toNat * 4 + k, by omega⟩ : Fin 16) j a) := by
  unfold iblk
  blk_simp
  refine Eq.trans ?_ (out_at (m ((c : Thread nD τ).loc main_arg5)) ⟨g.toNat, hg⟩ k j a)
  rw [V_v5]
  refine congrArg _ (funext fun x => Fin.ext ?_)
  have e : ((cfgA m hr).win (3 : Fin 5)).index t = ![g.toNat, 0, 0, 0] := by rw [← hgt]; rfl
  match x with
  | ⟨0, _⟩ => blk_simp [e]; rfl
  | ⟨1, _⟩ => blk_simp [e]
  | ⟨2, _⟩ => blk_simp [e]
  | ⟨3, _⟩ => blk_simp [e]

theorem off1 (t : Fin grid0.N) : k0_off1 (grid0.coords t) = ![(t : ℕ)] := (by decide +kernel : ∀ t : Fin grid0.N, k0_off1 (grid0.coords t) = ![(t : ℕ)]) t
theorem off2 (t : Fin grid0.N) : k0_off2 (grid0.coords t) = ![(t : ℕ)] := (by decide +kernel : ∀ t : Fin grid0.N, k0_off2 (grid0.coords t) = ![(t : ℕ)]) t

/-- The group the windows' maps read and the one the body reads are the table's word at the tile. -/
theorem groupAt_eq (t : Fin (cfgA m hr).N) (ht : (t : ℕ) < 84) :
    groupAt (tables m) (crd m hr t) = m (((0 : Dev nD) : Thread nD τ).loc main_arg0) (ix1 (⟨(t : ℕ), ht⟩ : Fin 84)) := by
  refine congrArg (m (((0 : Dev nD) : Thread nD τ).loc main_arg0)) (funext fun x => Fin.ext ?_)
  match x with
  | ⟨0, _⟩ => exact (Nat.add_zero _).trans (congrFun (off1 t) 0)

theorem groupOf_eq (t : Fin (cfgA m hr).N) (ht : (t : ℕ) < 84) :
    groupOf (crd m hr t) (tables m 0) = m (((0 : Dev nD) : Thread nD τ).loc main_arg0) (ix1 (⟨(t : ℕ), ht⟩ : Fin 84)) := by
  refine congrArg (m (((0 : Dev nD) : Thread nD τ).loc main_arg0)) (funext fun x => Fin.ext ?_)
  match x with
  | ⟨0, _⟩ => exact congrFun (off2 t) 0

theorem used_eq : used (tables m 1) = m (((0 : Dev nD) : Thread nD τ).loc main_arg1) (ix1 (0 : Fin 1)) := by
  refine congrArg (m (((0 : Dev nD) : Thread nD τ).loc main_arg1)) (funext fun x => ?_)
  match x with
  | ⟨0, _⟩ => exact Subsingleton.elim (α := Fin 1) _ _

theorem cond_iff (t : Fin grid0.N) (w : BitVec 32) :
    k0_cond1 (grid0.coords t) w = 1#1 ↔ IntOp.cmpi .slt (BitVec.ofNat 32 (t : ℕ)) w = 1#1 := by
  unfold k0_cond1
  simp only [Scalar.cmpi, Scalar.extui, IntOp.cmpi, coord]
  rcases (BitVec.ofNat 32 (t : ℕ)).slt w with _ | _ <;> decide

open Cert.ReferenceIdeal.Ffn (ref ref_used ref_idle hidden)

/-- The gates of a row, columns 1024 to 1039, are numbers from zero up, none infinite. -/
def Gates (A : FVec Ideal S43008x1152 .f32) : Prop :=
  ∀ (t : Fin 43008) (e : Fin 16), (0 : EReal) ≤ A (ix2 t ⟨1024 + (e : ℕ), by omega⟩) ∧ A (ix2 t ⟨1024 + (e : ℕ), by omega⟩) ≠ (⊤ : EReal)

/-- A tile, over any blocks that are the arguments' at its place. -/
theorem tile_eq (c : Dev nD) (i : grid0.Coords)
    (xs : Memref sig .tc .vmem S512x1152 .f32) (hxs : xs.IsWhole)
    (wg : Memref sig .tc .vmem S1x4x1024x512 .bf16) (hwg : wg.IsWhole)
    (wu : Memref sig .tc .vmem S1x4x1024x512 .bf16) (hwu : wu.IsWhole)
    (wd : Memref sig .tc .vmem S1x4x512x1024 .bf16) (hwd : wd.IsWhole)
    (ys : Memref sig .tc .vmem S512x1024 .f32) (hys : ys.IsWhole)
    (T0 : S84.Idx → Elt Ideal .i32) (T1 : S1.Idx → Elt Ideal .i32)
    (x0 : S512x1152.Idx → Elt Ideal .f32) (x1 : S1x4x1024x512.Idx → Elt Ideal .bf16)
    (x2 : S1x4x1024x512.Idx → Elt Ideal .bf16) (x3 : S1x4x512x1024.Idx → Elt Ideal .bf16)
    (A0 : IVec S84 32) (A1 : IVec S1 32) (A2 : FVec Ideal S43008x1152 .f32) (A3 A4 : FVec Ideal S16x1024x512 .f32)
    (A5 : FVec Ideal S16x512x1024 .f32) (p : Fin 84)
    (hc : ∀ w, k0_cond1 i w = 1#1 ↔ IntOp.cmpi .slt (BitVec.ofNat 32 (p : ℕ)) w = 1#1)
    (h0 : groupOf i T0 = A0 (ix1 p)) (h1 : used T1 = A1 (ix1 0)) (hg : (A0 (ix1 p)).toNat < 4) (hv : Gates A2)
    (b0 : ∀ (r : Fin 512) (a : Fin 1152), x0 (ix2 r a) = A2 (ix2 (⟨(p : ℕ) * 512 + r, by omega⟩ : Fin 43008) a))
    (b1 : ∀ (k : Fin 4) (a : Fin 1024) (j : Fin 512), x1 (ix4 0 k a j) = A3 (ix3 (⟨(A0 (ix1 p)).toNat * 4 + k, by omega⟩ : Fin 16) a j))
    (b2 : ∀ (k : Fin 4) (a : Fin 1024) (j : Fin 512), x2 (ix4 0 k a j) = A4 (ix3 (⟨(A0 (ix1 p)).toNat * 4 + k, by omega⟩ : Fin 16) a j))
    (b3 : ∀ (k : Fin 4) (j : Fin 512) (a : Fin 1024), x3 (ix4 0 k j a) = A5 (ix3 (⟨(A0 (ix1 p)).toNat * 4 + k, by omega⟩ : Fin 16) j a))
    (r : Fin 512) (d : Fin 1024) :
    left c i xs hxs wg hwg wu hwu wd hwd ys hys T0 T1 x0 x1 x2 x3 (ix2 r d)
      = ref A0 A1 A2 A3 A4 A5 (ix2 (⟨(p : ℕ) * 512 + r, by omega⟩ : Fin 43008) d) := by
  have hq : p = ⟨((p : ℕ) * 512 + r) / 512, by omega⟩ := Fin.ext (by simp only; omega)
  have hn : ((p : ℕ) * 512 + r) / 512 = p := by omega
  unfold left
  split
  · rename_i h
    refine (used_at _ _ _ _ _ _ _ _ _ _ _ _ _ _ _ _ _ _ _ _ _ h0 hg r d).trans ?_
    refine Eq.trans ?_ (ref_used _ _ _ _ _ _ _ _ p hq hg (by simp only [hn]; rw [← h1]; exact (hc _).1 h)
      (fun e => (hv _ e).1) (fun e => (hv _ e).2)).symm
    refine Finset.sum_congr rfl fun k _ => Finset.sum_congr rfl fun j _ => ?_
    simp only [b0, b1, b2, b3]
  · rename_i h
    refine (idle_at _ _ _ _ _ _ _ _ _ _ _ _ _ _ _ _ _ _ _ _ r d).trans (ref_idle _ _ _ _ _ _ _ _ ?_).symm
    simp only [hn]; rw [← h1]; exact fun h' => h ((hc _).2 h')

/-- The reference's term over the kernel's arguments. -/
abbrev result (c : Dev nD) : FVec Ideal S43008x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem point (hv : ∀ c : Dev nD, Gates (m ((c : Thread nD τ).loc main_arg2))) (c : Dev nD) (t : Fin (cfgA m hr).N) (ht : (t : ℕ) < 84)
    (r : Fin 512) (d : Fin 1024) :
    leftAt m hr c t (ix2 r d) = result m c (ix2 (⟨(t : ℕ) * 512 + r, by omega⟩ : Fin 43008) d) := by
  obtain rfl : c = 0 := Subsingleton.elim _ _
  exact tile_eq 0 (crd m hr t) (ms0 m hr t) (hs0 m hr t) (ms1 m hr t) (hs1 m hr t) (ms2 m hr t) (hs2 m hr t) (ms3 m hr t) (hs3 m hr t)
    (ms4 m hr t) (hs4 m hr t) (tables m 0) (tables m 1) (iblk m hr 0 (0 : Fin 5) t) (iblk m hr 0 (1 : Fin 5) t)
    (iblk m hr 0 (2 : Fin 5) t) (iblk m hr 0 (3 : Fin 5) t) _ _ _ _ _ _ ⟨(t : ℕ), ht⟩ (cond_iff t) (groupOf_eq m hr t ht) (used_eq m) (hr _) (hv 0)
    (fun r a => blk0 m hr 0 t r a ht) (fun k a j => blk1 m hr 0 t k a j _ (groupAt_eq m hr t ht) (hr _))
    (fun k a j => blk2 m hr 0 t k a j _ (groupAt_eq m hr t ht) (hr _)) (fun k j a => blk3 m hr 0 t k j a _ (groupAt_eq m hr t ht) (hr _)) r d

/-- The result array after the run. -/
theorem final (hv : ∀ c : Dev nD, Gates (m ((c : Thread nD τ).loc main_arg2))) (c : Dev nD) :
    (dats m hr 0 c).arrAt (4 : Fin 5) (cfgA m hr).N = result m c := by
  refine (dats m hr 0 c).arrAt_eq_of_covers (4 : Fin 5) _ (covers m hr) fun t _ y => ?_
  blk_simp
  rw [after4]
  have ht : (t : ℕ) < 84 := lt_of_lt_of_eq t.isLt N_0
  have e : ((cfgA m hr).win (4 : Fin 5)).index t = ![(t : ℕ), 0] := rowsOut t
  have hy : y = (ix2 (y (0 : Fin 2)) (y (1 : Fin 2)) : S512x1024.Idx) := eq_ix2 (y : S512x1024.Idx)
  rw [hy]
  refine (point m hr hv c t ht (y (0 : Fin 2)) (y (1 : Fin 2))).trans (congrArg (result m c) (funext fun x => Fin.ext ?_))
  match x with
  | ⟨0, _⟩ => blk_simp [e]
  | ⟨1, _⟩ => blk_simp [e]

include hr in
/-- The run, at the reference's term. -/
theorem run_result (ρ : Dev nD → PrngReg) (hv : ∀ c : Dev nD, Gates (m ((c : Thread nD τ).loc main_arg2))) :
    θ_run (defs (F := Ideal)) (onTc (τ := τ) (main (F := Ideal))) ⟨m, fun _ => 0, ρ⟩ (fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  θ_run_mono (run_args m ρ hr) fun _ h c => ⟨(h.1 c).1.trans (final m hr hv c), (h.1 c).2⟩

end Cert.KernelIdeal.Ffn

end
-- ==== Proof.InProjSpec.lean ====
/-
  The input projection of one row, over the extended reals: the norm with its shift and scale, the product with the
  weights, the norm over a head's 64 columns, and the rotation of the position's angles. Each in the reference's form
  and in the form that works on 512 columns at once, and the two forms equal.
-/
module

public import Idealize.ShloMosaic.Lib.Pipeline.ValueKit
public import Idealize.ShloMosaic.Lib.Pointwise

@[expose] public section

noncomputable section

namespace Cert.InProj

open Idealize.ShloMosaic

theorem sixtyFour : Ideal.ofBits .f32 0x42800000#32 = ((64 : ℝ) : EReal) := by
  simp [Ideal.ofBits, Ideal.ieee, -EReal.coe_mul]; norm_num
theorem sixtyFourth : Ideal.ofBits .f32 0x3C800000#32 = ((1 / 64 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num

/-- One eighth, the attention's scale. -/
abbrev scale : EReal := Ideal.ofBits .f32 0x3E000000#32
/-- The small number under each root. -/
abbrev eps : EReal := Ideal.ofBits .f32 0x358637BD#32

/-- A row normed over its 1024 columns, then scaled and shifted. -/
def scaled (x g sc sh : Fin 1024 → EReal) (a : Fin 1024) : EReal :=
  x a * Ideal.rsqrt (Ideal.div (∑ b, x b * x b) (Ideal.ofBits .f32 0x44800000#32) + eps) * g a * (1 + sc a) + sh a

/-- A row times the weights. -/
def proj (h : Fin 1024 → EReal) (W : Fin 1024 → Fin 2048 → EReal) (j : Fin 2048) : EReal := ∑ a, h a * W a j

/-- The root's argument of a head, column `j` being in it. -/
def headRoot (p : Fin 512 → EReal) (j : Fin 512) : EReal :=
  Ideal.rsqrt (Ideal.div (∑ d : Fin 64, p ⟨j.val / 64 * 64 + d.val, by omega⟩ * p ⟨j.val / 64 * 64 + d.val, by omega⟩)
    (Ideal.ofBits .f32 0x42800000#32) + eps)

/-- A row normed head by head. -/
def headNorm (p : Fin 512 → EReal) (g : Fin 64 → EReal) (j : Fin 512) : EReal :=
  p j * headRoot p j * g ⟨j.val % 64, by omega⟩

/-- A row turned head by head: the first 32 columns of a head against its last 32. -/
def turned (t : Fin 512 → EReal) (c s : Fin 32 → EReal) (j : Fin 512) : EReal :=
  if h : j.val % 64 < 32 then
    t j * c ⟨j.val % 32, by omega⟩ - t ⟨j.val + 32, by omega⟩ * s ⟨j.val % 32, by omega⟩
  else
    t ⟨j.val - 32, by omega⟩ * s ⟨j.val % 32, by omega⟩ + t j * c ⟨j.val % 32, by omega⟩

/-- The norm head by head, by a matrix that sums each head's columns. -/
def normAll (p : Fin 512 → EReal) (ones : Fin 512 → Fin 512 → EReal) (g : Fin 512 → EReal) (j : Fin 512) : EReal :=
  p j * Ideal.rsqrt ((∑ x, p x * p x * ones x j) * Ideal.ofBits .f32 0x3C800000#32 + eps) * g j

/-- The turn of all heads, by two shifts of the whole row. -/
def turnAll (t c lo hi : Fin 512 → EReal) (j : Fin 512) : EReal :=
  t j * c j + t ⟨(j.val + 512 - 480) % 512, by omega⟩ * lo j + t ⟨(j.val + 512 - 32) % 512, by omega⟩ * hi j

theorem sum_head (f : Fin 512 → EReal) (j : Fin 512) :
    ∑ x : Fin 512, f x * (if x.val / 64 = j.val / 64 then 1 else 0) = ∑ d : Fin 64, f ⟨j.val / 64 * 64 + d.val, by omega⟩ := by
  refine (Fintype.sum_equiv (finProdFinEquiv (m := 8) (n := 64)) (fun y => f (finProdFinEquiv y) * (if (finProdFinEquiv y).val / 64 = j.val / 64 then 1 else 0)) _
    fun y => rfl).symm.trans ?_
  rw [Fintype.sum_prod_type, Finset.sum_eq_single (⟨j.val / 64, by omega⟩ : Fin 8)]
  · refine Finset.sum_congr rfl fun d _ => ?_
    have e : (finProdFinEquiv ((⟨j.val / 64, by omega⟩ : Fin 8), d) : Fin (8 * 64)) = (⟨j.val / 64 * 64 + d.val, by omega⟩ : Fin 512) :=
      Fin.ext (by simp only [finProdFinEquiv_apply_val]; omega)
    rw [if_pos (by simp only [finProdFinEquiv_apply_val]; omega), mul_one]
    exact congrArg f e
  · intro h _ hne
    refine Finset.sum_eq_zero fun d _ => ?_
    rw [if_neg, mul_zero]
    intro he
    refine hne (Fin.ext ?_)
    simp only [finProdFinEquiv_apply_val] at he ⊢
    omega
  · exact fun h => absurd (Finset.mem_univ _) h

theorem normAll_eq (p : Fin 512 → EReal) (ones : Fin 512 → Fin 512 → EReal) (g : Fin 512 → EReal)
    (ho : ∀ x j, ones x j = if x.val / 64 = j.val / 64 then 1 else 0) (j : Fin 512) :
    normAll p ones g j = p j * headRoot p j * g j := by
  unfold normAll headRoot
  simp only [ho]
  rw [sum_head (fun x => p x * p x) j, sixtyFourth, sixtyFour, Ideal.div_coe (by norm_num)]

theorem normAll_unit (p : Fin 512 → EReal) (ones : Fin 512 → Fin 512 → EReal) (g : Fin 512 → EReal) (g' : Fin 64 → EReal)
    (ho : ∀ x j, ones x j = if x.val / 64 = j.val / 64 then 1 else 0) (hg : ∀ j, g j = g' ⟨j.val % 64, by omega⟩) :
    normAll p ones g = headNorm p g' :=
  funext fun j => (normAll_eq p ones g ho j).trans (by rw [hg]; rfl)

theorem normAll_scale (p : Fin 512 → EReal) (ones : Fin 512 → Fin 512 → EReal) (g : Fin 512 → EReal) (g' : Fin 64 → EReal)
    (ho : ∀ x j, ones x j = if x.val / 64 = j.val / 64 then 1 else 0) (hg : ∀ j, g j = g' ⟨j.val % 64, by omega⟩ * scale) :
    normAll p ones g = fun j => headNorm p g' j * scale :=
  funext fun j => (normAll_eq p ones g ho j).trans (by rw [hg]; exact (mul_assoc _ _ _).symm)

theorem scale_pos : 0 ≤ scale := by rw [scale, eighth]; exact EReal.coe_nonneg.2 (by norm_num)
theorem scale_fin : scale ≠ ⊤ := by rw [scale, eighth]; exact EReal.coe_ne_top _

theorem turned_scale (t : Fin 512 → EReal) (c s : Fin 32 → EReal) (j : Fin 512) :
    turned (fun j => t j * scale) c s j = turned t c s j * scale := by
  unfold turned
  split
  · rw [sub_eq_add_neg, sub_eq_add_neg, EReal.right_distrib_of_nonneg_of_ne_top scale_pos scale_fin, mul_right_comm, EReal.neg_mul, mul_right_comm (t _) _ (s _)]
  · rw [EReal.right_distrib_of_nonneg_of_ne_top scale_pos scale_fin, mul_right_comm, mul_right_comm (t j)]

/-- At a turned row the tables hold the cosines, and the sines with their signs. -/
theorem turnAll_latent (t c lo hi : Fin 512 → EReal) (co si : Fin 32 → EReal) (j : Fin 512)
    (hc : c j = co ⟨j.val % 32, by omega⟩)
    (hlo : lo j = if j.val % 64 < 32 then -(si ⟨j.val % 32, by omega⟩) else 0)
    (hhi : hi j = if j.val % 64 < 32 then 0 else si ⟨j.val % 32, by omega⟩) :
    turnAll t c lo hi j = turned t co si j := by
  unfold turnAll turned
  rw [hc, hlo, hhi]
  split
  · rename_i h
    rw [mul_zero, add_zero, sub_eq_add_neg, mul_neg,
      show (⟨(j.val + 512 - 480) % 512, by omega⟩ : Fin 512) = ⟨j.val + 32, by omega⟩ from Fin.ext (by simp only; omega)]
  · rename_i h
    rw [mul_zero, add_zero, add_comm,
      show (⟨(j.val + 512 - 32) % 512, by omega⟩ : Fin 512) = ⟨j.val - 32, by omega⟩ from Fin.ext (by simp only; omega)]

/-- At a row that is not turned the tables hold ones and zeros. -/
theorem turnAll_context (t c lo hi : Fin 512 → EReal) (j : Fin 512) (hc : c j = 1) (hlo : lo j = 0) (hhi : hi j = 0) :
    turnAll t c lo hi j = t j := by
  unfold turnAll
  rw [hc, hlo, hhi, mul_one, mul_zero, mul_zero, add_zero, add_zero]

end Cert.InProj

end
-- ==== Proof.InProjTile.lean ====
/-
  What the input projection's body leaves of each of its five results at one row of one of its two images, over any
  blocks.
-/
module

public import proofs.«01_k».proof.Proof.Gen.Kernel2Ideal.Value
public import proofs.«01_k».proof.Proof.InProjSpec

@[expose] public section

set_option maxRecDepth 16384

noncomputable section

namespace Cert.Kernel2Ideal.InProj

open Cert.Kernel2Ideal Cert.Kernel2Ideal.Gen Cert.InProj
open Idealize.ShloMosaic Idealize.ShloMosaic.TcCoe Idealize.SL.Sem

section
variable (v1 v3 v5 : FVec Ideal S256x512 .f32) (v7 : FVec Ideal S512x512 .bf16) (v34 : FVec Ideal S256x1024 .bf16)
  (w : Vec Ideal S1024x2048 .bf16) (g : Vec Ideal S1x512 .f32)
  (x : Vec Ideal S1x256x1024 .f32) (md : Vec Ideal S1x1x6x1024 .f32) (g1 : Vec Ideal S1x1024 .f32) (r : Fin 256)

/-- A row of a loaded block, projected. -/
def projRow (x : Vec Ideal S1x256x1024 .f32) (md : Vec Ideal S1x1x6x1024 .f32) (g1 : Vec Ideal S1x1024 .f32)
    (w : Vec Ideal S1024x2048 .bf16) (r : Fin 256) : Fin 2048 → EReal :=
  proj (scaled (fun a => x (ix3 0 r a)) (fun a => g1 (ix2 0 a)) (fun a => md (ix4 0 0 1 a)) (fun a => md (ix4 0 0 0 a)))
    (fun a j => w (ix2 a j))

theorem first_at (j : Fin 2048) : k0_pay7 (k0_pay6 x md g1) w (ix2 r j) = projRow x md g1 w r j := by
  pointwise [k0_pay7, k0_pay6]
  rfl
theorem second_at (j : Fin 2048) :
    k0_pay18 (k0_pay15 x) (k0_pay16 md) (k0_pay17 x) g1 w (ix2 r j) = projRow x md g1 w r j := by
  pointwise [k0_pay18, k0_pay15, k0_pay16, k0_pay17]
  rfl

/-- The head columns of a projected row, normed and turned. -/
def headRow (P : Fin 512 → EReal) (v1 v3 v5 : FVec Ideal S256x512 .f32) (v7 : FVec Ideal S512x512 .bf16) (g : Vec Ideal S1x512 .f32)
    (r : Fin 256) : Fin 512 → EReal :=
  turnAll (normAll P (fun x j => v7 (ix2 x j)) (fun j => g (ix2 0 j)))
    (fun j => v1 (ix2 r j)) (fun j => v3 (ix2 r j)) (fun j => v5 (ix2 r j))

theorem q0_at (j : Fin 512) : k0_pay8 v1 v3 v5 v7 v34 w g (ix3 0 r j)
    = headRow (fun i => k0_pay7 v34 w (ix2 r ⟨i.val, by omega⟩)) v1 v3 v5 v7 g r j := by
  pointwise [k0_pay8]
  rfl
theorem k0_at (j : Fin 512) : k0_pay11 v3 v5 (k0_pay9 v7 v34 w g) (k0_pay10 v1 v7 v34 w g) (ix3 0 r j)
    = headRow (fun i => k0_pay7 v34 w (ix2 r ⟨512 + i.val, by omega⟩)) v1 v3 v5 v7 g r j := by
  pointwise [k0_pay11, k0_pay9, k0_pay10]
  rfl
theorem q1_at (a : FVec Ideal S256x1024 .f32) (b : FVec Ideal S6x1024 .f32) (e : FVec Ideal S256x1 .f32) (j : Fin 512) :
    k0_pay20 (k0_pay19 v1 v3 v5 v7 a b e g1 w g) (ix3 0 r j)
    = headRow (fun i => k0_pay18 a b e g1 w (ix2 r ⟨i.val, by omega⟩)) v1 v3 v5 v7 g r j := by
  pointwise [k0_pay20, k0_pay19]
  rfl
theorem k1_at (P : FVec Ideal S256x2048 .f32) (j : Fin 512) : k0_pay21 v1 v3 v5 v7 P g (ix3 0 r j)
    = headRow (fun i => P (ix2 r ⟨512 + i.val, by omega⟩)) v1 v3 v5 v7 g r j := by
  pointwise [k0_pay21]
  rfl
end

/-! ## The two pieces of each result -/

section
variable {e : EltTy}

theorem wide_second (p p' : S1x256x512.Idx → Elt Ideal e) (r : Fin 256) (j : Fin 512) :
    View.canon (Val := Elt Ideal) (e := e) [⟨r0_11, p⟩, ⟨r0_7, p'⟩] (ix3 1 r j) = p (ix3 0 r j) := by
  have h : (ix3 1 r j : S2x256x512.Idx) = r0_11.emb (ix3 0 r j) := funext fun a => Fin.ext (by
    match a with
    | ⟨0, _⟩ => rfl
    | ⟨1, _⟩ => show r.val = 0 + 1 * r.val; omega
    | ⟨2, _⟩ => show j.val = 0 + 1 * j.val; omega)
  rw [h]; exact View.canon_cons_emb _ _ _ _
theorem wide_first (p p' : S1x256x512.Idx → Elt Ideal e) (r : Fin 256) (j : Fin 512) :
    View.canon (Val := Elt Ideal) (e := e) [⟨r0_11, p⟩, ⟨r0_7, p'⟩] (ix3 0 r j) = p' (ix3 0 r j) := by
  have h : (ix3 0 r j : S2x256x512.Idx) = r0_7.emb (ix3 0 r j) := funext fun a => Fin.ext (by
    match a with
    | ⟨0, _⟩ => rfl
    | ⟨1, _⟩ => show r.val = 0 + 1 * r.val; omega
    | ⟨2, _⟩ => show j.val = 0 + 1 * j.val; omega)
  rw [View.canon_cons_of_not_mem]
  · rw [h]; exact View.canon_cons_emb _ _ _ _
  · exact fun hm => absurd ((Rect.mem_set_unit (inb := inb_S2x256x512_S1x256x512_1_0_0)).1 hm 0).1 (show ¬ (1 : ℕ) ≤ 0 by decide)
theorem narrow_second (p p' : S1x256x256.Idx → Elt Ideal e) (r : Fin 256) (j : Fin 256) :
    View.canon (Val := Elt Ideal) (e := e) [⟨r0_12, p⟩, ⟨r0_8, p'⟩] (ix3 1 r j) = p (ix3 0 r j) := by
  have h : (ix3 1 r j : S2x256x256.Idx) = r0_12.emb (ix3 0 r j) := funext fun a => Fin.ext (by
    match a with
    | ⟨0, _⟩ => rfl
    | ⟨1, _⟩ => show r.val = 0 + 1 * r.val; omega
    | ⟨2, _⟩ => show j.val = 0 + 1 * j.val; omega)
  rw [h]; exact View.canon_cons_emb _ _ _ _
theorem narrow_first (p p' : S1x256x256.Idx → Elt Ideal e) (r : Fin 256) (j : Fin 256) :
    View.canon (Val := Elt Ideal) (e := e) [⟨r0_12, p⟩, ⟨r0_8, p'⟩] (ix3 0 r j) = p' (ix3 0 r j) := by
  have h : (ix3 0 r j : S2x256x256.Idx) = r0_8.emb (ix3 0 r j) := funext fun a => Fin.ext (by
    match a with
    | ⟨0, _⟩ => rfl
    | ⟨1, _⟩ => show r.val = 0 + 1 * r.val; omega
    | ⟨2, _⟩ => show j.val = 0 + 1 * j.val; omega)
  rw [View.canon_cons_of_not_mem]
  · rw [h]; exact View.canon_cons_emb _ _ _ _
  · exact fun hm => absurd ((Rect.mem_set_unit (inb := inb_S2x256x256_S1x256x256_1_0_0)).1 hm 0).1 (show ¬ (1 : ℕ) ≤ 0 by decide)
end

section
variable (x0 : Vec Ideal S2x256x1024 .f32) (x1 : Vec Ideal S2x1x6x1024 .f32) (x2 : Vec Ideal S1x1024 .f32)
  (x3 : Vec Ideal S1024x2048 .bf16) (x4 x5 : Vec Ideal S1x512 .f32) (x6 : Vec Ideal S512x512 .bf16)
  (x7 x8 x9 : Vec Ideal S256x512 .f32)

/-- Row `r` of image `n` of the blocks, projected. -/
def rowOf (n : Fin 2) (r : Fin 256) : Fin 2048 → EReal :=
  proj (scaled (fun a => x0 (ix3 n r a)) (fun a => x2 (ix2 0 a)) (fun a => x1 (ix4 n 0 1 a)) (fun a => x1 (ix4 n 0 0 a)))
    (fun a j => x3 (ix2 a j))

theorem row_first (r : Fin 256) : projRow (View.ld x0 r0_2) (View.ld x1 r0_3) x2 x3 r = rowOf x0 x1 x2 x3 0 r := by
  unfold projRow rowOf
  have h0 (a : Fin 1024) : View.ld x0 r0_2 (ix3 0 r a) = x0 (ix3 0 r a) := congrArg x0 (funext fun y => Fin.ext (by
    match y with
    | ⟨0, _⟩ => rfl
    | ⟨1, _⟩ => show 0 + 1 * r.val = r.val; omega
    | ⟨2, _⟩ => show 0 + 1 * a.val = a.val; omega))
  have h1 (k : Fin 6) (a : Fin 1024) : View.ld x1 r0_3 (ix4 0 0 k a) = x1 (ix4 0 0 k a) := congrArg x1 (funext fun y => Fin.ext (by
    match y with
    | ⟨0, _⟩ => rfl
    | ⟨1, _⟩ => rfl
    | ⟨2, _⟩ => show 0 + 1 * k.val = k.val; omega
    | ⟨3, _⟩ => show 0 + 1 * a.val = a.val; omega))
  simp only [h0, h1]
theorem row_second (r : Fin 256) : projRow (View.ld x0 r0_9) (View.ld x1 r0_10) x2 x3 r = rowOf x0 x1 x2 x3 1 r := by
  unfold projRow rowOf
  have h0 (a : Fin 1024) : View.ld x0 r0_9 (ix3 0 r a) = x0 (ix3 1 r a) := congrArg x0 (funext fun y => Fin.ext (by
    match y with
    | ⟨0, _⟩ => rfl
    | ⟨1, _⟩ => show 0 + 1 * r.val = r.val; omega
    | ⟨2, _⟩ => show 0 + 1 * a.val = a.val; omega))
  have h1 (k : Fin 6) (a : Fin 1024) : View.ld x1 r0_10 (ix4 0 0 k a) = x1 (ix4 1 0 k a) := congrArg x1 (funext fun y => Fin.ext (by
    match y with
    | ⟨0, _⟩ => rfl
    | ⟨1, _⟩ => rfl
    | ⟨2, _⟩ => show 0 + 1 * k.val = k.val; omega
    | ⟨3, _⟩ => show 0 + 1 * a.val = a.val; omega))
  simp only [h0, h1]

theorem q_at (n : Fin 2) (r : Fin 256) (j : Fin 512) : out0_10 x0 x1 x2 x3 x4 x5 x6 x7 x8 x9 (ix3 n r j)
    = headRow (fun i => rowOf x0 x1 x2 x3 n r ⟨i.val, by omega⟩) x7 x8 x9 x6 x4 r j := by
  unfold_out out0_10
  frame_out
  match n with
  | ⟨0, _⟩ =>
    refine (wide_first _ _ r j).trans ((q0_at _ _ _ _ _ _ _ r j).trans ?_)
    simp only [first_at, row_first]
    pointwise [k0_pay2, k0_pay3, k0_pay4, k0_pay5]
  | ⟨1, _⟩ =>
    refine (wide_second _ _ r j).trans ((q1_at _ _ _ _ _ _ _ r _ _ _ j).trans ?_)
    simp only [second_at, row_second]
    pointwise [k0_pay2, k0_pay3, k0_pay4, k0_pay5]
theorem k_at (n : Fin 2) (r : Fin 256) (j : Fin 512) : out0_11 x0 x1 x2 x3 x4 x5 x6 x7 x8 x9 (ix3 n r j)
    = headRow (fun i => rowOf x0 x1 x2 x3 n r ⟨512 + i.val, by omega⟩) x7 x8 x9 x6 x5 r j := by
  unfold_out out0_11
  frame_out
  match n with
  | ⟨0, _⟩ =>
    refine (wide_first _ _ r j).trans ((k0_at _ _ _ _ _ _ _ r j).trans ?_)
    simp only [first_at, row_first]
    pointwise [k0_pay2, k0_pay3, k0_pay4, k0_pay5]
  | ⟨1, _⟩ =>
    refine (wide_second _ _ r j).trans ((k1_at _ _ _ _ _ r _ j).trans ?_)
    simp only [second_at, row_second]
    pointwise [k0_pay2, k0_pay3, k0_pay4, k0_pay5]
theorem v_at (n : Fin 2) (r : Fin 256) (j : Fin 512) : out0_12 x0 x1 x2 x3 x4 x5 x6 x7 x8 x9 (ix3 n r j)
    = rowOf x0 x1 x2 x3 n r ⟨1024 + j.val, by omega⟩ := by
  unfold_out out0_12
  frame_out
  match n with
  | ⟨0, _⟩ =>
    refine (wide_first _ _ r j).trans ?_
    pointwise [k0_pay12]
    rw [first_at, row_first]
  | ⟨1, _⟩ =>
    refine (wide_second _ _ r j).trans ?_
    pointwise [k0_pay22]
    rw [second_at, row_second]
theorem us_at (n : Fin 2) (r : Fin 256) (j : Fin 256) : out0_13 x0 x1 x2 x3 x4 x5 x6 x7 x8 x9 (ix3 n r j)
    = rowOf x0 x1 x2 x3 n r ⟨1536 + j.val, by omega⟩ := by
  unfold_out out0_13
  frame_out
  match n with
  | ⟨0, _⟩ =>
    refine (narrow_first _ _ r j).trans ?_
    pointwise [k0_pay13]
    rw [first_at, row_first]
  | ⟨1, _⟩ =>
    refine (narrow_second _ _ r j).trans ?_
    pointwise [k0_pay23]
    rw [second_at, row_second]
theorem uf_at (n : Fin 2) (r : Fin 256) (j : Fin 256) : out0_14 x0 x1 x2 x3 x4 x5 x6 x7 x8 x9 (ix3 n r j)
    = rowOf x0 x1 x2 x3 n r ⟨1792 + j.val, by omega⟩ := by
  unfold_out out0_14
  frame_out
  match n with
  | ⟨0, _⟩ =>
    refine (narrow_first _ _ r j).trans ?_
    pointwise [k0_pay14]
    rw [first_at, row_first]
  | ⟨1, _⟩ =>
    refine (narrow_second _ _ r j).trans ?_
    pointwise [k0_pay1, k0_pay24]
    rw [second_at, row_second]
end

end Cert.Kernel2Ideal.InProj

end
-- ==== Proof.InProjReference.lean ====
/-
  The reference's terms of the input projection read at an index: the row's norm, shift and scale, its product with the
  weights, and for the queries and keys the norm of each head and the turn of the rows after the first 256.
-/
module

public import proofs.«01_k».proof.Proof.InProjSpec
public import proofs.«01_k».proof.Proof.Gen.Reference2Ideal.Run
public import Idealize.ShloMosaic.Lib.Pointwise

@[expose] public section

set_option maxRecDepth 16384

noncomputable section

namespace Cert.Reference2Ideal.InProj

open Cert.Reference2Ideal Cert.Reference2Ideal.Gen Cert.InProj
open Idealize.ShloMosaic Idealize.ShloMosaic.TcCoe Idealize.SL.Sem Idealize.ShloMosaic.StableHlo

/-! ## The terms -/

/-- The angles of the positions; they hang on no argument. -/
def angles (V0 : Valuation τ sig (Elt Ideal)) : FVec Ideal S2048x32 .f32 := Value.res_main_v21 V0

/-- Which rows are latent ones. -/
def latentMask : IVec S1x2304x1 1 := broadcastInDim S1x2304x1 ![1] bcast_S2304_S1x2304x1_1 (cmpi .sge (iotaInDim S2304 32 0) (broadcastInDim S2304 ![] bcast_S_S2304 (constantI S_ 32 256#32)))

/-- All rows times the weights, after the norm with its shift and scale. -/
def rows (A0 : FVec Ideal S16x2304x1024 .f32) (A1 : FVec Ideal S16x2x6x1024 .f32) (A2 : FVec Ideal S1024 .f32)
    (A3 : FVec Ideal S1024x2048 .f32) : FVec Ideal S16x2304x2048 .f32 :=
  Host.dotGeneral dot_S16x2304x1024_S1024x2048_S16x2304x2048_2_0_01_1_n_n none (addf (mulf (mulf (mulf A0 (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf A0 A0) (constant S_ .f32 0x00000000#32) reducesTo_S16x2304x1024_S16x2304_d2 h_S_)) (broadcastInDim S16x2304x1 ![] bcast_S_S16x2304x1 (constant S_ .f32 0x44800000#32))) (broadcastInDim S16x2304x1 ![] bcast_S_S16x2304x1 (constant S_ .f32 0x358637BD#32)))))) (broadcastInDim S16x2304x1024 ![0, 1, 2] bcast_S1x1x1024_S16x2304x1024_0_1_2 (broadcastInDim S1x1x1024 ![2] bcast_S1024_S1x1x1024_2 A2))) (addf (broadcastInDim S16x2304x1024 ![] bcast_S_S16x2304x1024 (constant S_ .f32 0x3F800000#32)) (select (broadcastInDim S16x2304x1024 ![0, 1, 2] bcast_S1x2304x1_S16x2304x1024_0_1_2 latentMask) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 1, 1, 0] A1 slices_S16x2x6x1024_S16x1x1x1024_0_1_1_0) shapeCasts_S16x1x1x1024_S16x1024))) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 0, 1, 0] A1 slices_S16x2x6x1024_S16x1x1x1024_0_0_1_0) shapeCasts_S16x1x1x1024_S16x1024)))))) (select (broadcastInDim S16x2304x1024 ![0, 1, 2] bcast_S1x2304x1_S16x2304x1024_0_1_2 latentMask) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 1, 0, 0] A1 slices_S16x2x6x1024_S16x1x1x1024_0_1_0_0) shapeCasts_S16x1x1x1024_S16x1024))) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 0, 0, 0] A1 slices_S16x2x6x1024_S16x1x1x1024_0_0_0_0) shapeCasts_S16x1x1x1024_S16x1024))))) A3

/-- The norm over each head. -/
def heads (Z : FVec Ideal S16x2304x8x64 .f32) (g : FVec Ideal S64 .f32) : FVec Ideal S16x2304x8x64 .f32 :=
  mulf (mulf Z (broadcastInDim S16x2304x8x64 ![0, 1, 2, 3] bcast_S16x2304x8x1_S16x2304x8x64_0_1_2_3 (Host.rsqrt (addf (Host.divf (broadcastInDim S16x2304x8x1 ![0, 1, 2] bcast_S16x2304x8_S16x2304x8x1_0_1_2 (Host.reduceAdd (mulf Z Z) (constant S_ .f32 0x00000000#32) reducesTo_S16x2304x8x64_S16x2304x8_d3 h_S_)) (broadcastInDim S16x2304x8x1 ![] bcast_S_S16x2304x8x1 (constant S_ .f32 0x42800000#32))) (broadcastInDim S16x2304x8x1 ![] bcast_S_S16x2304x8x1 (constant S_ .f32 0x358637BD#32)))))) (broadcastInDim S16x2304x8x64 ![0, 1, 2, 3] bcast_S1x1x1x64_S16x2304x8x64_0_1_2_3 (broadcastInDim S1x1x1x64 ![3] bcast_S64_S1x1x1x64_3 g))

def latent (Z : FVec Ideal S16x2304x8x64 .f32) : FVec Ideal S16x2048x8x64 .f32 := extractStridedSlice S16x2048x8x64 ![0, 256, 0, 0] Z slices_S16x2304x8x64_S16x2048x8x64_0_256_0_0
def lo (Z : FVec Ideal S16x2304x8x64 .f32) : FVec Ideal S16x2048x8x32 .f32 := extractStridedSlice S16x2048x8x32 ![0, 0, 0, 0] (latent Z) slices_S16x2048x8x64_S16x2048x8x32_0_0_0_0
def hi (Z : FVec Ideal S16x2304x8x64 .f32) : FVec Ideal S16x2048x8x32 .f32 := extractStridedSlice S16x2048x8x32 ![0, 0, 0, 32] (latent Z) slices_S16x2048x8x64_S16x2048x8x32_0_0_0_32
def cosT (an : FVec Ideal S2048x32 .f32) : FVec Ideal S2048x1x32 .f32 := broadcastInDim S2048x1x32 ![0, 2] bcast_S2048x32_S2048x1x32_0_2 (Host.cos an)
def sinT (an : FVec Ideal S2048x32 .f32) : FVec Ideal S2048x1x32 .f32 := broadcastInDim S2048x1x32 ![0, 2] bcast_S2048x32_S2048x1x32_0_2 (Host.sin an)

/-- The first 256 rows as they are, the others turned by their angles. -/
def turn (Z : FVec Ideal S16x2304x8x64 .f32) (an : FVec Ideal S2048x32 .f32) : FVec Ideal S16x2304x512 .f32 :=
  shapeCast _ (concatenate S16x2304x8x64 1 [⟨S16x256x8x64, (extractStridedSlice S16x256x8x64 ![0, 0, 0, 0] Z slices_S16x2304x8x64_S16x256x8x64_0_0_0_0)⟩, ⟨S16x2048x8x64, (concatenate S16x2048x8x64 3 [⟨S16x2048x8x32, (subf (mulf (lo Z) (broadcastInDim S16x2048x8x32 ![0, 1, 2, 3] bcast_S1x2048x1x32_S16x2048x8x32_0_1_2_3 (broadcastInDim S1x2048x1x32 ![1, 2, 3] bcast_S2048x1x32_S1x2048x1x32_1_2_3 (cosT an)))) (mulf (hi Z) (broadcastInDim S16x2048x8x32 ![0, 1, 2, 3] bcast_S1x2048x1x32_S16x2048x8x32_0_1_2_3 (broadcastInDim S1x2048x1x32 ![1, 2, 3] bcast_S2048x1x32_S1x2048x1x32_1_2_3 (sinT an)))))⟩, ⟨S16x2048x8x32, (addf (mulf (lo Z) (broadcastInDim S16x2048x8x32 ![0, 1, 2, 3] bcast_S1x2048x1x32_S16x2048x8x32_0_1_2_3 (broadcastInDim S1x2048x1x32 ![1, 2, 3] bcast_S2048x1x32_S1x2048x1x32_1_2_3 (sinT an)))) (mulf (hi Z) (broadcastInDim S16x2048x8x32 ![0, 1, 2, 3] bcast_S1x2048x1x32_S16x2048x8x32_0_1_2_3 (broadcastInDim S1x2048x1x32 ![1, 2, 3] bcast_S2048x1x32_S1x2048x1x32_1_2_3 (cosT an)))))⟩] concatenates_S16x2048x8x32_S16x2048x8x32_S16x2048x8x64_d3)⟩] concatenates_S16x256x8x64_S16x2048x8x64_S16x2304x8x64_d1) shapeCasts_S16x2304x8x64_S16x2304x512

def refQ (P : FVec Ideal S16x2304x2048 .f32) (g : FVec Ideal S64 .f32) (an : FVec Ideal S2048x32 .f32) : FVec Ideal S16x2304x512 .bf16 :=
  truncf .bf16 (mulf (turn (heads (shapeCast _ (extractStridedSlice S16x2304x512 ![0, 0, 0] P slices_S16x2304x2048_S16x2304x512_0_0_0)
    shapeCasts_S16x2304x512_S16x2304x8x64) g) an) (broadcastInDim S16x2304x512 ![] bcast_S_S16x2304x512 (constant S_ .f32 0x3E000000#32))) bitsLt_bf16_f32
def refK (P : FVec Ideal S16x2304x2048 .f32) (g : FVec Ideal S64 .f32) (an : FVec Ideal S2048x32 .f32) : FVec Ideal S16x2304x512 .bf16 :=
  truncf .bf16 (turn (heads (shapeCast _ (extractStridedSlice S16x2304x512 ![0, 0, 512] P slices_S16x2304x2048_S16x2304x512_0_0_512)
    shapeCasts_S16x2304x512_S16x2304x8x64) g) an) bitsLt_bf16_f32
def refV (P : FVec Ideal S16x2304x2048 .f32) : FVec Ideal S16x2304x512 .bf16 :=
  truncf .bf16 (extractStridedSlice S16x2304x512 ![0, 0, 1024] P slices_S16x2304x2048_S16x2304x512_0_0_1024) bitsLt_bf16_f32
def refS (P : FVec Ideal S16x2304x2048 .f32) : FVec Ideal S16x2304x256 .f32 :=
  extractStridedSlice S16x2304x256 ![0, 0, 1536] P slices_S16x2304x2048_S16x2304x256_0_0_1536
def refF (P : FVec Ideal S16x2304x2048 .f32) : FVec Ideal S16x2304x256 .bf16 :=
  truncf .bf16 (extractStridedSlice S16x2304x256 ![0, 0, 1792] P slices_S16x2304x2048_S16x2304x256_0_0_1792) bitsLt_bf16_f32

/-! ## The terms at an index -/

theorem mask_at (s : Fin 2304) : latentMask (ix3 0 s 0) = if 256 ≤ s.val then 1#1 else 0#1 := by
  unfold latentMask
  pointwise
  have h1 : (BitVec.ofNat 32 s.val).toInt = (s.val : ℤ) := by
    rw [BitVec.toInt_eq_toNat_of_lt (by rw [BitVec.toNat_ofNat]; omega), BitVec.toNat_ofNat]; omega
  have h2 : (256#32).toInt = ((256 : ℕ) : ℤ) := by decide
  by_cases h : 256 ≤ s.val
  · rw [if_pos h, IntOp.cmpi_sge, h1, h2]; exact_mod_cast h
  · rw [if_neg h]
    refine (BitVec.eq_zero_or_eq_one _).resolve_right fun hc => h ?_
    rw [IntOp.cmpi_sge, h1, h2] at hc; exact_mod_cast hc

/-- One row of the projection. -/
def rowAt (A0 : FVec Ideal S16x2304x1024 .f32) (A1 : FVec Ideal S16x2x6x1024 .f32) (A2 : FVec Ideal S1024 .f32)
    (A3 : FVec Ideal S1024x2048 .f32) (b : Fin 16) (s : Fin 2304) : Fin 2048 → EReal :=
  proj (scaled (fun a => A0 (ix3 b s a)) (fun a => A2 (ix1 a))
    (fun a => A1 (ix4 b (if 256 ≤ s.val then 1 else 0) 1 a)) (fun a => A1 (ix4 b (if 256 ≤ s.val then 1 else 0) 0 a))) (fun a j => A3 (ix2 a j))

set_option maxHeartbeats 1600000 in
theorem rows_at (A0 : FVec Ideal S16x2304x1024 .f32) (A1 : FVec Ideal S16x2x6x1024 .f32) (A2 : FVec Ideal S1024 .f32)
    (A3 : FVec Ideal S1024x2048 .f32) (b : Fin 16) (s : Fin 2304) (j : Fin 2048) :
    rows A0 A1 A2 A3 (ix3 b s j) = rowAt A0 A1 A2 A3 b s j := by
  unfold rows
  pointwise
  simp only [mask_at]
  unfold rowAt proj scaled
  refine Finset.sum_congr rfl fun x _ => ?_
  split <;> rfl

/-- The row cut into the columns of the queries or keys. -/
theorem heads_at (Z : FVec Ideal S16x2304x8x64 .f32) (g : FVec Ideal S64 .f32) (b : Fin 16) (s : Fin 2304) (h : Fin 8) (d : Fin 64) :
    heads Z g (ix4 b s h d) = headNorm (fun j => Z (ix4 b s ⟨j.val / 64, by omega⟩ ⟨j.val % 64, by omega⟩)) (fun d => g (ix1 d))
      ⟨h.val * 64 + d.val, by omega⟩ := by
  unfold heads
  pointwise
  unfold headNorm headRoot
  have e1 : (h.val * 64 + d.val) / 64 = h.val := by omega
  have e2 : (h.val * 64 + d.val) % 64 = d.val := by omega
  have e3 : ∀ x : Fin 64, (h.val * 64 + x.val) / 64 = h.val := fun x => by omega
  have e4 : ∀ x : Fin 64, (h.val * 64 + x.val) % 64 = x.val := fun x => by omega
  simp only [e1, e2, e3, e4, Fin.eta]

theorem turned_first (z : Fin 8 → Fin 64 → EReal) (c s : Fin 32 → EReal) (j : Fin 512) (h : j.val % 64 < 32) :
    z ⟨j.val / 64, by omega⟩ ⟨j.val % 64, by omega⟩ * c ⟨j.val % 64, by omega⟩
        - z ⟨j.val / 64, by omega⟩ ⟨32 + j.val % 64, by omega⟩ * s ⟨j.val % 64, by omega⟩
      = turned (fun j => z ⟨j.val / 64, by omega⟩ ⟨j.val % 64, by omega⟩) c s j := by
  unfold turned
  rw [dif_pos h]
  simp only [show (j.val + 32) / 64 = j.val / 64 by omega, show (j.val + 32) % 64 = 32 + j.val % 64 by omega, show j.val % 32 = j.val % 64 by omega]

theorem turned_last (z : Fin 8 → Fin 64 → EReal) (c s : Fin 32 → EReal) (j : Fin 512) (h : ¬ j.val % 64 < 32) :
    z ⟨j.val / 64, by omega⟩ ⟨j.val % 64 - 32, by omega⟩ * s ⟨j.val % 64 - 32, by omega⟩
        + z ⟨j.val / 64, by omega⟩ ⟨32 + (j.val % 64 - 32), by omega⟩ * c ⟨j.val % 64 - 32, by omega⟩
      = turned (fun j => z ⟨j.val / 64, by omega⟩ ⟨j.val % 64, by omega⟩) c s j := by
  unfold turned
  rw [dif_neg h]
  simp only [show (j.val - 32) / 64 = j.val / 64 by omega, show (j.val - 32) % 64 = j.val % 64 - 32 by omega, show j.val % 32 = j.val % 64 - 32 by omega,
    show 32 + (j.val % 64 - 32) = j.val % 64 by omega]

theorem turn_at (Z : FVec Ideal S16x2304x8x64 .f32) (an : FVec Ideal S2048x32 .f32) (b : Fin 16) (s : Fin 2304) (j : Fin 512) :
    turn Z an (ix3 b s j) = if h : s.val < 256 then Z (ix4 b s ⟨j.val / 64, by omega⟩ ⟨j.val % 64, by omega⟩)
      else turned (fun j => Z (ix4 b s ⟨j.val / 64, by omega⟩ ⟨j.val % 64, by omega⟩))
        (fun k => Ideal.cos (an (ix2 ⟨s.val - 256, by omega⟩ k))) (fun k => Ideal.sin (an (ix2 ⟨s.val - 256, by omega⟩ k))) j := by
  unfold turn
  pointwise [lo, hi, latent, cosT, sinT]
  refine dite_congr rfl (fun _ => rfl) fun hs => ?_
  have es : (⟨256 + (s.val - 256), by omega⟩ : Fin 2304) = s := Fin.ext (by simp only; omega)
  simp only [es]
  split
  · rename_i h
    exact turned_first (fun h d => Z (ix4 b s h d)) (fun k => Ideal.cos (an (ix2 ⟨s.val - 256, by omega⟩ k)))
      (fun k => Ideal.sin (an (ix2 ⟨s.val - 256, by omega⟩ k))) j h
  · rename_i h
    exact turned_last (fun h d => Z (ix4 b s h d)) (fun k => Ideal.cos (an (ix2 ⟨s.val - 256, by omega⟩ k)))
      (fun k => Ideal.sin (an (ix2 ⟨s.val - 256, by omega⟩ k))) j h

/-- A position's queries or keys from its 512 columns: each head normed, the rows after the first 256 turned. -/
def headsAt (p : Fin 512 → EReal) (g : FVec Ideal S64 .f32) (an : FVec Ideal S2048x32 .f32) (s : Fin 2304) (j : Fin 512) : EReal :=
  if h : s.val < 256 then headNorm p (fun d => g (ix1 d)) j
  else turned (headNorm p fun d => g (ix1 d))
    (fun k => Ideal.cos (an (ix2 ⟨s.val - 256, by omega⟩ k))) (fun k => Ideal.sin (an (ix2 ⟨s.val - 256, by omega⟩ k))) j

theorem turn_heads_at (Z : FVec Ideal S16x2304x8x64 .f32) (g : FVec Ideal S64 .f32) (an : FVec Ideal S2048x32 .f32) (b : Fin 16) (s : Fin 2304)
    (p : Fin 512 → EReal) (hp : ∀ j : Fin 512, Z (ix4 b s ⟨j.val / 64, by omega⟩ ⟨j.val % 64, by omega⟩) = p j) (j : Fin 512) :
    turn (heads Z g) an (ix3 b s j) = headsAt p g an s j := by
  obtain rfl : (fun j : Fin 512 => Z (ix4 b s ⟨j.val / 64, by omega⟩ ⟨j.val % 64, by omega⟩)) = p := funext hp
  have e : ∀ j : Fin 512, heads Z g (ix4 b s ⟨j.val / 64, by omega⟩ ⟨j.val % 64, by omega⟩)
      = headNorm (fun j => Z (ix4 b s ⟨j.val / 64, by omega⟩ ⟨j.val % 64, by omega⟩)) (fun d => g (ix1 d)) j := fun j =>
    (heads_at Z g b s _ _).trans (congrArg _ (Fin.ext (by simp only; omega)))
  rw [turn_at]
  unfold headsAt
  simp only [e]

theorem queries_cut (P : FVec Ideal S16x2304x2048 .f32) (b : Fin 16) (s : Fin 2304) (j : Fin 512) :
    (shapeCast S16x2304x8x64 (extractStridedSlice S16x2304x512 ![0, 0, 0] P slices_S16x2304x2048_S16x2304x512_0_0_0) shapeCasts_S16x2304x512_S16x2304x8x64)
      (ix4 b s ⟨j.val / 64, by omega⟩ ⟨j.val % 64, by omega⟩) = P (ix3 b s ⟨j.val, by omega⟩) := by
  pointwise
theorem keys_cut (P : FVec Ideal S16x2304x2048 .f32) (b : Fin 16) (s : Fin 2304) (j : Fin 512) :
    (shapeCast S16x2304x8x64 (extractStridedSlice S16x2304x512 ![0, 0, 512] P slices_S16x2304x2048_S16x2304x512_0_0_512) shapeCasts_S16x2304x512_S16x2304x8x64)
      (ix4 b s ⟨j.val / 64, by omega⟩ ⟨j.val % 64, by omega⟩) = P (ix3 b s ⟨512 + j.val, by omega⟩) := by
  pointwise

theorem refQ_at (P : FVec Ideal S16x2304x2048 .f32) (g : FVec Ideal S64 .f32) (an : FVec Ideal S2048x32 .f32) (b : Fin 16) (s : Fin 2304) (j : Fin 512) :
    refQ P g an (ix3 b s j) = headsAt (fun i => P (ix3 b s ⟨i.val, by omega⟩)) g an s j * scale :=
  congrArg (· * scale) (turn_heads_at _ g an b s _ (queries_cut P b s) j)
theorem refK_at (P : FVec Ideal S16x2304x2048 .f32) (g : FVec Ideal S64 .f32) (an : FVec Ideal S2048x32 .f32) (b : Fin 16) (s : Fin 2304) (j : Fin 512) :
    refK P g an (ix3 b s j) = headsAt (fun i => P (ix3 b s ⟨512 + i.val, by omega⟩)) g an s j :=
  turn_heads_at _ g an b s _ (keys_cut P b s) j
theorem refV_at (P : FVec Ideal S16x2304x2048 .f32) (b : Fin 16) (s : Fin 2304) (j : Fin 512) :
    refV P (ix3 b s j) = P (ix3 b s ⟨1024 + j.val, by omega⟩) := by
  unfold refV; pointwise
theorem refS_at (P : FVec Ideal S16x2304x2048 .f32) (b : Fin 16) (s : Fin 2304) (j : Fin 256) :
    refS P (ix3 b s j) = P (ix3 b s ⟨1536 + j.val, by omega⟩) := by
  unfold refS; pointwise
theorem refF_at (P : FVec Ideal S16x2304x2048 .f32) (b : Fin 16) (s : Fin 2304) (j : Fin 256) :
    refF P (ix3 b s j) = P (ix3 b s ⟨1792 + j.val, by omega⟩) := by
  unfold refF; pointwise

/-! ## The run -/

/-- The reference's run, at those terms. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v104) = refQ (rows (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg4)) (angles (launchContents m c))
      ∧ r.2.mem ((c.tc : Thread nD τ).loc main_v142) = refK (rows (m ((c.tc : Thread nD τ).loc main_arg0)) (m ((c.tc : Thread nD τ).loc main_arg1))
          (m ((c.tc : Thread nD τ).loc main_arg2)) (m ((c.tc : Thread nD τ).loc main_arg3))) (m ((c.tc : Thread nD τ).loc main_arg5)) (angles (launchContents m c))
      ∧ r.2.mem ((c.tc : Thread nD τ).loc main_v143) = refV (rows (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_v63) = refS (rows (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_v144) = refF (rows (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.Reference2Ideal.Value.run m ρ

end Cert.Reference2Ideal.InProj

end
-- ==== Proof.InProjHost.lean ====
/-
  The arrays the input projection's host part hands to the call: the cosines and signed sines laid out over 512 columns,
  the matrix of ones that sums a head, and the norms' gains, each read at an index.
-/
module

public import proofs.«01_k».proof.Proof.InProjTile
public import proofs.«01_k».proof.Proof.InProjReference

@[expose] public section

set_option maxRecDepth 16384

noncomputable section

namespace Cert.Kernel2Ideal.InProj

open Cert.Kernel2Ideal Cert.Kernel2Ideal.Gen Cert.InProj
open Idealize.ShloMosaic Idealize.ShloMosaic.TcCoe Idealize.SL.Sem

/-! ## The terms -/

/-- A table over all positions: the word `z` at the first 256 rows, below them the two halves, once per head. -/
def table (z : BitVec 32) (A B : FVec Ideal S2048x32 .f32) : FVec Ideal S2304x512 .f32 :=
  concatenate S2304x512 0 [⟨S256x512, broadcastInDim S256x512 ![] bcast_S_S256x512 (constant S_ .f32 z)⟩,
    ⟨S2048x512, shapeCast S2048x512 (broadcastInDim S1x2048x8x64 ![0, 1, 2, 3] bcast_S1x2048x1x64_S1x2048x8x64_0_1_2_3
      (shapeCast S1x2048x1x64 (concatenate S2048x64 1 [⟨S2048x32, A⟩, ⟨S2048x32, B⟩] concatenates_S2048x32_S2048x32_S2048x64_d1)
        shapeCasts_S2048x64_S1x2048x1x64)) shapeCasts_S1x2048x8x64_S2048x512⟩] concatenates_S256x512_S2048x512_S2304x512_d0

theorem table_context (z : BitVec 32) (A B : FVec Ideal S2048x32 .f32) (s : Fin 2304) (hs : s.val < 256) (j : Fin 512) :
    table z A B (ix2 s j) = Ideal.ofBits .f32 z := by
  unfold table
  pointwise
  simp [hs]

theorem table_latent (z : BitVec 32) (A B : FVec Ideal S2048x32 .f32) (s : Fin 2304) (hs : 256 ≤ s.val) (j : Fin 512) :
    table z A B (ix2 s j) = if j.val % 64 < 32 then A (ix2 ⟨s.val - 256, by omega⟩ ⟨j.val % 32, by omega⟩)
      else B (ix2 ⟨s.val - 256, by omega⟩ ⟨j.val % 32, by omega⟩) := by
  unfold table
  pointwise
  rw [dif_neg (by omega)]
  split
  · exact congrArg A (congrArg (ix2 _) (Fin.ext (by simp only; omega)))
  · exact congrArg B (congrArg (ix2 _) (Fin.ext (by simp only; omega)))

/-- The matrix of ones within each head. -/
def ones : FVec Ideal S512x512 .bf16 :=
  truncf .bf16 (shapeCast S512x512 (mulf
    (broadcastInDim S8x64x8x64 ![0, 1, 2, 3] bcast_S8x1x8x1_S8x64x8x64_0_1_2_3 (broadcastInDim S8x1x8x1 ![0, 2] bcast_S8x8_S8x1x8x1_0_2
      (uitofp .f32 (cmpi .eq (addi (iotaInDim S8x8 32 0) (broadcastInDim S8x8 ![] bcast_S_S8x8 (constantI S_ 32 0#32))) (iotaInDim S8x8 32 1)))))
    (broadcastInDim S8x64x8x64 ![0, 1, 2, 3] bcast_S1x64x1x64_S8x64x8x64_0_1_2_3 (broadcastInDim S1x64x1x64 ![1, 3] bcast_S64x64_S1x64x1x64_1_3
      (broadcastInDim S64x64 ![] bcast_S_S64x64 (constant S_ .f32 0x3F800000#32) : FVec Ideal S64x64 .f32)))) shapeCasts_S8x64x8x64_S512x512) bitsLt_bf16_f32

theorem same_word (a b : ℕ) (ha : a < 8) (hb : b < 8) :
    (FloatOps.uitofp FTy.f32 (IntOp.cmpi .eq (IntOp.addi (BitVec.ofNat 32 a) 0#32) (BitVec.ofNat 32 b)) : Ideal .f32)
      = if a = b then (1 : EReal) else 0 := by
  have h : IntOp.cmpi .eq (IntOp.addi (BitVec.ofNat 32 a) 0#32) (BitVec.ofNat 32 b) = if a = b then 1#1 else 0#1 := by
    interval_cases a <;> interval_cases b <;> rfl
  rw [h]
  split
  · exact (by simp [FloatOps.uitofp] : (FloatOps.uitofp FTy.f32 1#1 : Ideal .f32) = (1 : EReal))
  · exact (by simp [FloatOps.uitofp] : (FloatOps.uitofp FTy.f32 0#1 : Ideal .f32) = (0 : EReal))

theorem ones_at (x j : Fin 512) : ones (ix2 x j) = if x.val / 64 = j.val / 64 then 1 else 0 := by
  unfold ones
  pointwise
  exact same_word _ _ (by omega) (by omega)

/-- A gain over 64 columns, once per head. -/
def tiled (g : FVec Ideal S64 .f32) : FVec Ideal S1x512 .f32 :=
  shapeCast S1x512 (shapeCast S512 (broadcastInDim S8x64 ![0, 1] bcast_S1x64_S8x64_0_1 (shapeCast S1x64 g shapeCasts_S64_S1x64))
    shapeCasts_S8x64_S512) shapeCasts_S512_S1x512

theorem tiled_at (g : FVec Ideal S64 .f32) (j : Fin 512) : tiled g (ix2 0 j) = g (ix1 ⟨j.val % 64, by omega⟩) := by
  unfold tiled
  pointwise

/-! ## The arrays -/

variable (m : (ℓ : Loc nD τ sig) → Buf (Elt Ideal) ℓ)

theorem V_v21 (c : Dev nD) (V0 : Valuation Cert.Reference2Ideal.τ Cert.Reference2Ideal.sig (Elt Ideal)) :
    V m c main_v21 = Cert.Reference2Ideal.InProj.angles V0 := by
  unfold V
  simp only [hostOps0, hostOps0_1, hostOps0_2, hostOps0_3, hostOps0_4, hostOps0_5, hostOps0_6, List.flatten_cons, List.flatten_nil, List.append_nil, List.cons_append, List.nil_append]
  after_results
  rfl
theorem V_v33 (c : Dev nD) : V m c main_v33 = table 0x3F800000#32 (Host.cos (V m c main_v21 : FVec Ideal S2048x32 .f32)) (Host.cos (V m c main_v21 : FVec Ideal S2048x32 .f32)) := by
  unfold V
  simp only [hostOps0, hostOps0_1, hostOps0_2, hostOps0_3, hostOps0_4, hostOps0_5, hostOps0_6, List.flatten_cons, List.flatten_nil, List.append_nil, List.cons_append, List.nil_append]
  after_results
  rfl
theorem V_v38 (c : Dev nD) : V m c main_v38 = table 0x00000000#32 (Host.negf (Host.sin (V m c main_v21 : FVec Ideal S2048x32 .f32)))
    (broadcastInDim S2048x32 ![] bcast_S_S2048x32 (constant S_ .f32 0x00000000#32)) := by
  unfold V
  simp only [hostOps0, hostOps0_1, hostOps0_2, hostOps0_3, hostOps0_4, hostOps0_5, hostOps0_6, List.flatten_cons, List.flatten_nil, List.append_nil, List.cons_append, List.nil_append]
  after_results
  rfl
theorem V_v43 (c : Dev nD) : V m c main_v43 = table 0x00000000#32 (broadcastInDim S2048x32 ![] bcast_S_S2048x32 (constant S_ .f32 0x00000000#32))
    (Host.sin (V m c main_v21 : FVec Ideal S2048x32 .f32)) := by
  unfold V
  simp only [hostOps0, hostOps0_1, hostOps0_2, hostOps0_3, hostOps0_4, hostOps0_5, hostOps0_6, List.flatten_cons, List.flatten_nil, List.append_nil, List.cons_append, List.nil_append]
  after_results
  rfl
theorem V_v52 (c : Dev nD) : V m c main_v52 = ones := by
  unfold V
  simp only [hostOps0, hostOps0_1, hostOps0_2, hostOps0_3, hostOps0_4, hostOps0_5, hostOps0_6, List.flatten_cons, List.flatten_nil, List.append_nil, List.cons_append, List.nil_append]
  after_results
  rfl
theorem V_v58 (c : Dev nD) : V m c main_v58 = tiled (mulf (m ((c : Thread nD τ).loc main_arg4) : FVec Ideal S64 .f32)
    (broadcastInDim S64 ![] bcast_S_S64 (constant S_ .f32 0x3E000000#32))) := by
  unfold V
  simp only [hostOps0, hostOps0_1, hostOps0_2, hostOps0_3, hostOps0_4, hostOps0_5, hostOps0_6, List.flatten_cons, List.flatten_nil, List.append_nil, List.cons_append, List.nil_append]
  after_results
  rfl
theorem V_v62 (c : Dev nD) : V m c main_v62 = tiled (m ((c : Thread nD τ).loc main_arg5) : FVec Ideal S64 .f32) := by
  unfold V
  simp only [hostOps0, hostOps0_1, hostOps0_2, hostOps0_3, hostOps0_4, hostOps0_5, hostOps0_6, List.flatten_cons, List.flatten_nil, List.append_nil, List.cons_append, List.nil_append]
  after_results
  rfl
theorem V_v63 (c : Dev nD) : V m c main_v63 = shapeCast S1x1024 (m ((c : Thread nD τ).loc main_arg2) : FVec Ideal S1024 .f32) shapeCasts_S1024_S1x1024 := by
  unfold V
  simp only [hostOps0, hostOps0_1, hostOps0_2, hostOps0_3, hostOps0_4, hostOps0_5, hostOps0_6, List.flatten_cons, List.flatten_nil, List.append_nil, List.cons_append, List.nil_append]
  after_results
  rfl
theorem V_v64 (c : Dev nD) : V m c main_v64
    = (truncf .bf16 (m ((c : Thread nD τ).loc main_arg3) : FVec Ideal S1024x2048 .f32) bitsLt_bf16_f32 : FVec Ideal S1024x2048 .bf16) := by
  unfold V
  simp only [hostOps0, hostOps0_1, hostOps0_2, hostOps0_3, hostOps0_4, hostOps0_5, hostOps0_6, List.flatten_cons, List.flatten_nil, List.append_nil, List.cons_append, List.nil_append]
  after_results

end Cert.Kernel2Ideal.InProj

end
-- ==== Proof.InProjValue.lean ====
/-
  The arrays the input projection leaves: the reference's terms over the same arguments. Each tile reads its rows, its
  conditioning and its rows of the tables, and writes its own blocks; the blocks cover the results.
-/
module

public import proofs.«01_k».proof.Proof.InProjHost
public import proofs.«01_k».proof.Proof.Gen.Kernel2Ideal.Value

@[expose] public section

set_option maxRecDepth 16384

noncomputable section

namespace Cert.Kernel2Ideal.InProj

open Cert.Kernel2Ideal Cert.Kernel2Ideal.Gen Cert.InProj
open Idealize.ShloMosaic Idealize.ShloMosaic.TcCoe Idealize.SL.Sem
open Idealize.ShloMosaic.Pipeline (Dat)

open Cert.Kernel2Ideal.Value
open Cert.Reference2Ideal.InProj (rowAt headsAt rows rows_at refQ refK refV refS refF refQ_at refK_at refV_at refS_at refF_at)

theorem one_word : Ideal.ofBits .f32 0x3F800000#32 = (1 : EReal) := by
  rw [← EReal.coe_one]
  simp [Ideal.ofBits, Ideal.ieee, -EReal.coe_mul, -EReal.coe_one]; norm_num
theorem zero_word : Ideal.ofBits .f32 0x00000000#32 = (0 : EReal) := by
  simp [Ideal.ofBits, Ideal.ieee, -EReal.coe_mul]

/-- The three tables over the angles. -/
def cosines (an : FVec Ideal S2048x32 .f32) : FVec Ideal S2304x512 .f32 := table 0x3F800000#32 (Host.cos an) (Host.cos an)
def sinesLo (an : FVec Ideal S2048x32 .f32) : FVec Ideal S2304x512 .f32 :=
  table 0x00000000#32 (Host.negf (Host.sin an)) (broadcastInDim S2048x32 ![] bcast_S_S2048x32 (constant S_ .f32 0x00000000#32))
def sinesHi (an : FVec Ideal S2048x32 .f32) : FVec Ideal S2304x512 .f32 :=
  table 0x00000000#32 (broadcastInDim S2048x32 ![] bcast_S_S2048x32 (constant S_ .f32 0x00000000#32)) (Host.sin an)

/-- The turn by the tables' rows is the reference's. -/
theorem turn_tables (t : Fin 512 → EReal) (an : FVec Ideal S2048x32 .f32) (s : Fin 2304) (j : Fin 512) :
    turnAll t (fun j => cosines an (ix2 s j)) (fun j => sinesLo an (ix2 s j)) (fun j => sinesHi an (ix2 s j)) j
      = if h : s.val < 256 then t j
        else turned t (fun k => Ideal.cos (an (ix2 ⟨s.val - 256, by omega⟩ k))) (fun k => Ideal.sin (an (ix2 ⟨s.val - 256, by omega⟩ k))) j := by
  split
  · rename_i h
    exact turnAll_context _ _ _ _ _ ((table_context _ _ _ s h j).trans one_word) ((table_context _ _ _ s h j).trans zero_word)
      ((table_context _ _ _ s h j).trans zero_word)
  · rename_i h
    refine turnAll_latent _ _ _ _ _ _ _ ?_ ?_ ?_
    · exact (table_latent _ _ _ s (by omega) j).trans (ite_self _)
    · exact (table_latent _ _ _ s (by omega) j).trans (if_congr Iff.rfl rfl zero_word)
    · exact (table_latent _ _ _ s (by omega) j).trans (if_congr Iff.rfl zero_word rfl)

section
variable (x0 : Vec Ideal S2x256x1024 .f32) (x1 : Vec Ideal S2x1x6x1024 .f32) (x2 : Vec Ideal S1x1024 .f32)
  (x3 : Vec Ideal S1024x2048 .bf16) (x4 x5 : Vec Ideal S1x512 .f32) (x6 : Vec Ideal S512x512 .bf16) (x7 x8 x9 : Vec Ideal S256x512 .f32)
  (A0 : FVec Ideal S16x2304x1024 .f32) (A1 : FVec Ideal S16x2x6x1024 .f32) (A2 : FVec Ideal S1024 .f32)
  (A3 : FVec Ideal S1024x2048 .f32) (A4 A5 : FVec Ideal S64 .f32) (an : FVec Ideal S2048x32 .f32) (p : Fin 8) (i : Fin 9)
  (b0 : ∀ (n : Fin 2) (r : Fin 256) (a : Fin 1024), x0 (ix3 n r a) = A0 (ix3 (⟨p.val * 2 + n.val, by omega⟩ : Fin 16) (⟨i.val * 256 + r.val, by omega⟩ : Fin 2304) a))
  (b1 : ∀ (n : Fin 2) (k : Fin 6) (a : Fin 1024), x1 (ix4 n 0 k a) = A1 (ix4 (⟨p.val * 2 + n.val, by omega⟩ : Fin 16) (if 1 ≤ i.val then 1 else 0) k a))
  (b2 : ∀ a : Fin 1024, x2 (ix2 0 a) = A2 (ix1 a)) (b3 : ∀ (a : Fin 1024) (j : Fin 2048), x3 (ix2 a j) = A3 (ix2 a j))
  (b4 : ∀ j : Fin 512, x4 (ix2 0 j) = A4 (ix1 ⟨j.val % 64, by omega⟩) * scale) (b5 : ∀ j : Fin 512, x5 (ix2 0 j) = A5 (ix1 ⟨j.val % 64, by omega⟩))
  (b6 : ∀ x j : Fin 512, x6 (ix2 x j) = if x.val / 64 = j.val / 64 then 1 else 0)
  (b7 : ∀ (r : Fin 256) (j : Fin 512), x7 (ix2 r j) = cosines an (ix2 (⟨i.val * 256 + r.val, by omega⟩ : Fin 2304) j))
  (b8 : ∀ (r : Fin 256) (j : Fin 512), x8 (ix2 r j) = sinesLo an (ix2 (⟨i.val * 256 + r.val, by omega⟩ : Fin 2304) j))
  (b9 : ∀ (r : Fin 256) (j : Fin 512), x9 (ix2 r j) = sinesHi an (ix2 (⟨i.val * 256 + r.val, by omega⟩ : Fin 2304) j))

include b0 b1 b2 b3 in
theorem row_eq (n : Fin 2) (r : Fin 256) (j : Fin 2048) : rowOf x0 x1 x2 x3 n r j
    = rows A0 A1 A2 A3 (ix3 (⟨p.val * 2 + n.val, by omega⟩ : Fin 16) (⟨i.val * 256 + r.val, by omega⟩ : Fin 2304) j) := by
  rw [rows_at]
  unfold rowOf rowAt
  have e : (256 ≤ i.val * 256 + r.val) = (1 ≤ i.val) := propext (by omega)
  simp only [b0, b1, b2, b3, e]

include b7 b8 b9 in
theorem turn_eq (t : Fin 512 → EReal) (r : Fin 256) (j : Fin 512) :
    turnAll t (fun j => x7 (ix2 r j)) (fun j => x8 (ix2 r j)) (fun j => x9 (ix2 r j)) j
      = if h : i.val * 256 + r.val < 256 then t j
        else turned t (fun k => Ideal.cos (an (ix2 ⟨i.val * 256 + r.val - 256, by omega⟩ k))) (fun k => Ideal.sin (an (ix2 ⟨i.val * 256 + r.val - 256, by omega⟩ k))) j := by
  simp only [b7, b8, b9]
  exact turn_tables t an (⟨i.val * 256 + r.val, by omega⟩ : Fin 2304) j

include b0 b1 b2 b3 b4 b6 b7 b8 b9 in
theorem tileQ (n : Fin 2) (r : Fin 256) (j : Fin 512) : out0_10 x0 x1 x2 x3 x4 x5 x6 x7 x8 x9 (ix3 n r j)
    = refQ (rows A0 A1 A2 A3) A4 an (ix3 (⟨p.val * 2 + n.val, by omega⟩ : Fin 16) (⟨i.val * 256 + r.val, by omega⟩ : Fin 2304) j) := by
  refine (q_at x0 x1 x2 x3 x4 x5 x6 x7 x8 x9 n r j).trans (Eq.trans ?_ (refQ_at _ _ _ _ _ _).symm)
  unfold headRow headsAt
  rw [normAll_scale _ _ _ (fun d => A4 (ix1 d)) b6 b4, turn_eq x7 x8 x9 an i b7 b8 b9]
  simp only [row_eq x0 x1 x2 x3 A0 A1 A2 A3 p i b0 b1 b2 b3]
  split
  · rfl
  · exact turned_scale _ _ _ j

include b0 b1 b2 b3 b5 b6 b7 b8 b9 in
theorem tileK (n : Fin 2) (r : Fin 256) (j : Fin 512) : out0_11 x0 x1 x2 x3 x4 x5 x6 x7 x8 x9 (ix3 n r j)
    = refK (rows A0 A1 A2 A3) A5 an (ix3 (⟨p.val * 2 + n.val, by omega⟩ : Fin 16) (⟨i.val * 256 + r.val, by omega⟩ : Fin 2304) j) := by
  refine (k_at x0 x1 x2 x3 x4 x5 x6 x7 x8 x9 n r j).trans (Eq.trans ?_ (refK_at _ _ _ _ _ _).symm)
  unfold headRow headsAt
  rw [normAll_unit _ _ _ (fun d => A5 (ix1 d)) b6 b5, turn_eq x7 x8 x9 an i b7 b8 b9]
  simp only [row_eq x0 x1 x2 x3 A0 A1 A2 A3 p i b0 b1 b2 b3]

include b0 b1 b2 b3 in
theorem tileV (n : Fin 2) (r : Fin 256) (j : Fin 512) : out0_12 x0 x1 x2 x3 x4 x5 x6 x7 x8 x9 (ix3 n r j)
    = refV (rows A0 A1 A2 A3) (ix3 (⟨p.val * 2 + n.val, by omega⟩ : Fin 16) (⟨i.val * 256 + r.val, by omega⟩ : Fin 2304) j) :=
  (v_at x0 x1 x2 x3 x4 x5 x6 x7 x8 x9 n r j).trans ((row_eq x0 x1 x2 x3 A0 A1 A2 A3 p i b0 b1 b2 b3 n r _).trans (refV_at _ _ _ _).symm)

include b0 b1 b2 b3 in
theorem tileS (n : Fin 2) (r : Fin 256) (j : Fin 256) : out0_13 x0 x1 x2 x3 x4 x5 x6 x7 x8 x9 (ix3 n r j)
    = refS (rows A0 A1 A2 A3) (ix3 (⟨p.val * 2 + n.val, by omega⟩ : Fin 16) (⟨i.val * 256 + r.val, by omega⟩ : Fin 2304) j) :=
  (us_at x0 x1 x2 x3 x4 x5 x6 x7 x8 x9 n r j).trans ((row_eq x0 x1 x2 x3 A0 A1 A2 A3 p i b0 b1 b2 b3 n r _).trans (refS_at _ _ _ _).symm)

include b0 b1 b2 b3 in
theorem tileF (n : Fin 2) (r : Fin 256) (j : Fin 256) : out0_14 x0 x1 x2 x3 x4 x5 x6 x7 x8 x9 (ix3 n r j)
    = refF (rows A0 A1 A2 A3) (ix3 (⟨p.val * 2 + n.val, by omega⟩ : Fin 16) (⟨i.val * 256 + r.val, by omega⟩ : Fin 2304) j) :=
  (uf_at x0 x1 x2 x3 x4 x5 x6 x7 x8 x9 n r j).trans ((row_eq x0 x1 x2 x3 A0 A1 A2 A3 p i b0 b1 b2 b3 n r _).trans (refF_at _ _ _ _).symm)
end

variable (m : (ℓ : Loc nD τ sig) → Buf (Elt Ideal) ℓ)

/-! ## Where the blocks sit -/

theorem at0 (t : Fin grid0.N) : cc0_transform_0 (grid0.coords t) = ![t.val % 8, t.val / 8, 0] :=
  (by decide +kernel : ∀ t : Fin grid0.N, cc0_transform_0 (grid0.coords t) = ![t.val % 8, t.val / 8, 0]) t
theorem at1 (t : Fin grid0.N) : cc0_transform_1 (grid0.coords t) = ![t.val % 8, if 1 ≤ t.val / 8 then 1 else 0, 0, 0] :=
  (by decide +kernel : ∀ t : Fin grid0.N, cc0_transform_1 (grid0.coords t) = ![t.val % 8, if 1 ≤ t.val / 8 then 1 else 0, 0, 0]) t
theorem at2 (t : Fin grid0.N) : cc0_transform_2 (grid0.coords t) = ![0, 0] :=
  (by decide +kernel : ∀ t : Fin grid0.N, cc0_transform_2 (grid0.coords t) = ![0, 0]) t
theorem at3 (t : Fin grid0.N) : cc0_transform_3 (grid0.coords t) = ![0, 0] :=
  (by decide +kernel : ∀ t : Fin grid0.N, cc0_transform_3 (grid0.coords t) = ![0, 0]) t
theorem at4 (t : Fin grid0.N) : cc0_transform_4 (grid0.coords t) = ![0, 0] :=
  (by decide +kernel : ∀ t : Fin grid0.N, cc0_transform_4 (grid0.coords t) = ![0, 0]) t
theorem at5 (t : Fin grid0.N) : cc0_transform_5 (grid0.coords t) = ![0, 0] :=
  (by decide +kernel : ∀ t : Fin grid0.N, cc0_transform_5 (grid0.coords t) = ![0, 0]) t
theorem at6 (t : Fin grid0.N) : cc0_transform_6 (grid0.coords t) = ![0, 0] :=
  (by decide +kernel : ∀ t : Fin grid0.N, cc0_transform_6 (grid0.coords t) = ![0, 0]) t
theorem at7 (t : Fin grid0.N) : cc0_transform_7 (grid0.coords t) = ![t.val / 8, 0] :=
  (by decide +kernel : ∀ t : Fin grid0.N, cc0_transform_7 (grid0.coords t) = ![t.val / 8, 0]) t
theorem at8 (t : Fin grid0.N) : cc0_transform_8 (grid0.coords t) = ![t.val / 8, 0] :=
  (by decide +kernel : ∀ t : Fin grid0.N, cc0_transform_8 (grid0.coords t) = ![t.val / 8, 0]) t
theorem at9 (t : Fin grid0.N) : cc0_transform_9 (grid0.coords t) = ![t.val / 8, 0] :=
  (by decide +kernel : ∀ t : Fin grid0.N, cc0_transform_9 (grid0.coords t) = ![t.val / 8, 0]) t
theorem at10 (t : Fin grid0.N) : cc0_transform_10 (grid0.coords t) = ![t.val % 8, t.val / 8, 0] :=
  (by decide +kernel : ∀ t : Fin grid0.N, cc0_transform_10 (grid0.coords t) = ![t.val % 8, t.val / 8, 0]) t
theorem at11 (t : Fin grid0.N) : cc0_transform_11 (grid0.coords t) = ![t.val % 8, t.val / 8, 0] :=
  (by decide +kernel : ∀ t : Fin grid0.N, cc0_transform_11 (grid0.coords t) = ![t.val % 8, t.val / 8, 0]) t
theorem at12 (t : Fin grid0.N) : cc0_transform_12 (grid0.coords t) = ![t.val % 8, t.val / 8, 0] :=
  (by decide +kernel : ∀ t : Fin grid0.N, cc0_transform_12 (grid0.coords t) = ![t.val % 8, t.val / 8, 0]) t
theorem at13 (t : Fin grid0.N) : cc0_transform_13 (grid0.coords t) = ![t.val % 8, t.val / 8, 0] :=
  (by decide +kernel : ∀ t : Fin grid0.N, cc0_transform_13 (grid0.coords t) = ![t.val % 8, t.val / 8, 0]) t
theorem at14 (t : Fin grid0.N) : cc0_transform_14 (grid0.coords t) = ![t.val % 8, t.val / 8, 0] :=
  (by decide +kernel : ∀ t : Fin grid0.N, cc0_transform_14 (grid0.coords t) = ![t.val % 8, t.val / 8, 0]) t
theorem flush10 (t : Fin grid0.N) : Pipeline.Window.flushOf grid0 true cc0_transform_10 t = true :=
  (by decide +kernel : ∀ t : Fin grid0.N, Pipeline.Window.flushOf grid0 true cc0_transform_10 t = true) t
theorem flush11 (t : Fin grid0.N) : Pipeline.Window.flushOf grid0 true cc0_transform_11 t = true :=
  (by decide +kernel : ∀ t : Fin grid0.N, Pipeline.Window.flushOf grid0 true cc0_transform_11 t = true) t
theorem flush12 (t : Fin grid0.N) : Pipeline.Window.flushOf grid0 true cc0_transform_12 t = true :=
  (by decide +kernel : ∀ t : Fin grid0.N, Pipeline.Window.flushOf grid0 true cc0_transform_12 t = true) t
theorem flush13 (t : Fin grid0.N) : Pipeline.Window.flushOf grid0 true cc0_transform_13 t = true :=
  (by decide +kernel : ∀ t : Fin grid0.N, Pipeline.Window.flushOf grid0 true cc0_transform_13 t = true) t
theorem flush14 (t : Fin grid0.N) : Pipeline.Window.flushOf grid0 true cc0_transform_14 t = true :=
  (by decide +kernel : ∀ t : Fin grid0.N, Pipeline.Window.flushOf grid0 true cc0_transform_14 t = true) t

theorem covers10 : (cfg0.win (10 : Fin 15)).Covers := by
  refine ⟨fun a => ?_, fun β => ?_⟩
  · match a with
    | ⟨0, _⟩ => exact (by decide : 0 < 2)
    | ⟨1, _⟩ => exact (by decide : 0 < 256)
    | ⟨2, _⟩ => exact (by decide : 0 < 512)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (512 + 512 - 1) / 512 := (β (2 : Fin 3)).isLt
    refine ⟨(⟨(β (1 : Fin 3) : ℕ) * 8 + (β (0 : Fin 3) : ℕ), by rw [N_0]; omega⟩ : Fin grid0.N), flush10 _, fun a => ⟨?_, .inl ?_⟩⟩
    · refine (congrFun (at10 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

theorem covers11 : (cfg0.win (11 : Fin 15)).Covers := by
  refine ⟨fun a => ?_, fun β => ?_⟩
  · match a with
    | ⟨0, _⟩ => exact (by decide : 0 < 2)
    | ⟨1, _⟩ => exact (by decide : 0 < 256)
    | ⟨2, _⟩ => exact (by decide : 0 < 512)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (512 + 512 - 1) / 512 := (β (2 : Fin 3)).isLt
    refine ⟨(⟨(β (1 : Fin 3) : ℕ) * 8 + (β (0 : Fin 3) : ℕ), by rw [N_0]; omega⟩ : Fin grid0.N), flush11 _, fun a => ⟨?_, .inl ?_⟩⟩
    · refine (congrFun (at11 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

theorem covers12 : (cfg0.win (12 : Fin 15)).Covers := by
  refine ⟨fun a => ?_, fun β => ?_⟩
  · match a with
    | ⟨0, _⟩ => exact (by decide : 0 < 2)
    | ⟨1, _⟩ => exact (by decide : 0 < 256)
    | ⟨2, _⟩ => exact (by decide : 0 < 512)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (512 + 512 - 1) / 512 := (β (2 : Fin 3)).isLt
    refine ⟨(⟨(β (1 : Fin 3) : ℕ) * 8 + (β (0 : Fin 3) : ℕ), by rw [N_0]; omega⟩ : Fin grid0.N), flush12 _, fun a => ⟨?_, .inl ?_⟩⟩
    · refine (congrFun (at12 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

theorem covers13 : (cfg0.win (13 : Fin 15)).Covers := by
  refine ⟨fun a => ?_, fun β => ?_⟩
  · match a with
    | ⟨0, _⟩ => exact (by decide : 0 < 2)
    | ⟨1, _⟩ => exact (by decide : 0 < 256)
    | ⟨2, _⟩ => exact (by decide : 0 < 256)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (256 + 256 - 1) / 256 := (β (2 : Fin 3)).isLt
    refine ⟨(⟨(β (1 : Fin 3) : ℕ) * 8 + (β (0 : Fin 3) : ℕ), by rw [N_0]; omega⟩ : Fin grid0.N), flush13 _, fun a => ⟨?_, .inl ?_⟩⟩
    · refine (congrFun (at13 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

theorem covers14 : (cfg0.win (14 : Fin 15)).Covers := by
  refine ⟨fun a => ?_, fun β => ?_⟩
  · match a with
    | ⟨0, _⟩ => exact (by decide : 0 < 2)
    | ⟨1, _⟩ => exact (by decide : 0 < 256)
    | ⟨2, _⟩ => exact (by decide : 0 < 256)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (256 + 256 - 1) / 256 := (β (2 : Fin 3)).isLt
    refine ⟨(⟨(β (1 : Fin 3) : ℕ) * 8 + (β (0 : Fin 3) : ℕ), by rw [N_0]; omega⟩ : Fin grid0.N), flush14 _, fun a => ⟨?_, .inl ?_⟩⟩
    · refine (congrFun (at14 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

/-! ## What the blocks hold -/

theorem blk0 (c : Dev nD) (t : Fin cfg0.N) (ht : t.val < 72) (n : Fin 2) (r : Fin 256) (a : Fin 1024) :
    iblk m c (0 : Fin 15) t (ix3 n r a) = m ((c : Thread nD τ).loc main_arg0)
      (ix3 (⟨t.val % 8 * 2 + n.val, by omega⟩ : Fin 16) (⟨t.val / 8 * 256 + r.val, by omega⟩ : Fin 2304) a) := by
  unfold iblk
  blk_simp
  rw [V_main_arg0]
  refine congrArg _ (funext fun x => Fin.ext ?_)
  have e : (cfg0.win (0 : Fin 15)).index t = ![t.val % 8, t.val / 8, 0] := at0 t
  match x with
  | ⟨0, _⟩ => blk_simp [e]
  | ⟨1, _⟩ => blk_simp [e]
  | ⟨2, _⟩ => blk_simp [e]

theorem blk1 (c : Dev nD) (t : Fin cfg0.N) (ht : t.val < 72) (n : Fin 2) (k : Fin 6) (a : Fin 1024) :
    iblk m c (1 : Fin 15) t (ix4 n 0 k a) = m ((c : Thread nD τ).loc main_arg1)
      (ix4 (⟨t.val % 8 * 2 + n.val, by omega⟩ : Fin 16) (if 1 ≤ t.val / 8 then 1 else 0) k a) := by
  unfold iblk
  blk_simp
  rw [V_main_arg1]
  refine congrArg _ (funext fun x => Fin.ext ?_)
  have e : (cfg0.win (1 : Fin 15)).index t = ![t.val % 8, if 1 ≤ t.val / 8 then 1 else 0, 0, 0] := at1 t
  match x with
  | ⟨0, _⟩ => blk_simp [e]
  | ⟨1, _⟩ => blk_simp [e]; split <;> rfl
  | ⟨2, _⟩ => blk_simp [e]
  | ⟨3, _⟩ => blk_simp [e]

theorem blk2 (c : Dev nD) (t : Fin cfg0.N) (a : Fin 1024) :
    iblk m c (2 : Fin 15) t (ix2 0 a) = (V m c main_v63 : FVec Ideal S1x1024 .f32) (ix2 0 a) := by
  unfold iblk
  blk_simp
  refine congrArg _ (funext fun x => Fin.ext ?_)
  have e : (cfg0.win (2 : Fin 15)).index t = ![0, 0] := at2 t
  match x with
  | ⟨0, _⟩ => blk_simp [e]
  | ⟨1, _⟩ => blk_simp [e]

theorem blk3 (c : Dev nD) (t : Fin cfg0.N) (a : Fin 1024) (j : Fin 2048) :
    iblk m c (3 : Fin 15) t (ix2 a j) = (V m c main_v64 : FVec Ideal S1024x2048 .bf16) (ix2 a j) := by
  unfold iblk
  blk_simp
  refine congrArg _ (funext fun x => Fin.ext ?_)
  have e : (cfg0.win (3 : Fin 15)).index t = ![0, 0] := at3 t
  match x with
  | ⟨0, _⟩ => blk_simp [e]
  | ⟨1, _⟩ => blk_simp [e]

theorem blk4 (c : Dev nD) (t : Fin cfg0.N) (j : Fin 512) :
    iblk m c (4 : Fin 15) t (ix2 0 j) = (V m c main_v58 : FVec Ideal S1x512 .f32) (ix2 0 j) := by
  unfold iblk
  blk_simp
  refine congrArg _ (funext fun x => Fin.ext ?_)
  have e : (cfg0.win (4 : Fin 15)).index t = ![0, 0] := at4 t
  match x with
  | ⟨0, _⟩ => blk_simp [e]
  | ⟨1, _⟩ => blk_simp [e]

theorem blk5 (c : Dev nD) (t : Fin cfg0.N) (j : Fin 512) :
    iblk m c (5 : Fin 15) t (ix2 0 j) = (V m c main_v62 : FVec Ideal S1x512 .f32) (ix2 0 j) := by
  unfold iblk
  blk_simp
  refine congrArg _ (funext fun x => Fin.ext ?_)
  have e : (cfg0.win (5 : Fin 15)).index t = ![0, 0] := at5 t
  match x with
  | ⟨0, _⟩ => blk_simp [e]
  | ⟨1, _⟩ => blk_simp [e]

theorem blk6 (c : Dev nD) (t : Fin cfg0.N) (i j : Fin 512) :
    iblk m c (6 : Fin 15) t (ix2 i j) = (V m c main_v52 : FVec Ideal S512x512 .bf16) (ix2 i j) := by
  unfold iblk
  blk_simp
  refine congrArg _ (funext fun x => Fin.ext ?_)
  have e : (cfg0.win (6 : Fin 15)).index t = ![0, 0] := at6 t
  match x with
  | ⟨0, _⟩ => blk_simp [e]
  | ⟨1, _⟩ => blk_simp [e]

theorem blk7 (c : Dev nD) (t : Fin cfg0.N) (ht : t.val < 72) (r : Fin 256) (j : Fin 512) :
    iblk m c (7 : Fin 15) t (ix2 r j) = (V m c main_v33 : FVec Ideal S2304x512 .f32) (ix2 (⟨t.val / 8 * 256 + r.val, by omega⟩ : Fin 2304) j) := by
  unfold iblk
  blk_simp
  refine congrArg _ (funext fun x => Fin.ext ?_)
  have e : (cfg0.win (7 : Fin 15)).index t = ![t.val / 8, 0] := at7 t
  match x with
  | ⟨0, _⟩ => blk_simp [e]
  | ⟨1, _⟩ => blk_simp [e]

theorem blk8 (c : Dev nD) (t : Fin cfg0.N) (ht : t.val < 72) (r : Fin 256) (j : Fin 512) :
    iblk m c (8 : Fin 15) t (ix2 r j) = (V m c main_v38 : FVec Ideal S2304x512 .f32) (ix2 (⟨t.val / 8 * 256 + r.val, by omega⟩ : Fin 2304) j) := by
  unfold iblk
  blk_simp
  refine congrArg _ (funext fun x => Fin.ext ?_)
  have e : (cfg0.win (8 : Fin 15)).index t = ![t.val / 8, 0] := at8 t
  match x with
  | ⟨0, _⟩ => blk_simp [e]
  | ⟨1, _⟩ => blk_simp [e]

theorem blk9 (c : Dev nD) (t : Fin cfg0.N) (ht : t.val < 72) (r : Fin 256) (j : Fin 512) :
    iblk m c (9 : Fin 15) t (ix2 r j) = (V m c main_v43 : FVec Ideal S2304x512 .f32) (ix2 (⟨t.val / 8 * 256 + r.val, by omega⟩ : Fin 2304) j) := by
  unfold iblk
  blk_simp
  refine congrArg _ (funext fun x => Fin.ext ?_)
  have e : (cfg0.win (9 : Fin 15)).index t = ![t.val / 8, 0] := at9 t
  match x with
  | ⟨0, _⟩ => blk_simp [e]
  | ⟨1, _⟩ => blk_simp [e]

theorem gain_row (g : FVec Ideal S1024 .f32) (a : Fin 1024) : shapeCast S1x1024 g shapeCasts_S1024_S1x1024 (ix2 0 a) = g (ix1 a) := by
  pointwise

/-- A query gain at a column, scaled. -/
def gainAt (g : FVec Ideal S64 .f32) (j : Fin 512) : EReal := g (ix1 ⟨j.val % 64, by omega⟩) * scale
/-- One within a head, else zero. -/
def oneAt (x j : Fin 512) : EReal := if x.val / 64 = j.val / 64 then 1 else 0

theorem gain2 (c : Dev nD) (a : Fin 1024) : (V m c main_v63 : FVec Ideal S1x1024 .f32) (ix2 0 a) = m ((c : Thread nD τ).loc main_arg2) (ix1 a) :=
  (congrFun (V_v63 m c) _).trans (gain_row _ a)
theorem weights3 (c : Dev nD) (a : Fin 1024) (j : Fin 2048) :
    (V m c main_v64 : FVec Ideal S1024x2048 .bf16) (ix2 a j) = m ((c : Thread nD τ).loc main_arg3) (ix2 a j) :=
  congrFun (V_v64 m c) _
theorem gain4 (c : Dev nD) (j : Fin 512) : (V m c main_v58 : FVec Ideal S1x512 .f32) (ix2 0 j)
    = gainAt (m ((c : Thread nD τ).loc main_arg4)) j :=
  (congrFun (V_v58 m c) _).trans (tiled_at _ j)
theorem gain5 (c : Dev nD) (j : Fin 512) : (V m c main_v62 : FVec Ideal S1x512 .f32) (ix2 0 j)
    = (m ((c : Thread nD τ).loc main_arg5) : FVec Ideal S64 .f32) (ix1 ⟨j.val % 64, by omega⟩) :=
  (congrFun (V_v62 m c) _).trans (tiled_at _ j)
theorem ones6 (c : Dev nD) (x j : Fin 512) : (V m c main_v52 : FVec Ideal S512x512 .bf16) (ix2 x j) = oneAt x j :=
  (congrFun (V_v52 m c) _).trans (ones_at x j)

/-! ## The results -/

variable (an : FVec Ideal S2048x32 .f32)

/-- The projected rows over the kernel's arguments. -/
abbrev projected (c : Dev nD) : FVec Ideal Cert.Reference2Ideal.S16x2304x2048 .f32 :=
  rows (m ((c : Thread nD τ).loc main_arg0)) (m ((c : Thread nD τ).loc main_arg1)) (m ((c : Thread nD τ).loc main_arg2)) (m ((c : Thread nD τ).loc main_arg3))

section
variable (c : Dev nD) (han : V m c main_v21 = an)
include han

theorem cos7 : (V m c main_v33 : FVec Ideal S2304x512 .f32) = cosines an := by
  subst han; exact V_v33 m c
theorem lo8 : (V m c main_v38 : FVec Ideal S2304x512 .f32) = sinesLo an := by
  subst han; exact V_v38 m c
theorem hi9 : (V m c main_v43 : FVec Ideal S2304x512 .f32) = sinesHi an := by
  subst han; exact V_v43 m c

theorem pointQ (t : Fin cfg0.N) (ht : t.val < 72) (n : Fin 2) (r : Fin 256) (j : Fin 512) :
    out0_10 (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (ix3 n r j)
      = refQ (projected m c) (m ((c : Thread nD τ).loc main_arg4)) an (ix3 (⟨t.val % 8 * 2 + n.val, by omega⟩ : Fin 16) (⟨t.val / 8 * 256 + r.val, by omega⟩ : Fin 2304) j) :=
  tileQ (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t)
    (m ((c : Thread nD τ).loc main_arg0)) (m ((c : Thread nD τ).loc main_arg1)) (m ((c : Thread nD τ).loc main_arg2))
    (m ((c : Thread nD τ).loc main_arg3)) (m ((c : Thread nD τ).loc main_arg4)) an (⟨t.val % 8, by omega⟩ : Fin 8) (⟨t.val / 8, by omega⟩ : Fin 9)
    (fun n r a => blk0 m c t ht n r a) (fun n k a => blk1 m c t ht n k a)
    (fun a => (blk2 m c t a).trans (gain2 m c a)) (fun a j => (blk3 m c t a j).trans (weights3 m c a j))
    (fun j => (blk4 m c t j).trans (gain4 m c j)) (fun x j => (blk6 m c t x j).trans (ones6 m c x j)) (fun r j => (blk7 m c t ht r j).trans (congrFun (cos7 m an c han) _)) (fun r j => (blk8 m c t ht r j).trans (congrFun (lo8 m an c han) _)) (fun r j => (blk9 m c t ht r j).trans (congrFun (hi9 m an c han) _)) n r j

/-- The result array after the run. -/
theorem finalQ : (dats m 0 c).arrAt (10 : Fin 15) cfg0.N = (refQ (projected m c) (m ((c : Thread nD τ).loc main_arg4)) an : FVec Ideal S16x2304x512 .bf16) := by
  refine (dats m 0 c).arrAt_eq_of_covers (10 : Fin 15) _ covers10 fun t _ y => ?_
  blk_simp
  rw [after0_10]
  have ht : t.val < 72 := lt_of_lt_of_eq t.isLt N_0
  have e : (cfg0.win (10 : Fin 15)).index t = ![t.val % 8, t.val / 8, 0] := at10 t
  have hy : y = (ix3 (y (0 : Fin 3)) (y (1 : Fin 3)) (y (2 : Fin 3)) : S2x256x512.Idx) := eq_ix3 (y : S2x256x512.Idx)
  rw [hy]
  refine (pointQ m an c han t ht (y (0 : Fin 3)) (y (1 : Fin 3)) (y (2 : Fin 3))).trans (congrArg (refQ (projected m c) (m ((c : Thread nD τ).loc main_arg4)) an) (funext fun x => Fin.ext ?_))
  match x with
  | ⟨0, _⟩ => blk_simp [e]
  | ⟨1, _⟩ => blk_simp [e]
  | ⟨2, _⟩ => blk_simp [e]

theorem pointK (t : Fin cfg0.N) (ht : t.val < 72) (n : Fin 2) (r : Fin 256) (j : Fin 512) :
    out0_11 (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (ix3 n r j)
      = refK (projected m c) (m ((c : Thread nD τ).loc main_arg5)) an (ix3 (⟨t.val % 8 * 2 + n.val, by omega⟩ : Fin 16) (⟨t.val / 8 * 256 + r.val, by omega⟩ : Fin 2304) j) :=
  tileK (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t)
    (m ((c : Thread nD τ).loc main_arg0)) (m ((c : Thread nD τ).loc main_arg1)) (m ((c : Thread nD τ).loc main_arg2))
    (m ((c : Thread nD τ).loc main_arg3)) (m ((c : Thread nD τ).loc main_arg5)) an (⟨t.val % 8, by omega⟩ : Fin 8) (⟨t.val / 8, by omega⟩ : Fin 9)
    (fun n r a => blk0 m c t ht n r a) (fun n k a => blk1 m c t ht n k a)
    (fun a => (blk2 m c t a).trans (gain2 m c a)) (fun a j => (blk3 m c t a j).trans (weights3 m c a j))
    (fun j => (blk5 m c t j).trans (gain5 m c j)) (fun x j => (blk6 m c t x j).trans (ones6 m c x j)) (fun r j => (blk7 m c t ht r j).trans (congrFun (cos7 m an c han) _)) (fun r j => (blk8 m c t ht r j).trans (congrFun (lo8 m an c han) _)) (fun r j => (blk9 m c t ht r j).trans (congrFun (hi9 m an c han) _)) n r j

/-- The result array after the run. -/
theorem finalK : (dats m 0 c).arrAt (11 : Fin 15) cfg0.N = (refK (projected m c) (m ((c : Thread nD τ).loc main_arg5)) an : FVec Ideal S16x2304x512 .bf16) := by
  refine (dats m 0 c).arrAt_eq_of_covers (11 : Fin 15) _ covers11 fun t _ y => ?_
  blk_simp
  rw [after0_11]
  have ht : t.val < 72 := lt_of_lt_of_eq t.isLt N_0
  have e : (cfg0.win (11 : Fin 15)).index t = ![t.val % 8, t.val / 8, 0] := at11 t
  have hy : y = (ix3 (y (0 : Fin 3)) (y (1 : Fin 3)) (y (2 : Fin 3)) : S2x256x512.Idx) := eq_ix3 (y : S2x256x512.Idx)
  rw [hy]
  refine (pointK m an c han t ht (y (0 : Fin 3)) (y (1 : Fin 3)) (y (2 : Fin 3))).trans (congrArg (refK (projected m c) (m ((c : Thread nD τ).loc main_arg5)) an) (funext fun x => Fin.ext ?_))
  match x with
  | ⟨0, _⟩ => blk_simp [e]
  | ⟨1, _⟩ => blk_simp [e]
  | ⟨2, _⟩ => blk_simp [e]

omit han in
theorem pointV (t : Fin cfg0.N) (ht : t.val < 72) (n : Fin 2) (r : Fin 256) (j : Fin 512) :
    out0_12 (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (ix3 n r j)
      = refV (projected m c) (ix3 (⟨t.val % 8 * 2 + n.val, by omega⟩ : Fin 16) (⟨t.val / 8 * 256 + r.val, by omega⟩ : Fin 2304) j) :=
  tileV (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t)
    (m ((c : Thread nD τ).loc main_arg0)) (m ((c : Thread nD τ).loc main_arg1)) (m ((c : Thread nD τ).loc main_arg2))
    (m ((c : Thread nD τ).loc main_arg3)) (⟨t.val % 8, by omega⟩ : Fin 8) (⟨t.val / 8, by omega⟩ : Fin 9)
    (fun n r a => blk0 m c t ht n r a) (fun n k a => blk1 m c t ht n k a)
    (fun a => (blk2 m c t a).trans (gain2 m c a)) (fun a j => (blk3 m c t a j).trans (weights3 m c a j))
     n r j

omit han in
/-- The result array after the run. -/
theorem finalV : (dats m 0 c).arrAt (12 : Fin 15) cfg0.N = (refV (projected m c) : FVec Ideal S16x2304x512 .bf16) := by
  refine (dats m 0 c).arrAt_eq_of_covers (12 : Fin 15) _ covers12 fun t _ y => ?_
  blk_simp
  rw [after0_12]
  have ht : t.val < 72 := lt_of_lt_of_eq t.isLt N_0
  have e : (cfg0.win (12 : Fin 15)).index t = ![t.val % 8, t.val / 8, 0] := at12 t
  have hy : y = (ix3 (y (0 : Fin 3)) (y (1 : Fin 3)) (y (2 : Fin 3)) : S2x256x512.Idx) := eq_ix3 (y : S2x256x512.Idx)
  rw [hy]
  refine (pointV m c t ht (y (0 : Fin 3)) (y (1 : Fin 3)) (y (2 : Fin 3))).trans (congrArg (refV (projected m c)) (funext fun x => Fin.ext ?_))
  match x with
  | ⟨0, _⟩ => blk_simp [e]
  | ⟨1, _⟩ => blk_simp [e]
  | ⟨2, _⟩ => blk_simp [e]

omit han in
theorem pointS (t : Fin cfg0.N) (ht : t.val < 72) (n : Fin 2) (r : Fin 256) (j : Fin 256) :
    out0_13 (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (ix3 n r j)
      = refS (projected m c) (ix3 (⟨t.val % 8 * 2 + n.val, by omega⟩ : Fin 16) (⟨t.val / 8 * 256 + r.val, by omega⟩ : Fin 2304) j) :=
  tileS (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t)
    (m ((c : Thread nD τ).loc main_arg0)) (m ((c : Thread nD τ).loc main_arg1)) (m ((c : Thread nD τ).loc main_arg2))
    (m ((c : Thread nD τ).loc main_arg3)) (⟨t.val % 8, by omega⟩ : Fin 8) (⟨t.val / 8, by omega⟩ : Fin 9)
    (fun n r a => blk0 m c t ht n r a) (fun n k a => blk1 m c t ht n k a)
    (fun a => (blk2 m c t a).trans (gain2 m c a)) (fun a j => (blk3 m c t a j).trans (weights3 m c a j))
     n r j

omit han in
/-- The result array after the run. -/
theorem finalS : (dats m 0 c).arrAt (13 : Fin 15) cfg0.N = (refS (projected m c) : FVec Ideal S16x2304x256 .f32) := by
  refine (dats m 0 c).arrAt_eq_of_covers (13 : Fin 15) _ covers13 fun t _ y => ?_
  blk_simp
  rw [after0_13]
  have ht : t.val < 72 := lt_of_lt_of_eq t.isLt N_0
  have e : (cfg0.win (13 : Fin 15)).index t = ![t.val % 8, t.val / 8, 0] := at13 t
  have hy : y = (ix3 (y (0 : Fin 3)) (y (1 : Fin 3)) (y (2 : Fin 3)) : S2x256x256.Idx) := eq_ix3 (y : S2x256x256.Idx)
  rw [hy]
  refine (pointS m c t ht (y (0 : Fin 3)) (y (1 : Fin 3)) (y (2 : Fin 3))).trans (congrArg (refS (projected m c)) (funext fun x => Fin.ext ?_))
  match x with
  | ⟨0, _⟩ => blk_simp [e]
  | ⟨1, _⟩ => blk_simp [e]
  | ⟨2, _⟩ => blk_simp [e]

omit han in
theorem pointF (t : Fin cfg0.N) (ht : t.val < 72) (n : Fin 2) (r : Fin 256) (j : Fin 256) :
    out0_14 (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t) (ix3 n r j)
      = refF (projected m c) (ix3 (⟨t.val % 8 * 2 + n.val, by omega⟩ : Fin 16) (⟨t.val / 8 * 256 + r.val, by omega⟩ : Fin 2304) j) :=
  tileF (iblk m c (0 : Fin 15) t) (iblk m c (1 : Fin 15) t) (iblk m c (2 : Fin 15) t) (iblk m c (3 : Fin 15) t) (iblk m c (4 : Fin 15) t) (iblk m c (5 : Fin 15) t) (iblk m c (6 : Fin 15) t) (iblk m c (7 : Fin 15) t) (iblk m c (8 : Fin 15) t) (iblk m c (9 : Fin 15) t)
    (m ((c : Thread nD τ).loc main_arg0)) (m ((c : Thread nD τ).loc main_arg1)) (m ((c : Thread nD τ).loc main_arg2))
    (m ((c : Thread nD τ).loc main_arg3)) (⟨t.val % 8, by omega⟩ : Fin 8) (⟨t.val / 8, by omega⟩ : Fin 9)
    (fun n r a => blk0 m c t ht n r a) (fun n k a => blk1 m c t ht n k a)
    (fun a => (blk2 m c t a).trans (gain2 m c a)) (fun a j => (blk3 m c t a j).trans (weights3 m c a j))
     n r j

omit han in
/-- The result array after the run. -/
theorem finalF : (dats m 0 c).arrAt (14 : Fin 15) cfg0.N = (refF (projected m c) : FVec Ideal S16x2304x256 .bf16) := by
  refine (dats m 0 c).arrAt_eq_of_covers (14 : Fin 15) _ covers14 fun t _ y => ?_
  blk_simp
  rw [after0_14]
  have ht : t.val < 72 := lt_of_lt_of_eq t.isLt N_0
  have e : (cfg0.win (14 : Fin 15)).index t = ![t.val % 8, t.val / 8, 0] := at14 t
  have hy : y = (ix3 (y (0 : Fin 3)) (y (1 : Fin 3)) (y (2 : Fin 3)) : S2x256x256.Idx) := eq_ix3 (y : S2x256x256.Idx)
  rw [hy]
  refine (pointF m c t ht (y (0 : Fin 3)) (y (1 : Fin 3)) (y (2 : Fin 3))).trans (congrArg (refF (projected m c)) (funext fun x => Fin.ext ?_))
  match x with
  | ⟨0, _⟩ => blk_simp [e]
  | ⟨1, _⟩ => blk_simp [e]
  | ⟨2, _⟩ => blk_simp [e]

end

/-- The run, at the reference's terms. -/
theorem run_result (ρ : Dev nD → PrngReg) (han : ∀ c : Dev nD, V m c main_v21 = an) :
    θ_run (defs (F := Ideal)) (onTc (τ := τ) (main (F := Ideal))) ⟨m, fun _ => 0, ρ⟩ (fun r => ∀ c : Dev nD,
      r.2.mem ((c : Thread nD τ).loc main_v65_0) = refQ (projected m c) (m ((c : Thread nD τ).loc main_arg4)) an
      ∧ r.2.mem ((c : Thread nD τ).loc main_v65_1) = refK (projected m c) (m ((c : Thread nD τ).loc main_arg5)) an
      ∧ r.2.mem ((c : Thread nD τ).loc main_v65_2) = refV (projected m c)
      ∧ r.2.mem ((c : Thread nD τ).loc main_v65_3) = refS (projected m c)
      ∧ r.2.mem ((c : Thread nD τ).loc main_v65_4) = refF (projected m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  θ_run_mono (run_blocks m ρ) fun _ h c => ⟨(h c).1.trans (finalQ m an c (han c)), (h c).2.1.trans (finalK m an c (han c)),
    (h c).2.2.1.trans (finalV m c), (h c).2.2.2.1.trans (finalS m c), (h c).2.2.2.2.1.trans (finalF m c), (h c).2.2.2.2.2⟩

end Cert.Kernel2Ideal.InProj

end
-- ==== Proof.OutProjSpec.lean ====
/-
  The output projection of one row, over the extended reals: the recurrence's gate, the product over the three mixers
  side by side, the gated sum with the stream. The product over all 1024 columns is the sum of the three mixers' own.
-/
module

public import Idealize.ShloMosaic.Lib.Pipeline.ValueKit
public import Idealize.ShloMosaic.Lib.Pointwise

@[expose] public section

noncomputable section

namespace Cert.OutProj

open Idealize.ShloMosaic

/-- The smooth gate, by the hyperbolic tangent of a cubic. -/
def gelu (y : EReal) : EReal :=
  y * (Ideal.ofBits .f32 0x3F000000#32
    * (1 + Ideal.tanh (Ideal.ofBits .f32 0x3F4C422A#32 * (y + Ideal.ofBits .f32 0x3D372713#32 * (y * y * y)))))

/-- The same with the half on the argument. -/
theorem gelu_eq (y : EReal) : Ideal.ofBits .f32 0x3F000000#32 * y
    * (1 + Ideal.tanh (Ideal.ofBits .f32 0x3F4C422A#32 * (y + Ideal.ofBits .f32 0x3D372713#32 * (y * y * y)))) = gelu y := by
  unfold gelu
  rw [mul_comm (Ideal.ofBits .f32 0x3F000000#32) y, mul_assoc]

/-- The recurrence's row, gated by its own product. -/
def gated (y : Fin 256 → EReal) (G : Fin 256 → Fin 256 → EReal) (b : Fin 256 → EReal) (j : Fin 256) : EReal :=
  gelu (y j) * Ideal.logistic (∑ a, gelu (y a) * G a j + b j)

/-- The three mixers' rows side by side. -/
def side (p : Fin 512 → EReal) (q f : Fin 256 → EReal) (k : Fin 1024) : EReal :=
  if h : k.val < 512 then p ⟨k.val, h⟩ else if h' : k.val - 512 < 256 then q ⟨k.val - 512, h'⟩ else f ⟨k.val - 512 - 256, by omega⟩

/-- Their product with the weights. -/
def mixed (p : Fin 512 → EReal) (q f : Fin 256 → EReal) (W : Fin 1024 → Fin 1024 → EReal) (j : Fin 1024) : EReal :=
  ∑ k, side p q f k * W k j

/-- A sum over 1024 columns, cut in three. -/
theorem sum_cut (u : Fin 1024 → EReal) : ∑ k, u k
    = ∑ a : Fin 512, u ⟨a.val, by omega⟩ + ∑ a : Fin 256, u ⟨512 + a.val, by omega⟩ + ∑ a : Fin 256, u ⟨768 + a.val, by omega⟩ := by
  have e1 := Fin.sum_univ_add (a := 768) (b := 256) u
  have e2 := Fin.sum_univ_add (a := 512) (b := 256) fun k => u (Fin.castAdd 256 k)
  exact e1.trans (congrArg (· + _) e2)

theorem mixed_eq (p : Fin 512 → EReal) (q f : Fin 256 → EReal) (W : Fin 1024 → Fin 1024 → EReal) (j : Fin 1024) :
    mixed p q f W j = ∑ a : Fin 512, p a * W ⟨a.val, by omega⟩ j + ∑ a : Fin 256, q a * W ⟨512 + a.val, by omega⟩ j
      + ∑ a : Fin 256, f a * W ⟨768 + a.val, by omega⟩ j := by
  have h1 (a : Fin 512) : side p q f ⟨a.val, by omega⟩ = p a := dif_pos a.isLt
  have h2 (a : Fin 256) : side p q f ⟨512 + a.val, by omega⟩ = q a := by
    unfold side
    rw [dif_neg (by show ¬ 512 + a.val < 512; omega), dif_pos (by show 512 + a.val - 512 < 256; omega)]
    exact congrArg q (Fin.ext (by show 512 + a.val - 512 = a.val; omega))
  have h3 (a : Fin 256) : side p q f ⟨768 + a.val, by omega⟩ = f a := by
    unfold side
    rw [dif_neg (by show ¬ 768 + a.val < 512; omega), dif_neg (by show ¬ 768 + a.val - 512 < 256; omega)]
    exact congrArg f (Fin.ext (by show 768 + a.val - 512 - 256 = a.val; omega))
  unfold mixed
  rw [sum_cut]
  simp only [h1, h2, h3]

/-- The row of the stream after the mixers. -/
def stepped (x : Fin 1024 → EReal) (p : Fin 512 → EReal) (yf yb us f : Fin 256 → EReal) (ga : Fin 1024 → EReal)
    (sd : Fin 256 → EReal) (G : Fin 256 → Fin 256 → EReal) (b : Fin 256 → EReal) (W : Fin 1024 → Fin 1024 → EReal) (j : Fin 1024) : EReal :=
  x j + ga j * mixed p (gated (fun a => sd a * us a + yf a + yb a) G b) f W j

end Cert.OutProj

end
-- ==== Proof.OutProjTile.lean ====
/-
  What the output projection's body leaves of the stream and of its norm at one row of one of its two images, over any
  blocks.
-/
module

public import proofs.«01_k».proof.Proof.Gen.Kernel3Ideal.Value
public import proofs.«01_k».proof.Proof.InProjSpec
public import proofs.«01_k».proof.Proof.OutProjSpec

@[expose] public section

set_option maxRecDepth 16384

noncomputable section

namespace Cert.Kernel3Ideal.OutProj

open Cert.Kernel3Ideal Cert.Kernel3Ideal.Gen Cert.OutProj
open Cert.InProj (scaled)
open Idealize.ShloMosaic Idealize.ShloMosaic.TcCoe Idealize.SL.Sem

section
variable (md : Vec Ideal S1x1x6x1024 .f32) (sd : Vec Ideal S1x256 .f32) (us yf yb : Vec Ideal S1x256x256 .f32)
  (G : Vec Ideal S256x256 .bf16) (b : Vec Ideal S1x256 .f32) (p : Vec Ideal S1x256x512 .bf16)
  (w0 : Vec Ideal S512x1024 .bf16) (w1 : Vec Ideal S256x1024 .bf16) (f : Vec Ideal S1x256x256 .bf16)
  (w2 : Vec Ideal S256x1024 .bf16) (x : Vec Ideal S1x256x1024 .f32) (g2 : Vec Ideal S1x1024 .f32) (r : Fin 256)

/-- A row of the loaded blocks, stepped, the product in its three parts. -/
def partRow (j : Fin 1024) : EReal :=
  x (ix3 0 r j) + md (ix4 0 0 2 j)
    * (∑ a : Fin 512, p (ix3 0 r a) * w0 (ix2 a j)
      + ∑ a : Fin 256, gated (fun a => sd (ix2 0 a) * us (ix3 0 r a) + yf (ix3 0 r a) + yb (ix3 0 r a))
          (fun a j => G (ix2 a j)) (fun j => b (ix2 0 j)) a * w1 (ix2 a j)
      + ∑ a : Fin 256, f (ix3 0 r a) * w2 (ix2 a j))

theorem step0_at (j : Fin 1024) :
    k0_pay6 (k0_pay2 md) (k0_pay3 sd us yf yb) (k0_pay4 sd us yf yb G) (k0_pay5 b) p w0 w1 f w2 x (ix2 r j)
      = partRow md sd us yf yb G b p w0 w1 f w2 x r j := by
  pointwise [k0_pay6, k0_pay2, k0_pay3, k0_pay4, k0_pay5]
  simp only [gelu_eq]
  rfl
theorem step1_at (j : Fin 1024) :
    k0_pay16 (k0_pay11 md) (k0_pay15 (k0_pay12 sd us yf yb) (k0_pay13 sd us yf yb) (k0_pay14 sd us yf yb) G b p w0 w1 f w2) x (ix2 r j)
      = partRow md sd us yf yb G b p w0 w1 f w2 x r j := by
  pointwise [k0_pay16, k0_pay15, k0_pay11, k0_pay12, k0_pay13, k0_pay14]
  simp only [gelu_eq]
  rfl

theorem norm0_at (s : FVec Ideal S256x1024 .f32) (a1 a2 a3 a4 a5 a6 a7 a8 a9 a10)
    (h : s = k0_pay6 a1 a2 a3 a4 a5 a6 a7 a8 a9 a10) (j : Fin 1024) :
    k0_pay10 (k0_pay2 md) s (k0_pay8 a1 a2 a3 a4 a5 a6 a7 a8 a9 a10) g2 (ix3 0 r j)
      = scaled (fun a => s (ix2 r a)) (fun a => g2 (ix2 0 a)) (fun a => md (ix4 0 0 4 a)) (fun a => md (ix4 0 0 3 a)) j := by
  pointwise [k0_pay10, k0_pay9, k0_pay2, k0_pay8]
  rw [← h]
  rfl
theorem norm1_at (o : FVec Ideal S256x1024 .f32) (j : Fin 1024) :
    k0_pay19 (k0_pay11 md) o x g2 (ix3 0 r j)
      = scaled (fun a => k0_pay16 (k0_pay11 md) o x (ix2 r a)) (fun a => g2 (ix2 0 a)) (fun a => md (ix4 0 0 4 a)) (fun a => md (ix4 0 0 3 a)) j := by
  pointwise [k0_pay19, k0_pay18]
  pointwise [k0_pay11]
  rfl
end

/-! ## The two pieces of each result -/

section
variable {e : EltTy}

theorem piece_second (p p' : S1x256x1024.Idx → Elt Ideal e) (r : Fin 256) (j : Fin 1024) :
    View.canon (Val := Elt Ideal) (e := e) [⟨Rect.unit ![1, 0, 0] ![1, 256, 1024] inb_S2x256x1024_S1x256x1024_1_0_0, p⟩,
      ⟨Rect.unit ![0, 0, 0] ![1, 256, 1024] inb_S2x256x1024_S1x256x1024_0_0_0, p'⟩] (ix3 1 r j) = p (ix3 0 r j) := by
  have h : (ix3 1 r j : S2x256x1024.Idx) = (Rect.unit ![1, 0, 0] ![1, 256, 1024] inb_S2x256x1024_S1x256x1024_1_0_0).emb (ix3 0 r j) :=
    funext fun a => Fin.ext (by
    match a with
    | ⟨0, _⟩ => rfl
    | ⟨1, _⟩ => show r.val = 0 + 1 * r.val; omega
    | ⟨2, _⟩ => show j.val = 0 + 1 * j.val; omega)
  rw [h]; exact View.canon_cons_emb _ _ _ _
theorem piece_first (p p' : S1x256x1024.Idx → Elt Ideal e) (r : Fin 256) (j : Fin 1024) :
    View.canon (Val := Elt Ideal) (e := e) [⟨Rect.unit ![1, 0, 0] ![1, 256, 1024] inb_S2x256x1024_S1x256x1024_1_0_0, p⟩,
      ⟨Rect.unit ![0, 0, 0] ![1, 256, 1024] inb_S2x256x1024_S1x256x1024_0_0_0, p'⟩] (ix3 0 r j) = p' (ix3 0 r j) := by
  have h : (ix3 0 r j : S2x256x1024.Idx) = (Rect.unit ![0, 0, 0] ![1, 256, 1024] inb_S2x256x1024_S1x256x1024_0_0_0).emb (ix3 0 r j) :=
    funext fun a => Fin.ext (by
    match a with
    | ⟨0, _⟩ => rfl
    | ⟨1, _⟩ => show r.val = 0 + 1 * r.val; omega
    | ⟨2, _⟩ => show j.val = 0 + 1 * j.val; omega)
  rw [View.canon_cons_of_not_mem]
  · rw [h]; exact View.canon_cons_emb _ _ _ _
  · exact fun hm => absurd ((Rect.mem_set_unit (inb := inb_S2x256x1024_S1x256x1024_1_0_0)).1 hm 0).1 (show ¬ (1 : ℕ) ≤ 0 by decide)
end

section
variable (x0 : Vec Ideal S2x256x1024 .f32) (x1 : Vec Ideal S2x256x512 .bf16) (x2 x3 x4 : Vec Ideal S2x256x256 .f32)
  (x5 : Vec Ideal S2x256x256 .bf16) (x6 : Vec Ideal S2x1x6x1024 .f32) (x7 : Vec Ideal S1x256 .f32) (x8 : Vec Ideal S256x256 .bf16)
  (x9 : Vec Ideal S1x256 .f32) (x10 : Vec Ideal S1024x1024 .bf16) (x11 : Vec Ideal S1x1024 .f32)

/-- Row `r` of image `n` of the blocks, stepped. -/
def rowOf (n : Fin 2) (r : Fin 256) : Fin 1024 → EReal :=
  stepped (fun a => x0 (ix3 n r a)) (fun a => x1 (ix3 n r a)) (fun a => x2 (ix3 n r a)) (fun a => x3 (ix3 n r a)) (fun a => x4 (ix3 n r a))
    (fun a => x5 (ix3 n r a)) (fun a => x6 (ix4 n 0 2 a)) (fun a => x7 (ix2 0 a)) (fun a j => x8 (ix2 a j)) (fun a => x9 (ix2 0 a))
    (fun a j => x10 (ix2 a j))

theorem row_first (r : Fin 256) (j : Fin 1024) :
    partRow (View.ld x6 (Rect.unit ![0, 0, 0, 0] ![1, 1, 6, 1024] inb_S2x1x6x1024_S1x1x6x1024_0_0_0_0)) x7
      (View.ld x4 (Rect.unit ![0, 0, 0] ![1, 256, 256] inb_S2x256x256_S1x256x256_0_0_0))
      (View.ld x2 (Rect.unit ![0, 0, 0] ![1, 256, 256] inb_S2x256x256_S1x256x256_0_0_0))
      (View.ld x3 (Rect.unit ![0, 0, 0] ![1, 256, 256] inb_S2x256x256_S1x256x256_0_0_0)) x8 x9
      (View.ld x1 (Rect.unit ![0, 0, 0] ![1, 256, 512] inb_S2x256x512_S1x256x512_0_0_0))
      (View.ld x10 (Rect.unit ![0, 0] ![512, 1024] inb_S1024x1024_S512x1024_0_0))
      (View.ld x10 (Rect.unit ![512, 0] ![256, 1024] inb_S1024x1024_S256x1024_512_0))
      (View.ld x5 (Rect.unit ![0, 0, 0] ![1, 256, 256] inb_S2x256x256_S1x256x256_0_0_0))
      (View.ld x10 (Rect.unit ![768, 0] ![256, 1024] inb_S1024x1024_S256x1024_768_0))
      (View.ld x0 (Rect.unit ![0, 0, 0] ![1, 256, 1024] inb_S2x256x1024_S1x256x1024_0_0_0)) r j
      = rowOf x0 x1 x2 x3 x4 x5 x6 x7 x8 x9 x10 0 r j := by
  unfold partRow rowOf stepped
  rw [mixed_eq]
  pointwise
theorem row_second (r : Fin 256) (j : Fin 1024) :
    partRow (View.ld x6 (Rect.unit ![1, 0, 0, 0] ![1, 1, 6, 1024] inb_S2x1x6x1024_S1x1x6x1024_1_0_0_0)) x7
      (View.ld x4 (Rect.unit ![1, 0, 0] ![1, 256, 256] inb_S2x256x256_S1x256x256_1_0_0))
      (View.ld x2 (Rect.unit ![1, 0, 0] ![1, 256, 256] inb_S2x256x256_S1x256x256_1_0_0))
      (View.ld x3 (Rect.unit ![1, 0, 0] ![1, 256, 256] inb_S2x256x256_S1x256x256_1_0_0)) x8 x9
      (View.ld x1 (Rect.unit ![1, 0, 0] ![1, 256, 512] inb_S2x256x512_S1x256x512_1_0_0))
      (View.ld x10 (Rect.unit ![0, 0] ![512, 1024] inb_S1024x1024_S512x1024_0_0))
      (View.ld x10 (Rect.unit ![512, 0] ![256, 1024] inb_S1024x1024_S256x1024_512_0))
      (View.ld x5 (Rect.unit ![1, 0, 0] ![1, 256, 256] inb_S2x256x256_S1x256x256_1_0_0))
      (View.ld x10 (Rect.unit ![768, 0] ![256, 1024] inb_S1024x1024_S256x1024_768_0))
      (View.ld x0 (Rect.unit ![1, 0, 0] ![1, 256, 1024] inb_S2x256x1024_S1x256x1024_1_0_0)) r j
      = rowOf x0 x1 x2 x3 x4 x5 x6 x7 x8 x9 x10 1 r j := by
  unfold partRow rowOf stepped
  rw [mixed_eq]
  pointwise
end

/-! ## What a point leaves -/

section
variable (m : (ℓ : Loc nD τ sig) → Buf (Elt Ideal) ℓ) (c : Dev nD) (t : Fin cfg0.N)

/-- Row `r` of image `n` of the point's blocks, stepped. -/
def rowAt (n : Fin 2) (r : Fin 256) : Fin 1024 → EReal :=
  rowOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) n r

theorem stream_at (n : Fin 2) (r : Fin 256) (j : Fin 1024) : (outsAt0 m c t).1 (ix3 n r j) = rowAt m c t n r j := by
  rw [outsAt0]
  dsimp only
  unfold out0_A_15
  frame_out
  match n with
  | ⟨0, _⟩ =>
    refine (piece_first _ _ r j).trans ?_
    pointwise [k0_pay7]
    exact (step0_at _ _ _ _ _ _ _ _ _ _ _ _ _ r j).trans (row_first _ _ _ _ _ _ _ _ _ _ _ r j)
  | ⟨1, _⟩ =>
    refine (piece_second _ _ r j).trans ?_
    pointwise [k0_pay17]
    exact (step1_at _ _ _ _ _ _ _ _ _ _ _ _ _ r j).trans (row_second _ _ _ _ _ _ _ _ _ _ _ r j)

theorem normed_at (n : Fin 2) (r : Fin 256) (j : Fin 1024) : (outsAt0 m c t).2.1 (ix3 n r j)
    = scaled (rowAt m c t n r) (fun a => (iblk m c 11 t : Vec Ideal S1x1024 .f32) (ix2 0 a))
      (fun a => (iblk m c 6 t : Vec Ideal S2x1x6x1024 .f32) (ix4 n 0 4 a)) (fun a => (iblk m c 6 t : Vec Ideal S2x1x6x1024 .f32) (ix4 n 0 3 a)) j := by
  rw [outsAt0]
  dsimp only
  unfold out0_A_16
  frame_out
  match n with
  | ⟨0, _⟩ =>
    refine (piece_first _ _ r j).trans ((norm0_at _ _ r _ _ _ _ _ _ _ _ _ _ _ rfl j).trans ?_)
    simp only [step0_at, row_first]
    pointwise
    rfl
  | ⟨1, _⟩ =>
    refine (piece_second _ _ r j).trans ((norm1_at _ _ _ r _ j).trans ?_)
    simp only [step1_at, row_second]
    pointwise
    rfl
end

end Cert.Kernel3Ideal.OutProj

end
-- ==== Proof.OutProjReference.lean ====
/-
  The reference's terms of the output projection read at an index: the recurrence's gate, the product over the three
  mixers side by side, the gated sum with the stream, and the norm with its shift and scale.
-/
module

public import proofs.«01_k».proof.Proof.InProjSpec
public import proofs.«01_k».proof.Proof.OutProjSpec
public import proofs.«01_k».proof.Proof.Gen.Reference3Ideal.Run
public import Idealize.ShloMosaic.Lib.Pointwise

@[expose] public section

set_option maxRecDepth 16384

noncomputable section

namespace Cert.Reference3Ideal.OutProj

open Cert.Reference3Ideal Cert.Reference3Ideal.Gen Cert.OutProj
open Cert.InProj (scaled)
open Idealize.ShloMosaic Idealize.ShloMosaic.TcCoe Idealize.SL.Sem

/-! ## The terms -/

/-- Which rows are latent ones. -/
def latentMask : IVec S1x2304x1 1 := broadcastInDim S1x2304x1 ![1] bcast_S2304_S1x2304x1_1 (cmpi .sge (iotaInDim S2304 32 0) (broadcastInDim S2304 ![] bcast_S_S2304 (constantI S_ 32 256#32)))

/-- The recurrence's two directions and its straight part, summed. -/
def summed (A2 A3 A4 : FVec Ideal S16x2304x256 .f32) (A7 : FVec Ideal S256 .f32) : FVec Ideal S16x2304x256 .f32 :=
  addf (addf (mulf (broadcastInDim S16x2304x256 ![0, 1, 2] bcast_S1x1x256_S16x2304x256_0_1_2 (broadcastInDim S1x1x256 ![2] bcast_S256_S1x1x256_2 A7)) A4) A2) A3

/-- The smooth gate of each entry. -/
def smooth (Y : FVec Ideal S16x2304x256 .f32) : FVec Ideal S16x2304x256 .f32 :=
  mulf Y (mulf (broadcastInDim S16x2304x256 ![] bcast_S_S16x2304x256 (constant S_ .f32 0x3F000000#32)) (addf (broadcastInDim S16x2304x256 ![] bcast_S_S16x2304x256 (constant S_ .f32 0x3F800000#32)) (Host.tanh (mulf (broadcastInDim S16x2304x256 ![] bcast_S_S16x2304x256 (constant S_ .f32 0x3F4C422A#32)) (addf Y (mulf (broadcastInDim S16x2304x256 ![] bcast_S_S16x2304x256 (constant S_ .f32 0x3D372713#32)) (mulf (mulf Y Y) Y)))))))

/-- Each row gated by its own product. -/
def glu (Z : FVec Ideal S16x2304x256 .f32) (A8 : FVec Ideal S256x256 .f32) (A9 : FVec Ideal S256 .f32) : FVec Ideal S16x2304x256 .f32 :=
  mulf Z (Host.divf (broadcastInDim S16x2304x256 ![] bcast_S_S16x2304x256 (constant S_ .f32 0x3F800000#32)) (addf (broadcastInDim S16x2304x256 ![] bcast_S_S16x2304x256 (constant S_ .f32 0x3F800000#32)) (Host.exp (Host.negf (addf (Host.dotGeneral dot_S16x2304x256_S256x256_S16x2304x256_2_0_01_1_n_n none Z A8) (broadcastInDim S16x2304x256 ![0, 1, 2] bcast_S1x1x256_S16x2304x256_0_1_2 (broadcastInDim S1x1x256 ![2] bcast_S256_S1x1x256_2 A9)))))))

/-- The stream after the mixers. -/
def step (A0 : FVec Ideal S16x2304x1024 .f32) (A1 : FVec Ideal S16x2304x512 .bf16) (S : FVec Ideal S16x2304x256 .f32)
    (A5 : FVec Ideal S16x2304x256 .bf16) (A6 : FVec Ideal S16x2x6x1024 .f32) (A10 : FVec Ideal S1024x1024 .f32) : FVec Ideal S16x2304x1024 .f32 :=
  addf A0 (mulf (select (broadcastInDim S16x2304x1024 ![0, 1, 2] bcast_S1x2304x1_S16x2304x1024_0_1_2 latentMask) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 1, 2, 0] A6 slices_S16x2x6x1024_S16x1x1x1024_0_1_2_0) shapeCasts_S16x1x1x1024_S16x1024))) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 0, 2, 0] A6 slices_S16x2x6x1024_S16x1x1x1024_0_0_2_0) shapeCasts_S16x1x1x1024_S16x1024)))) (Host.dotGeneral dot_S16x2304x1024_S1024x1024_S16x2304x1024_2_0_01_1_n_n none ((concatenate S16x2304x1024 2 [⟨S16x2304x512, (extf .f32 A1 bitsLt_bf16_f32)⟩, ⟨S16x2304x256, S⟩, ⟨S16x2304x256, (extf .f32 A5 bitsLt_bf16_f32)⟩] concatenates_S16x2304x512_S16x2304x256_S16x2304x256_S16x2304x1024_d2 : FVec Ideal S16x2304x1024 .f32)) A10))

/-- Its norm, scaled and shifted. -/
def norm (X : FVec Ideal S16x2304x1024 .f32) (A6 : FVec Ideal S16x2x6x1024 .f32) (A11 : FVec Ideal S1024 .f32) : FVec Ideal S16x2304x1024 .bf16 :=
  truncf .bf16 (addf (mulf (mulf (mulf X (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf X X) (constant S_ .f32 0x00000000#32) reducesTo_S16x2304x1024_S16x2304_d2 h_S_)) (broadcastInDim S16x2304x1 ![] bcast_S_S16x2304x1 (constant S_ .f32 0x44800000#32))) (broadcastInDim S16x2304x1 ![] bcast_S_S16x2304x1 (constant S_ .f32 0x358637BD#32)))))) (broadcastInDim S16x2304x1024 ![0, 1, 2] bcast_S1x1x1024_S16x2304x1024_0_1_2 (broadcastInDim S1x1x1024 ![2] bcast_S1024_S1x1x1024_2 A11))) (addf (broadcastInDim S16x2304x1024 ![] bcast_S_S16x2304x1024 (constant S_ .f32 0x3F800000#32)) (select (broadcastInDim S16x2304x1024 ![0, 1, 2] bcast_S1x2304x1_S16x2304x1024_0_1_2 latentMask) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 1, 4, 0] A6 slices_S16x2x6x1024_S16x1x1x1024_0_1_4_0) shapeCasts_S16x1x1x1024_S16x1024))) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 0, 4, 0] A6 slices_S16x2x6x1024_S16x1x1x1024_0_0_4_0) shapeCasts_S16x1x1x1024_S16x1024)))))) (select (broadcastInDim S16x2304x1024 ![0, 1, 2] bcast_S1x2304x1_S16x2304x1024_0_1_2 latentMask) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 1, 3, 0] A6 slices_S16x2x6x1024_S16x1x1x1024_0_1_3_0) shapeCasts_S16x1x1x1024_S16x1024))) (broadcastInDim S16x2304x1024 ![0, 1, 2] bcast_S16x1x1024_S16x2304x1024_0_1_2 (broadcastInDim S16x1x1024 ![0, 2] bcast_S16x1024_S16x1x1024_0_2 (shapeCast _ (extractStridedSlice S16x1x1x1024 ![0, 0, 3, 0] A6 slices_S16x2x6x1024_S16x1x1x1024_0_0_3_0) shapeCasts_S16x1x1x1024_S16x1024))))) bitsLt_bf16_f32

/-! ## The terms at an index -/

theorem mask_at (s : Fin 2304) : latentMask (ix3 0 s 0) = if 256 ≤ s.val then 1#1 else 0#1 := by
  unfold latentMask
  pointwise
  have h1 : (BitVec.ofNat 32 s.val).toInt = (s.val : ℤ) := by
    rw [BitVec.toInt_eq_toNat_of_lt (by rw [BitVec.toNat_ofNat]; omega), BitVec.toNat_ofNat]; omega
  have h2 : (256#32).toInt = ((256 : ℕ) : ℤ) := by decide
  by_cases h : 256 ≤ s.val
  · rw [if_pos h, IntOp.cmpi_sge, h1, h2]; exact_mod_cast h
  · rw [if_neg h]
    refine (BitVec.eq_zero_or_eq_one _).resolve_right fun hc => h ?_
    rw [IntOp.cmpi_sge, h1, h2] at hc; exact_mod_cast hc

theorem smooth_at (Y : FVec Ideal S16x2304x256 .f32) (b : Fin 16) (s : Fin 2304) (j : Fin 256) :
    smooth Y (ix3 b s j) = gelu (Y (ix3 b s j)) := by
  unfold smooth
  pointwise
  rfl

theorem glu_at (Y : FVec Ideal S16x2304x256 .f32) (A8 : FVec Ideal S256x256 .f32) (A9 : FVec Ideal S256 .f32) (b : Fin 16) (s : Fin 2304) (j : Fin 256) :
    glu (smooth Y) A8 A9 (ix3 b s j) = gated (fun a => Y (ix3 b s a)) (fun a j => A8 (ix2 a j)) (fun a => A9 (ix1 a)) j := by
  unfold glu
  pointwise
  simp only [smooth_at]
  rfl

theorem step_at (A0 : FVec Ideal S16x2304x1024 .f32) (A1 : FVec Ideal S16x2304x512 .bf16) (S : FVec Ideal S16x2304x256 .f32)
    (A5 : FVec Ideal S16x2304x256 .bf16) (A6 : FVec Ideal S16x2x6x1024 .f32) (A10 : FVec Ideal S1024x1024 .f32) (b : Fin 16) (s : Fin 2304) (j : Fin 1024) :
    step A0 A1 S A5 A6 A10 (ix3 b s j) = A0 (ix3 b s j) + A6 (ix4 b (if 256 ≤ s.val then 1 else 0) 2 j)
      * mixed (fun a => A1 (ix3 b s a)) (fun a => S (ix3 b s a)) (fun a => A5 (ix3 b s a)) (fun a j => A10 (ix2 a j)) j := by
  unfold step
  pointwise
  simp only [mask_at]
  split <;> rfl

/-- A row of the stream after the mixers. -/
def stepRow (A0 : FVec Ideal S16x2304x1024 .f32) (A1 : FVec Ideal S16x2304x512 .bf16) (A2 A3 A4 : FVec Ideal S16x2304x256 .f32)
    (A5 : FVec Ideal S16x2304x256 .bf16) (A6 : FVec Ideal S16x2x6x1024 .f32) (A7 : FVec Ideal S256 .f32) (A8 : FVec Ideal S256x256 .f32)
    (A9 : FVec Ideal S256 .f32) (A10 : FVec Ideal S1024x1024 .f32) (b : Fin 16) (s : Fin 2304) : Fin 1024 → EReal :=
  stepped (fun a => A0 (ix3 b s a)) (fun a => A1 (ix3 b s a)) (fun a => A2 (ix3 b s a)) (fun a => A3 (ix3 b s a)) (fun a => A4 (ix3 b s a))
    (fun a => A5 (ix3 b s a)) (fun a => A6 (ix4 b (if 256 ≤ s.val then 1 else 0) 2 a)) (fun a => A7 (ix1 a)) (fun a j => A8 (ix2 a j))
    (fun a => A9 (ix1 a)) (fun a j => A10 (ix2 a j))

section
variable (A0 : FVec Ideal S16x2304x1024 .f32) (A1 : FVec Ideal S16x2304x512 .bf16) (A2 A3 A4 : FVec Ideal S16x2304x256 .f32)
  (A5 : FVec Ideal S16x2304x256 .bf16) (A6 : FVec Ideal S16x2x6x1024 .f32) (A7 : FVec Ideal S256 .f32) (A8 : FVec Ideal S256x256 .f32)
  (A9 : FVec Ideal S256 .f32) (A10 : FVec Ideal S1024x1024 .f32) (A11 : FVec Ideal S1024 .f32)

/-- The first result. -/
def refX : FVec Ideal S16x2304x1024 .f32 := step A0 A1 (glu (smooth (summed A2 A3 A4 A7)) A8 A9) A5 A6 A10

theorem refX_at (b : Fin 16) (s : Fin 2304) (j : Fin 1024) :
    refX A0 A1 A2 A3 A4 A5 A6 A7 A8 A9 A10 (ix3 b s j) = stepRow A0 A1 A2 A3 A4 A5 A6 A7 A8 A9 A10 b s j := by
  have h (a : Fin 256) : summed A2 A3 A4 A7 (ix3 b s a) = A7 (ix1 a) * A4 (ix3 b s a) + A2 (ix3 b s a) + A3 (ix3 b s a) := by
    unfold summed
    pointwise
  unfold refX stepRow stepped
  rw [step_at]
  simp only [glu_at, h]

theorem norm_at (X : FVec Ideal S16x2304x1024 .f32) (b : Fin 16) (s : Fin 2304) (j : Fin 1024) :
    norm X A6 A11 (ix3 b s j) = scaled (fun a => X (ix3 b s a)) (fun a => A11 (ix1 a)) (fun a => A6 (ix4 b (if 256 ≤ s.val then 1 else 0) 4 a))
      (fun a => A6 (ix4 b (if 256 ≤ s.val then 1 else 0) 3 a)) j := by
  unfold norm
  pointwise
  simp only [mask_at]
  unfold scaled
  split <;> rfl
end

/-! ## The reference's results -/

variable (m : (ℓ : Loc nD τ sig) → Buf (Elt Ideal) ℓ) (c : Dev nD)

/-- The first result over the reference's arguments. -/
abbrev streamOf : FVec Ideal S16x2304x1024 .f32 := refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem first_eq : Value.res_main_v45 m c = streamOf m c := by
  unfold Value.res_main_v45 streamOf refX step glu smooth summed latentMask
  rfl
theorem second_eq : Value.res_main_v77 m c = norm (streamOf m c) (m ((c.tc : Thread nD τ).loc main_arg6)) (m ((c.tc : Thread nD τ).loc main_arg11)) := by
  unfold Value.res_main_v77 norm streamOf refX step glu smooth summed latentMask
  rfl

end Cert.Reference3Ideal.OutProj

end
-- ==== Proof.OutProjValue.lean ====
/-
  The arrays the output projection leaves of the stream and of its norm: the reference's terms over the same arguments.
  Each tile reads its rows, its modulation and the whole of the weights, and writes its own blocks; the blocks cover the
  results.
-/
module

public import proofs.«01_k».proof.Proof.OutProjTile
public import proofs.«01_k».proof.Proof.OutProjReference

@[expose] public section

set_option maxRecDepth 16384

noncomputable section

namespace Cert.Kernel3Ideal.OutProj

open Cert.Kernel3Ideal Cert.Kernel3Ideal.Gen Cert.Kernel3Ideal.Value Cert.OutProj
open Cert.InProj (scaled)
open Cert.Reference3Ideal.OutProj (stepRow refX refX_at norm norm_at)
open Idealize.ShloMosaic Idealize.ShloMosaic.TcCoe Idealize.SL.Sem
open Idealize.ShloMosaic.Pipeline (Dat)

section
variable (x0 : Vec Ideal S2x256x1024 .f32) (x1 : Vec Ideal S2x256x512 .bf16) (x2 x3 x4 : Vec Ideal S2x256x256 .f32)
  (x5 : Vec Ideal S2x256x256 .bf16) (x6 : Vec Ideal S2x1x6x1024 .f32) (x7 : Vec Ideal S1x256 .f32) (x8 : Vec Ideal S256x256 .bf16)
  (x9 : Vec Ideal S1x256 .f32) (x10 : Vec Ideal S1024x1024 .bf16) (x11 : Vec Ideal S1x1024 .f32)
  (A0 : FVec Ideal S16x2304x1024 .f32) (A1 : FVec Ideal S16x2304x512 .bf16) (A2 A3 A4 : FVec Ideal S16x2304x256 .f32)
  (A5 : FVec Ideal S16x2304x256 .bf16) (A6 : FVec Ideal S16x2x6x1024 .f32) (A7 : FVec Ideal S256 .f32) (A8 : FVec Ideal S256x256 .f32)
  (A9 : FVec Ideal S256 .f32) (A10 : FVec Ideal S1024x1024 .f32) (A11 : FVec Ideal S1024 .f32) (p : Fin 8) (i : Fin 9)
  (b0 : ∀ (n : Fin 2) (r : Fin 256) (a : Fin 1024), x0 (ix3 n r a) = A0 (ix3 (⟨p.val * 2 + n.val, by omega⟩ : Fin 16) (⟨i.val * 256 + r.val, by omega⟩ : Fin 2304) a))
  (b1 : ∀ (n : Fin 2) (r : Fin 256) (a : Fin 512), x1 (ix3 n r a) = A1 (ix3 (⟨p.val * 2 + n.val, by omega⟩ : Fin 16) (⟨i.val * 256 + r.val, by omega⟩ : Fin 2304) a))
  (b2 : ∀ (n : Fin 2) (r : Fin 256) (a : Fin 256), x2 (ix3 n r a) = A2 (ix3 (⟨p.val * 2 + n.val, by omega⟩ : Fin 16) (⟨i.val * 256 + r.val, by omega⟩ : Fin 2304) a))
  (b3 : ∀ (n : Fin 2) (r : Fin 256) (a : Fin 256), x3 (ix3 n r a) = A3 (ix3 (⟨p.val * 2 + n.val, by omega⟩ : Fin 16) (⟨i.val * 256 + r.val, by omega⟩ : Fin 2304) a))
  (b4 : ∀ (n : Fin 2) (r : Fin 256) (a : Fin 256), x4 (ix3 n r a) = A4 (ix3 (⟨p.val * 2 + n.val, by omega⟩ : Fin 16) (⟨i.val * 256 + r.val, by omega⟩ : Fin 2304) a))
  (b5 : ∀ (n : Fin 2) (r : Fin 256) (a : Fin 256), x5 (ix3 n r a) = A5 (ix3 (⟨p.val * 2 + n.val, by omega⟩ : Fin 16) (⟨i.val * 256 + r.val, by omega⟩ : Fin 2304) a))
  (b6 : ∀ (n : Fin 2) (k : Fin 6) (a : Fin 1024), x6 (ix4 n 0 k a) = A6 (ix4 (⟨p.val * 2 + n.val, by omega⟩ : Fin 16) (if 1 ≤ i.val then 1 else 0) k a))
  (b7 : ∀ a : Fin 256, x7 (ix2 0 a) = A7 (ix1 a)) (b8 : ∀ a j : Fin 256, x8 (ix2 a j) = A8 (ix2 a j))
  (b9 : ∀ a : Fin 256, x9 (ix2 0 a) = A9 (ix1 a)) (b10 : ∀ a j : Fin 1024, x10 (ix2 a j) = A10 (ix2 a j))
  (b11 : ∀ a : Fin 1024, x11 (ix2 0 a) = A11 (ix1 a))

include b0 b1 b2 b3 b4 b5 b6 b7 b8 b9 b10 in
theorem row_eq (n : Fin 2) (r : Fin 256) : rowOf x0 x1 x2 x3 x4 x5 x6 x7 x8 x9 x10 n r
    = stepRow A0 A1 A2 A3 A4 A5 A6 A7 A8 A9 A10 (⟨p.val * 2 + n.val, by omega⟩ : Fin 16) (⟨i.val * 256 + r.val, by omega⟩ : Fin 2304) := by
  have e : (256 ≤ i.val * 256 + r.val) = (1 ≤ i.val) := propext (by omega)
  unfold rowOf stepRow
  simp only [b0, b1, b2, b3, b4, b5, b6, b7, b8, b9, b10, e]

include b0 b1 b2 b3 b4 b5 b6 b7 b8 b9 b10 in
theorem tileX (n : Fin 2) (r : Fin 256) (j : Fin 1024) : rowOf x0 x1 x2 x3 x4 x5 x6 x7 x8 x9 x10 n r j
    = refX A0 A1 A2 A3 A4 A5 A6 A7 A8 A9 A10 (ix3 (⟨p.val * 2 + n.val, by omega⟩ : Fin 16) (⟨i.val * 256 + r.val, by omega⟩ : Fin 2304) j) :=
  (congrFun (row_eq x0 x1 x2 x3 x4 x5 x6 x7 x8 x9 x10 A0 A1 A2 A3 A4 A5 A6 A7 A8 A9 A10 p i b0 b1 b2 b3 b4 b5 b6 b7 b8 b9 b10 n r) j).trans
    (refX_at _ _ _ _ _ _ _ _ _ _ _ _ _ _).symm

include b0 b1 b2 b3 b4 b5 b6 b7 b8 b9 b10 b11 in
theorem tileH (n : Fin 2) (r : Fin 256) (j : Fin 1024) :
    scaled (rowOf x0 x1 x2 x3 x4 x5 x6 x7 x8 x9 x10 n r) (fun a => x11 (ix2 0 a)) (fun a => x6 (ix4 n 0 4 a)) (fun a => x6 (ix4 n 0 3 a)) j
    = norm (refX A0 A1 A2 A3 A4 A5 A6 A7 A8 A9 A10) A6 A11
        (ix3 (⟨p.val * 2 + n.val, by omega⟩ : Fin 16) (⟨i.val * 256 + r.val, by omega⟩ : Fin 2304) j) := by
  have e : (256 ≤ i.val * 256 + r.val) = (1 ≤ i.val) := propext (by omega)
  rw [norm_at, row_eq x0 x1 x2 x3 x4 x5 x6 x7 x8 x9 x10 A0 A1 A2 A3 A4 A5 A6 A7 A8 A9 A10 p i b0 b1 b2 b3 b4 b5 b6 b7 b8 b9 b10 n r]
  simp only [refX_at, b6, b11, e]
end

variable (m : (ℓ : Loc nD τ sig) → Buf (Elt Ideal) ℓ)

/-! ## Where the blocks sit -/

theorem at0 (t : Fin grid0.N) : cc0_transform_0 (grid0.coords t) = ![t.val % 8, t.val / 8, 0] :=
  (by decide +kernel : ∀ t : Fin grid0.N, cc0_transform_0 (grid0.coords t) = ![t.val % 8, t.val / 8, 0]) t
theorem at1 (t : Fin grid0.N) : cc0_transform_1 (grid0.coords t) = ![t.val % 8, t.val / 8, 0] :=
  (by decide +kernel : ∀ t : Fin grid0.N, cc0_transform_1 (grid0.coords t) = ![t.val % 8, t.val / 8, 0]) t
theorem at2 (t : Fin grid0.N) : cc0_transform_2 (grid0.coords t) = ![t.val % 8, t.val / 8, 0] :=
  (by decide +kernel : ∀ t : Fin grid0.N, cc0_transform_2 (grid0.coords t) = ![t.val % 8, t.val / 8, 0]) t
theorem at3 (t : Fin grid0.N) : cc0_transform_3 (grid0.coords t) = ![t.val % 8, t.val / 8, 0] :=
  (by decide +kernel : ∀ t : Fin grid0.N, cc0_transform_3 (grid0.coords t) = ![t.val % 8, t.val / 8, 0]) t
theorem at4 (t : Fin grid0.N) : cc0_transform_4 (grid0.coords t) = ![t.val % 8, t.val / 8, 0] :=
  (by decide +kernel : ∀ t : Fin grid0.N, cc0_transform_4 (grid0.coords t) = ![t.val % 8, t.val / 8, 0]) t
theorem at5 (t : Fin grid0.N) : cc0_transform_5 (grid0.coords t) = ![t.val % 8, t.val / 8, 0] :=
  (by decide +kernel : ∀ t : Fin grid0.N, cc0_transform_5 (grid0.coords t) = ![t.val % 8, t.val / 8, 0]) t
theorem at6 (t : Fin grid0.N) : cc0_transform_6 (grid0.coords t) = ![t.val % 8, if 1 ≤ t.val / 8 then 1 else 0, 0, 0] :=
  (by decide +kernel : ∀ t : Fin grid0.N, cc0_transform_6 (grid0.coords t) = ![t.val % 8, if 1 ≤ t.val / 8 then 1 else 0, 0, 0]) t
theorem at7 (t : Fin grid0.N) : cc0_transform_7 (grid0.coords t) = ![0, 0] :=
  (by decide +kernel : ∀ t : Fin grid0.N, cc0_transform_7 (grid0.coords t) = ![0, 0]) t
theorem at8 (t : Fin grid0.N) : cc0_transform_8 (grid0.coords t) = ![0, 0] :=
  (by decide +kernel : ∀ t : Fin grid0.N, cc0_transform_8 (grid0.coords t) = ![0, 0]) t
theorem at9 (t : Fin grid0.N) : cc0_transform_9 (grid0.coords t) = ![0, 0] :=
  (by decide +kernel : ∀ t : Fin grid0.N, cc0_transform_9 (grid0.coords t) = ![0, 0]) t
theorem at10 (t : Fin grid0.N) : cc0_transform_10 (grid0.coords t) = ![0, 0] :=
  (by decide +kernel : ∀ t : Fin grid0.N, cc0_transform_10 (grid0.coords t) = ![0, 0]) t
theorem at11 (t : Fin grid0.N) : cc0_transform_11 (grid0.coords t) = ![0, 0] :=
  (by decide +kernel : ∀ t : Fin grid0.N, cc0_transform_11 (grid0.coords t) = ![0, 0]) t
theorem at15 (t : Fin grid0.N) : cc0_transform_15 (grid0.coords t) = ![t.val % 8, t.val / 8, 0] :=
  (by decide +kernel : ∀ t : Fin grid0.N, cc0_transform_15 (grid0.coords t) = ![t.val % 8, t.val / 8, 0]) t
theorem at16 (t : Fin grid0.N) : cc0_transform_16 (grid0.coords t) = ![t.val % 8, t.val / 8, 0] :=
  (by decide +kernel : ∀ t : Fin grid0.N, cc0_transform_16 (grid0.coords t) = ![t.val % 8, t.val / 8, 0]) t
theorem flush15 (t : Fin grid0.N) : Pipeline.Window.flushOf grid0 true cc0_transform_15 t = true :=
  (by decide +kernel : ∀ t : Fin grid0.N, Pipeline.Window.flushOf grid0 true cc0_transform_15 t = true) t
theorem flush16 (t : Fin grid0.N) : Pipeline.Window.flushOf grid0 true cc0_transform_16 t = true :=
  (by decide +kernel : ∀ t : Fin grid0.N, Pipeline.Window.flushOf grid0 true cc0_transform_16 t = true) t

theorem covers15 : (cfg0.win (15 : Fin 19)).Covers := by
  refine ⟨fun a => ?_, fun β => ?_⟩
  · match a with
    | ⟨0, _⟩ => exact (by decide : 0 < 2)
    | ⟨1, _⟩ => exact (by decide : 0 < 256)
    | ⟨2, _⟩ => exact (by decide : 0 < 1024)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (1024 + 1024 - 1) / 1024 := (β (2 : Fin 3)).isLt
    refine ⟨(⟨(β (1 : Fin 3) : ℕ) * 8 + (β (0 : Fin 3) : ℕ), by rw [N_0]; omega⟩ : Fin grid0.N), flush15 _, fun a => ⟨?_, .inl ?_⟩⟩
    · refine (congrFun (at15 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

theorem covers16 : (cfg0.win (16 : Fin 19)).Covers := by
  refine ⟨fun a => ?_, fun β => ?_⟩
  · match a with
    | ⟨0, _⟩ => exact (by decide : 0 < 2)
    | ⟨1, _⟩ => exact (by decide : 0 < 256)
    | ⟨2, _⟩ => exact (by decide : 0 < 1024)
  · have h0 : (β (0 : Fin 3) : ℕ) < (16 + 2 - 1) / 2 := (β (0 : Fin 3)).isLt
    have h1 : (β (1 : Fin 3) : ℕ) < (2304 + 256 - 1) / 256 := (β (1 : Fin 3)).isLt
    have h2 : (β (2 : Fin 3) : ℕ) < (1024 + 1024 - 1) / 1024 := (β (2 : Fin 3)).isLt
    refine ⟨(⟨(β (1 : Fin 3) : ℕ) * 8 + (β (0 : Fin 3) : ℕ), by rw [N_0]; omega⟩ : Fin grid0.N), flush16 _, fun a => ⟨?_, .inl ?_⟩⟩
    · refine (congrFun (at16 _) a).trans ?_
      match a with
      | ⟨0, _⟩ => exact (show ((β (1 : Fin 3) : ℕ) * 8 + (β (0 : Fin 3) : ℕ)) % 8 = β (0 : Fin 3) by omega)
      | ⟨1, _⟩ => exact (show ((β (1 : Fin 3) : ℕ) * 8 + (β (0 : Fin 3) : ℕ)) / 8 = β (1 : Fin 3) by omega)
      | ⟨2, _⟩ => exact (show (0 : ℕ) = β (2 : Fin 3) by omega)
    · rfl

/-! ## What the blocks hold -/

theorem blk0 (c : Dev nD) (t : Fin cfg0.N) (ht : t.val < 72) (n : Fin 2) (r : Fin 256) (a : Fin 1024) :
    iblk m c (0 : Fin 19) t (ix3 n r a) = m ((c : Thread nD τ).loc main_arg0)
      (ix3 (⟨t.val % 8 * 2 + n.val, by omega⟩ : Fin 16) (⟨t.val / 8 * 256 + r.val, by omega⟩ : Fin 2304) a) := by
  unfold iblk
  blk_simp
  rw [V_main_arg0]
  refine congrArg _ (funext fun x => Fin.ext ?_)
  have e : (cfg0.win (0 : Fin 19)).index t = ![t.val % 8, t.val / 8, 0] := at0 t
  match x with
  | ⟨0, _⟩ => blk_simp [e]
  | ⟨1, _⟩ => blk_simp [e]
  | ⟨2, _⟩ => blk_simp [e]

theorem blk1 (c : Dev nD) (t : Fin cfg0.N) (ht : t.val < 72) (n : Fin 2) (r : Fin 256) (a : Fin 512) :
    iblk m c (1 : Fin 19) t (ix3 n r a) = m ((c : Thread nD τ).loc main_arg1)
      (ix3 (⟨t.val % 8 * 2 + n.val, by omega⟩ : Fin 16) (⟨t.val / 8 * 256 + r.val, by omega⟩ : Fin 2304) a) := by
  unfold iblk
  blk_simp
  rw [V_main_arg1]
  refine congrArg _ (funext fun x => Fin.ext ?_)
  have e : (cfg0.win (1 : Fin 19)).index t = ![t.val % 8, t.val / 8, 0] := at1 t
  match x with
  | ⟨0, _⟩ => blk_simp [e]
  | ⟨1, _⟩ => blk_simp [e]
  | ⟨2, _⟩ => blk_simp [e]

theorem blk2 (c : Dev nD) (t : Fin cfg0.N) (ht : t.val < 72) (n : Fin 2) (r : Fin 256) (a : Fin 256) :
    iblk m c (2 : Fin 19) t (ix3 n r a) = m ((c : Thread nD τ).loc main_arg2)
      (ix3 (⟨t.val % 8 * 2 + n.val, by omega⟩ : Fin 16) (⟨t.val / 8 * 256 + r.val, by omega⟩ : Fin 2304) a) := by
  unfold iblk
  blk_simp
  rw [V_main_arg2]
  refine congrArg _ (funext fun x => Fin.ext ?_)
  have e : (cfg0.win (2 : Fin 19)).index t = ![t.val % 8, t.val / 8, 0] := at2 t
  match x with
  | ⟨0, _⟩ => blk_simp [e]
  | ⟨1, _⟩ => blk_simp [e]
  | ⟨2, _⟩ => blk_simp [e]

theorem blk3 (c : Dev nD) (t : Fin cfg0.N) (ht : t.val < 72) (n : Fin 2) (r : Fin 256) (a : Fin 256) :
    iblk m c (3 : Fin 19) t (ix3 n r a) = m ((c : Thread nD τ).loc main_arg3)
      (ix3 (⟨t.val % 8 * 2 + n.val, by omega⟩ : Fin 16) (⟨t.val / 8 * 256 + r.val, by omega⟩ : Fin 2304) a) := by
  unfold iblk
  blk_simp
  rw [V_main_arg3]
  refine congrArg _ (funext fun x => Fin.ext ?_)
  have e : (cfg0.win (3 : Fin 19)).index t = ![t.val % 8, t.val / 8, 0] := at3 t
  match x with
  | ⟨0, _⟩ => blk_simp [e]
  | ⟨1, _⟩ => blk_simp [e]
  | ⟨2, _⟩ => blk_simp [e]

theorem blk4 (c : Dev nD) (t : Fin cfg0.N) (ht : t.val < 72) (n : Fin 2) (r : Fin 256) (a : Fin 256) :
    iblk m c (4 : Fin 19) t (ix3 n r a) = m ((c : Thread nD τ).loc main_arg4)
      (ix3 (⟨t.val % 8 * 2 + n.val, by omega⟩ : Fin 16) (⟨t.val / 8 * 256 + r.val, by omega⟩ : Fin 2304) a) := by
  unfold iblk
  blk_simp
  rw [V_main_arg4]
  refine congrArg _ (funext fun x => Fin.ext ?_)
  have e : (cfg0.win (4 : Fin 19)).index t = ![t.val % 8, t.val / 8, 0] := at4 t
  match x with
  | ⟨0, _⟩ => blk_simp [e]
  | ⟨1, _⟩ => blk_simp [e]
  | ⟨2, _⟩ => blk_simp [e]

theorem blk5 (c : Dev nD) (t : Fin cfg0.N) (ht : t.val < 72) (n : Fin 2) (r : Fin 256) (a : Fin 256) :
    iblk m c (5 : Fin 19) t (ix3 n r a) = m ((c : Thread nD τ).loc main_arg5)
      (ix3 (⟨t.val % 8 * 2 + n.val, by omega⟩ : Fin 16) (⟨t.val / 8 * 256 + r.val, by omega⟩ : Fin 2304) a) := by
  unfold iblk
  blk_simp
  rw [V_main_arg5]
  refine congrArg _ (funext fun x => Fin.ext ?_)
  have e : (cfg0.win (5 : Fin 19)).index t = ![t.val % 8, t.val / 8, 0] := at5 t
  match x with
  | ⟨0, _⟩ => blk_simp [e]
  | ⟨1, _⟩ => blk_simp [e]
  | ⟨2, _⟩ => blk_simp [e]

theorem blk6 (c : Dev nD) (t : Fin cfg0.N) (ht : t.val < 72) (n : Fin 2) (k : Fin 6) (a : Fin 1024) :
    iblk m c (6 : Fin 19) t (ix4 n 0 k a) = m ((c : Thread nD τ).loc main_arg6)
      (ix4 (⟨t.val % 8 * 2 + n.val, by omega⟩ : Fin 16) (if 1 ≤ t.val / 8 then 1 else 0) k a) := by
  unfold iblk
  blk_simp
  rw [V_main_arg6]
  refine congrArg _ (funext fun x => Fin.ext ?_)
  have e : (cfg0.win (6 : Fin 19)).index t = ![t.val % 8, if 1 ≤ t.val / 8 then 1 else 0, 0, 0] := at6 t
  match x with
  | ⟨0, _⟩ => blk_simp [e]
  | ⟨1, _⟩ => blk_simp [e]; split <;> rfl
  | ⟨2, _⟩ => blk_simp [e]
  | ⟨3, _⟩ => blk_simp [e]

theorem blk7 (c : Dev nD) (t : Fin cfg0.N) (j : Fin 256) :
    iblk m c (7 : Fin 19) t (ix2 0 j) = (V m c main_v7 : FVec Ideal S1x256 .f32) (ix2 0 j) := by
  unfold iblk
  blk_simp
  refine congrArg _ (funext fun x => Fin.ext ?_)
  have e : (cfg0.win (7 : Fin 19)).index t = ![0, 0] := at7 t
  match x with
  | ⟨0, _⟩ => blk_simp [e]
  | ⟨1, _⟩ => blk_simp [e]

theorem blk8 (c : Dev nD) (t : Fin cfg0.N) (a : Fin 256) (j : Fin 256) :
    iblk m c (8 : Fin 19) t (ix2 a j) = (V m c main_v8 : FVec Ideal S256x256 .bf16) (ix2 a j) := by
  unfold iblk
  blk_simp
  refine congrArg _ (funext fun x => Fin.ext ?_)
  have e : (cfg0.win (8 : Fin 19)).index t = ![0, 0] := at8 t
  match x with
  | ⟨0, _⟩ => blk_simp [e]
  | ⟨1, _⟩ => blk_simp [e]

theorem blk9 (c : Dev nD) (t : Fin cfg0.N) (j : Fin 256) :
    iblk m c (9 : Fin 19) t (ix2 0 j) = (V m c main_v9 : FVec Ideal S1x256 .f32) (ix2 0 j) := by
  unfold iblk
  blk_simp
  refine congrArg _ (funext fun x => Fin.ext ?_)
  have e : (cfg0.win (9 : Fin 19)).index t = ![0, 0] := at9 t
  match x with
  | ⟨0, _⟩ => blk_simp [e]
  | ⟨1, _⟩ => blk_simp [e]

theorem blk10 (c : Dev nD) (t : Fin cfg0.N) (a : Fin 1024) (j : Fin 1024) :
    iblk m c (10 : Fin 19) t (ix2 a j) = (V m c main_v10 : FVec Ideal S1024x1024 .bf16) (ix2 a j) := by
  unfold iblk
  blk_simp
  refine congrArg _ (funext fun x => Fin.ext ?_)
  have e : (cfg0.win (10 : Fin 19)).index t = ![0, 0] := at10 t
  match x with
  | ⟨0, _⟩ => blk_simp [e]
  | ⟨1, _⟩ => blk_simp [e]

theorem blk11 (c : Dev nD) (t : Fin cfg0.N) (j : Fin 1024) :
    iblk m c (11 : Fin 19) t (ix2 0 j) = (V m c main_v11 : FVec Ideal S1x1024 .f32) (ix2 0 j) := by
  unfold iblk
  blk_simp
  refine congrArg _ (funext fun x => Fin.ext ?_)
  have e : (cfg0.win (11 : Fin 19)).index t = ![0, 0] := at11 t
  match x with
  | ⟨0, _⟩ => blk_simp [e]
  | ⟨1, _⟩ => blk_simp [e]

/-! ## The weights made before the call -/

theorem V_v7 (c : Dev nD) : V m c main_v7 = shapeCast S1x256 (m ((c : Thread nD τ).loc main_arg7) : FVec Ideal S256 .f32) shapeCasts_S256_S1x256 := by
  unfold V
  after_results
  rfl
theorem V_v9 (c : Dev nD) : V m c main_v9 = shapeCast S1x256 (m ((c : Thread nD τ).loc main_arg9) : FVec Ideal S256 .f32) shapeCasts_S256_S1x256 := by
  unfold V
  after_results
  rfl
theorem V_v11 (c : Dev nD) : V m c main_v11 = shapeCast S1x1024 (m ((c : Thread nD τ).loc main_arg11) : FVec Ideal S1024 .f32) shapeCasts_S1024_S1x1024 := by
  unfold V
  after_results
  rfl
theorem V_v8 (c : Dev nD) : V m c main_v8
    = (truncf .bf16 (m ((c : Thread nD τ).loc main_arg8) : FVec Ideal S256x256 .f32) bitsLt_bf16_f32 : FVec Ideal S256x256 .bf16) := by
  unfold V
  after_results
theorem V_v10 (c : Dev nD) : V m c main_v10
    = (truncf .bf16 (m ((c : Thread nD τ).loc main_arg10) : FVec Ideal S1024x1024 .f32) bitsLt_bf16_f32 : FVec Ideal S1024x1024 .bf16) := by
  unfold V
  after_results

theorem flat256 (A : FVec Ideal S256 .f32) (a : Fin 256) : shapeCast S1x256 A shapeCasts_S256_S1x256 (ix2 0 a) = A (ix1 a) := by
  pointwise

theorem flat1024 (A : FVec Ideal S1024 .f32) (a : Fin 1024) : shapeCast S1x1024 A shapeCasts_S1024_S1x1024 (ix2 0 a) = A (ix1 a) := by
  pointwise
theorem gain7 (c : Dev nD) (a : Fin 256) :
    (V m c main_v7 : FVec Ideal S1x256 .f32) (ix2 0 a) = (m ((c : Thread nD τ).loc main_arg7) : FVec Ideal S256 .f32) (ix1 a) :=
  (congrFun (V_v7 m c) _).trans (flat256 _ a)
theorem gain9 (c : Dev nD) (a : Fin 256) :
    (V m c main_v9 : FVec Ideal S1x256 .f32) (ix2 0 a) = (m ((c : Thread nD τ).loc main_arg9) : FVec Ideal S256 .f32) (ix1 a) :=
  (congrFun (V_v9 m c) _).trans (flat256 _ a)
theorem gain11 (c : Dev nD) (a : Fin 1024) :
    (V m c main_v11 : FVec Ideal S1x1024 .f32) (ix2 0 a) = (m ((c : Thread nD τ).loc main_arg11) : FVec Ideal S1024 .f32) (ix1 a) :=
  (congrFun (V_v11 m c) _).trans (flat1024 _ a)
theorem weights8 (c : Dev nD) (a j : Fin 256) :
    (V m c main_v8 : FVec Ideal S256x256 .bf16) (ix2 a j) = (m ((c : Thread nD τ).loc main_arg8) : FVec Ideal S256x256 .f32) (ix2 a j) :=
  congrFun (V_v8 m c) _
theorem weights10 (c : Dev nD) (a j : Fin 1024) :
    (V m c main_v10 : FVec Ideal S1024x1024 .bf16) (ix2 a j) = (m ((c : Thread nD τ).loc main_arg10) : FVec Ideal S1024x1024 .f32) (ix2 a j) :=
  congrFun (V_v10 m c) _

/-! ## The results -/

/-- The stream after the mixers, over the arguments. -/
abbrev streamed (c : Dev nD) : FVec Ideal S16x2304x1024 .f32 :=
  refX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Its norm. -/
abbrev normed (c : Dev nD) : FVec Ideal S16x2304x1024 .bf16 :=
  norm (streamed m c) (m ((c : Thread nD τ).loc main_arg6)) (m ((c : Thread nD τ).loc main_arg11))

section
variable (c : Dev nD)

theorem pointX (t : Fin cfg0.N) (ht : t.val < 72) (n : Fin 2) (r : Fin 256) (j : Fin 1024) : (outsAt0 m c t).1 (ix3 n r j)
    = streamed m c (ix3 (⟨t.val % 8 * 2 + n.val, by omega⟩ : Fin 16) (⟨t.val / 8 * 256 + r.val, by omega⟩ : Fin 2304) j) :=
  (stream_at m c t n r j).trans (tileX (iblk m c (0 : Fin 19) t) (iblk m c (1 : Fin 19) t) (iblk m c (2 : Fin 19) t) (iblk m c (3 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (⟨t.val % 8, by omega⟩ : Fin 8) (⟨t.val / 8, by omega⟩ : Fin 9)
    (fun n r a => blk0 m c t ht n r a) (fun n r a => blk1 m c t ht n r a) (fun n r a => blk2 m c t ht n r a) (fun n r a => blk3 m c t ht n r a) (fun n r a => blk4 m c t ht n r a) (fun n r a => blk5 m c t ht n r a) (fun n k a => blk6 m c t ht n k a)
    (fun a => (blk7 m c t a).trans (gain7 m c a)) (fun a j => (blk8 m c t a j).trans (weights8 m c a j)) (fun a => (blk9 m c t a).trans (gain9 m c a)) (fun a j => (blk10 m c t a j).trans (weights10 m c a j)) n r j)

theorem pointH (t : Fin cfg0.N) (ht : t.val < 72) (n : Fin 2) (r : Fin 256) (j : Fin 1024) : (outsAt0 m c t).2.1 (ix3 n r j)
    = normed m c (ix3 (⟨t.val % 8 * 2 + n.val, by omega⟩ : Fin 16) (⟨t.val / 8 * 256 + r.val, by omega⟩ : Fin 2304) j) :=
  (normed_at m c t n r j).trans (tileH (iblk m c (0 : Fin 19) t) (iblk m c (1 : Fin 19) t) (iblk m c (2 : Fin 19) t) (iblk m c (3 : Fin 19) t) (iblk m c (4 : Fin 19) t) (iblk m c (5 : Fin 19) t) (iblk m c (6 : Fin 19) t) (iblk m c (7 : Fin 19) t) (iblk m c (8 : Fin 19) t) (iblk m c (9 : Fin 19) t) (iblk m c (10 : Fin 19) t) (iblk m c (11 : Fin 19) t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (⟨t.val % 8, by omega⟩ : Fin 8) (⟨t.val / 8, by omega⟩ : Fin 9)
    (fun n r a => blk0 m c t ht n r a) (fun n r a => blk1 m c t ht n r a) (fun n r a => blk2 m c t ht n r a) (fun n r a => blk3 m c t ht n r a) (fun n r a => blk4 m c t ht n r a) (fun n r a => blk5 m c t ht n r a) (fun n k a => blk6 m c t ht n k a)
    (fun a => (blk7 m c t a).trans (gain7 m c a)) (fun a j => (blk8 m c t a j).trans (weights8 m c a j)) (fun a => (blk9 m c t a).trans (gain9 m c a)) (fun a j => (blk10 m c t a j).trans (weights10 m c a j)) (fun a => (blk11 m c t a).trans (gain11 m c a)) n r j)

/-- The result array after the run. -/
theorem finalX : (dats m 0 c).arrAt (15 : Fin 19) cfg0.N = (streamed m c : FVec Ideal S16x2304x1024 .f32) := by
  refine (dats m 0 c).arrAt_eq_of_covers (15 : Fin 19) _ covers15 fun t _ y => ?_
  blk_simp
  rw [after0_15]
  have ht : t.val < 72 := lt_of_lt_of_eq t.isLt N_0
  have e : (cfg0.win (15 : Fin 19)).index t = ![t.val % 8, t.val / 8, 0] := at15 t
  have hy : y = (ix3 (y (0 : Fin 3)) (y (1 : Fin 3)) (y (2 : Fin 3)) : S2x256x1024.Idx) := eq_ix3 (y : S2x256x1024.Idx)
  rw [hy]
  refine (pointX m c t ht (y (0 : Fin 3)) (y (1 : Fin 3)) (y (2 : Fin 3))).trans (congrArg (streamed m c) (funext fun x => Fin.ext ?_))
  match x with
  | ⟨0, _⟩ => blk_simp [e]
  | ⟨1, _⟩ => blk_simp [e]
  | ⟨2, _⟩ => blk_simp [e]

/-- The result array after the run. -/
theorem finalH : (dats m 0 c).arrAt (16 : Fin 19) cfg0.N = (normed m c : FVec Ideal S16x2304x1024 .bf16) := by
  refine (dats m 0 c).arrAt_eq_of_covers (16 : Fin 19) _ covers16 fun t _ y => ?_
  blk_simp
  rw [after0_16]
  have ht : t.val < 72 := lt_of_lt_of_eq t.isLt N_0
  have e : (cfg0.win (16 : Fin 19)).index t = ![t.val % 8, t.val / 8, 0] := at16 t
  have hy : y = (ix3 (y (0 : Fin 3)) (y (1 : Fin 3)) (y (2 : Fin 3)) : S2x256x1024.Idx) := eq_ix3 (y : S2x256x1024.Idx)
  rw [hy]
  refine (pointH m c t ht (y (0 : Fin 3)) (y (1 : Fin 3)) (y (2 : Fin 3))).trans (congrArg (normed m c) (funext fun x => Fin.ext ?_))
  match x with
  | ⟨0, _⟩ => blk_simp [e]
  | ⟨1, _⟩ => blk_simp [e]
  | ⟨2, _⟩ => blk_simp [e]

end

/-- The run, at the reference's terms. -/
theorem run_result (ρ : Dev nD → PrngReg) :
    θ_run (defs (F := Ideal)) (onTc (τ := τ) (main (F := Ideal))) ⟨m, fun _ => 0, ρ⟩ (fun r => ∀ c : Dev nD,
      r.2.mem ((c : Thread nD τ).loc main_v12_0) = streamed m c
      ∧ r.2.mem ((c : Thread nD τ).loc main_v12_1) = normed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  θ_run_mono (run_blocks m ρ) fun _ h c => ⟨(h c).1.trans (finalX m c), (h c).2.1.trans (finalH m c), (h c).2.2.2.2⟩

end Cert.Kernel3Ideal.OutProj

end
-- ==== Proof.ModSpec.lean ====
/-
  A product split in high and low parts, over finite numbers: the low parts vanish. And what the modulation's
  precondition says: the conditioning and the weights are finite.
-/
module

public import proofs.«01_k».proof.Proof.Gen.Pre_finite
public import Idealize.ShloMosaic.Lib.Affine
public import Idealize.ShloMosaic.Lib.ReduceAll
public import Idealize.ShloMosaic.Lib.IdealHost
public import Idealize.ShloMosaic.Lib.Pointwise

@[expose] public section

set_option maxRecDepth 16384

noncomputable section

namespace Cert.Mod

open Idealize.ShloMosaic

/-- Neither infinity. -/
def Finite (x : EReal) : Prop := x ≠ ⊤ ∧ x ≠ ⊥

theorem exists_real {x : EReal} (h : Finite x) : ∃ r : ℝ, x = r := ⟨x.toReal, (EReal.coe_toReal h.1 h.2).symm⟩

theorem sub_self_of_finite {x : EReal} (h : Finite x) : x - x = 0 := EReal.sub_self h.1 h.2

/-- A finite number times its logistic. -/
def silu (x : EReal) : EReal := x * Ideal.logistic x

theorem silu_finite {x : EReal} (h : Finite x) : Finite (silu x) := by
  obtain ⟨r, rfl⟩ := exists_real h
  have e : silu (r : EReal) = ((r * (1 * (1 + Real.exp (-r))⁻¹) : ℝ) : EReal) := by
    have p : (1 : ℝ) + Real.exp (-r) ≠ 0 := (add_pos one_pos (Real.exp_pos _)).ne'
    have q : (1 : EReal) + Ideal.exp (-(r : EReal)) = ((1 + Real.exp (-r) : ℝ) : EReal) := by
      rw [← EReal.coe_neg]
      exact (EReal.coe_add 1 (Real.exp (-r))).symm
    unfold silu Ideal.logistic Ideal.div
    rw [q, if_neg (fun c => p (EReal.coe_eq_zero.1 c)), ← EReal.coe_inv, ← EReal.coe_one, ← EReal.coe_mul, ← EReal.coe_mul]
  rw [e]
  exact ⟨EReal.coe_ne_top _, EReal.coe_ne_bot _⟩

/-- The three partial products are the one product. -/
theorem split_sum {n : ℕ} (s w : Fin n → EReal) (hs : ∀ a, Finite (s a)) (hw : ∀ a, Finite (w a)) :
    ∑ a, s a * w a + ∑ a, s a * (w a - w a) + ∑ a, (s a - s a) * w a = ∑ a, s a * w a := by
  simp only [fun a => sub_self_of_finite (hs a), fun a => sub_self_of_finite (hw a), mul_zero, zero_mul, Finset.sum_const_zero, add_zero]

/-- An entry of a table: the conditioning's silu against the weights' column, and the bias. -/
def entry (c w : Fin 1024 → EReal) (b : EReal) : EReal := ∑ a, silu (c a) * w a + b

/-! ## The precondition -/

theorem ofBool_one (b : Bool) (h : BitVec.ofBool b = 1#1) : b = true := by
  cases b
  · exact absurd h (by decide)
  · rfl

theorem inf_word : Ideal.ofBits .f32 0x7F800000#32 = (⊤ : EReal) := by
  simp only [Ideal.ofBits, Ideal.ieee]
  rw [if_pos (by decide), if_pos (by decide), if_neg (by decide)]
theorem neg_inf_word : Ideal.ofBits .f32 0xFF800000#32 = (⊥ : EReal) := by
  simp only [Ideal.ofBits, Ideal.ieee]
  rw [if_pos (by decide), if_pos (by decide), if_pos (by decide)]

section
variable (a0 : FVec Ideal Pre_finite.S24x1024 .f32) (a1 : FVec Ideal Pre_finite.S2x1024x6144 .f32) (a2 : FVec Ideal Pre_finite.S2x6144 .f32)
  (h : Pre_finite.fn a0 a1 a2 = fun _ => 1#1)

include h in
theorem cond_finite (y : Pre_finite.S24x1024.Idx) : Finite (a0 y) := by
  have e := congrFun h (fun a => a.elim0)
  dsimp only [Pre_finite.fn] at e
  obtain ⟨e0, e1⟩ := IntOp.andi_eq_one.1 (IntOp.andi_eq_one.1 (IntOp.andi_eq_one.1 e).1).1
  have g0 := Host.reduce_andi_all _ _ _ _ _ e0 y
  have g1 := Host.reduce_andi_all _ _ _ _ _ e1 y
  clear e e0 e1 h
  constructor
  · revert g0; pointwise; rw [inf_word]; exact fun h => ne_of_lt (of_decide_eq_true (ofBool_one _ h))
  · revert g1; pointwise; rw [neg_inf_word]; exact fun h => ne_of_gt (of_decide_eq_true (ofBool_one _ h))

include h in
theorem weight_finite (y : Pre_finite.S2x1024x6144.Idx) : Finite (a1 y) := by
  have e := congrFun h (fun a => a.elim0)
  dsimp only [Pre_finite.fn] at e
  obtain ⟨e, e1⟩ := IntOp.andi_eq_one.1 e
  have e0 := (IntOp.andi_eq_one.1 e).2
  have g0 := Host.reduce_andi_all _ _ _ _ _ e0 y
  have g1 := Host.reduce_andi_all _ _ _ _ _ e1 y
  clear e e0 e1 h
  constructor
  · revert g0; pointwise; rw [inf_word]; exact fun h => ne_of_lt (of_decide_eq_true (ofBool_one _ h))
  · revert g1; pointwise; rw [neg_inf_word]; exact fun h => ne_of_gt (of_decide_eq_true (ofBool_one _ h))
end

end Cert.Mod

end
-- ==== Proof.ModReference.lean ====
/-
  The reference's term of the modulation read at an index: for each layer the conditioning's silu against the layer's
  weights, plus its bias, the two layers one after the other.
-/
module

public import proofs.«01_k».proof.Proof.ModSpec
public import proofs.«01_k».proof.Proof.Gen.Reference4Ideal.Run
public import Idealize.ShloMosaic.Lib.Pointwise

@[expose] public section

set_option maxRecDepth 16384

noncomputable section

namespace Cert.Reference4Ideal.Mod

open Cert.Reference4Ideal Cert.Reference4Ideal.Gen Cert.Mod
open Idealize.ShloMosaic Idealize.ShloMosaic.TcCoe Idealize.SL.Sem

section
variable (A0 : FVec Ideal S24x1024 .f32) (A1 : FVec Ideal S2x1024x6144 .f32) (A2 : FVec Ideal S2x6144 .f32)

/-- The first layer's table. -/
def first : FVec Ideal S1x24x6144 .f32 :=
  broadcastInDim S1x24x6144 ![1, 2] bcast_S24x6144_S1x24x6144_1_2 (addf (Host.dotGeneral dot_S24x1024_S1024x6144_S24x6144_1_0_0_1_n_n none (mulf A0 (Host.divf (broadcastInDim S24x1024 ![] bcast_S_S24x1024 (constant S_ .f32 0x3F800000#32)) (addf (broadcastInDim S24x1024 ![] bcast_S_S24x1024 (constant S_ .f32 0x3F800000#32)) (Host.exp (Host.negf A0))))) (shapeCast _ (extractStridedSlice S1x1024x6144 ![0, 0, 0] A1 slices_S2x1024x6144_S1x1024x6144_0_0_0) shapeCasts_S1x1024x6144_S1024x6144)) (broadcastInDim S24x6144 ![0, 1] bcast_S1x6144_S24x6144_0_1 (broadcastInDim S1x6144 ![1] bcast_S6144_S1x6144_1 (shapeCast _ (extractStridedSlice S1x6144 ![0, 0] A2 slices_S2x6144_S1x6144_0_0) shapeCasts_S1x6144_S6144))))

/-- The second layer's. -/
def second : FVec Ideal S1x24x6144 .f32 :=
  broadcastInDim S1x24x6144 ![1, 2] bcast_S24x6144_S1x24x6144_1_2 (addf (Host.dotGeneral dot_S24x1024_S1024x6144_S24x6144_1_0_0_1_n_n none (mulf A0 (Host.divf (broadcastInDim S24x1024 ![] bcast_S_S24x1024 (constant S_ .f32 0x3F800000#32)) (addf (broadcastInDim S24x1024 ![] bcast_S_S24x1024 (constant S_ .f32 0x3F800000#32)) (Host.exp (Host.negf A0))))) (shapeCast _ (extractStridedSlice S1x1024x6144 ![1, 0, 0] A1 slices_S2x1024x6144_S1x1024x6144_1_0_0) shapeCasts_S1x1024x6144_S1024x6144)) (broadcastInDim S24x6144 ![0, 1] bcast_S1x6144_S24x6144_0_1 (broadcastInDim S1x6144 ![1] bcast_S6144_S1x6144_1 (shapeCast _ (extractStridedSlice S1x6144 ![1, 0] A2 slices_S2x6144_S1x6144_1_0) shapeCasts_S1x6144_S6144))))

/-- The two. -/
def table : FVec Ideal S2x24x6144 .f32 :=
  concatenate S2x24x6144 0 [⟨S1x24x6144, first A0 A1 A2⟩, ⟨S1x24x6144, second A0 A1 A2⟩] concatenates_S1x24x6144_S1x24x6144_S2x24x6144_d0

theorem first_at (r : Fin 24) (j : Fin 6144) : first A0 A1 A2 (ix3 0 r j)
    = entry (fun a => A0 (ix2 r a)) (fun a => A1 (ix3 0 a j)) (A2 (ix2 0 j)) := by
  unfold first
  pointwise
  rfl
theorem second_at (r : Fin 24) (j : Fin 6144) : second A0 A1 A2 (ix3 0 r j)
    = entry (fun a => A0 (ix2 r a)) (fun a => A1 (ix3 1 a j)) (A2 (ix2 1 j)) := by
  unfold second
  pointwise
  rfl

theorem table_at (l : Fin 2) (r : Fin 24) (j : Fin 6144) : table A0 A1 A2 (ix3 l r j)
    = entry (fun a => A0 (ix2 r a)) (fun a => A1 (ix3 l a j)) (A2 (ix2 l j)) := by
  unfold table
  match l with
  | ⟨0, _⟩ => refine Eq.trans ?_ (first_at A0 A1 A2 r j); pointwise
  | ⟨1, _⟩ => refine Eq.trans ?_ (second_at A0 A1 A2 r j); pointwise
end

variable (m : (ℓ : Loc nD τ sig) → Buf (Elt Ideal) ℓ)

/-- The run, at the table. -/
theorem run_ref (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = table (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c).1.trans (by unfold table first second; rfl), (h c).2⟩) (Value.run m ρ)

end Cert.Reference4Ideal.Mod

end
-- ==== Proof.ModValue.lean ====
/-
  The modulation table the kernel leaves: the reference's, over finite conditioning and weights. Each tile reads the
  conditioning, one layer's columns of the weights and of the bias, and writes those columns; the tiles cover the table.
-/
module

public import proofs.«01_k».proof.Proof.Gen.Kernel4Ideal.Value
public import proofs.«01_k».proof.Proof.ModReference
public import Idealize.ShloMosaic.Lib.Pipeline.ValueKit

@[expose] public section

set_option maxRecDepth 16384

noncomputable section

namespace Cert.Kernel4Ideal.Mod

open Cert.Kernel4Ideal Cert.Kernel4Ideal.Gen Cert.Kernel4Ideal.Value Cert.Mod
open Cert.Reference4Ideal.Mod (table table_at)
open Idealize.ShloMosaic Idealize.ShloMosaic.TcCoe Idealize.SL.Sem
open Idealize.ShloMosaic.Pipeline (Dat)

/-- What the body leaves at an entry, over any blocks: the product in its three parts, and the bias. -/
theorem body_at (x0 : Vec Ideal S24x1024 .f32) (x1 : Vec Ideal S1x1024x768 .f32) (x2 : Vec Ideal S1x1x768 .f32) (r : Fin 24) (j : Fin 768) :
    out0_3 x0 x1 x2 (ix3 0 r j) = (∑ a : Fin 1024, silu (x0 (ix2 r a)) * x1 (ix3 0 a j)
      + ∑ a : Fin 1024, silu (x0 (ix2 r a)) * (x1 (ix3 0 a j) - x1 (ix3 0 a j))
      + ∑ a : Fin 1024, (silu (x0 (ix2 r a)) - silu (x0 (ix2 r a))) * x1 (ix3 0 a j)) + x2 (ix3 0 0 j) := by
  unfold out0_3
  frame_out
  pointwise [k0_pay1]
  rfl

theorem tile_at (x0 : Vec Ideal S24x1024 .f32) (x1 : Vec Ideal S1x1024x768 .f32) (x2 : Vec Ideal S1x1x768 .f32) (r : Fin 24) (j : Fin 768)
    (h0 : ∀ a : Fin 1024, Finite (x0 (ix2 r a))) (h1 : ∀ a : Fin 1024, Finite (x1 (ix3 0 a j))) :
    out0_3 x0 x1 x2 (ix3 0 r j) = entry (fun a => x0 (ix2 r a)) (fun a => x1 (ix3 0 a j)) (x2 (ix3 0 0 j)) := by
  rw [body_at, split_sum (fun a => silu (x0 (ix2 r a))) (fun a => x1 (ix3 0 a j)) (fun a => silu_finite (h0 a)) h1]
  rfl

variable (m : (ℓ : Loc nD τ sig) → Buf (Elt Ideal) ℓ)

/-! ## Where the blocks sit -/

theorem at0 (t : Fin grid0.N) : cc0_transform_0 (grid0.coords t) = ![0, 0] :=
  (by decide +kernel : ∀ t : Fin grid0.N, cc0_transform_0 (grid0.coords t) = ![0, 0]) t
theorem at1 (t : Fin grid0.N) : cc0_transform_1 (grid0.coords t) = ![t.val / 8, 0, t.val % 8] :=
  (by decide +kernel : ∀ t : Fin grid0.N, cc0_transform_1 (grid0.coords t) = ![t.val / 8, 0, t.val % 8]) t
theorem at2 (t : Fin grid0.N) : cc0_transform_2 (grid0.coords t) = ![t.val / 8, 0, t.val % 8] :=
  (by decide +kernel : ∀ t : Fin grid0.N, cc0_transform_2 (grid0.coords t) = ![t.val / 8, 0, t.val % 8]) t
theorem at3 (t : Fin grid0.N) : cc0_transform_3 (grid0.coords t) = ![t.val / 8, 0, t.val % 8] :=
  (by decide +kernel : ∀ t : Fin grid0.N, cc0_transform_3 (grid0.coords t) = ![t.val / 8, 0, t.val % 8]) t
theorem flush3 (t : Fin grid0.N) : Pipeline.Window.flushOf grid0 true cc0_transform_3 t = true :=
  (by decide +kernel : ∀ t : Fin grid0.N, Pipeline.Window.flushOf grid0 true cc0_transform_3 t = true) t

theorem covers3 : (cfg0.win (3 : Fin 4)).Covers := by
  refine ⟨fun a => ?_, fun β => ?_⟩
  · match a with
    | ⟨0, _⟩ => exact (by decide : 0 < 1)
    | ⟨1, _⟩ => exact (by decide : 0 < 24)
    | ⟨2, _⟩ => exact (by decide : 0 < 768)
  · have h0 : (β (0 : Fin 3) : ℕ) < (2 + 1 - 1) / 1 := (β (0 : Fin 3)).isLt
    have h1 : (β (1 : Fin 3) : ℕ) < (24 + 24 - 1) / 24 := (β (1 : Fin 3)).isLt
    have h2 : (β (2 : Fin 3) : ℕ) < (6144 + 768 - 1) / 768 := (β (2 : Fin 3)).isLt
    refine ⟨(⟨(β (0 : Fin 3) : ℕ) * 8 + (β (2 : Fin 3) : ℕ), by rw [N_0]; omega⟩ : Fin grid0.N), flush3 _, fun a => ⟨?_, .inl ?_⟩⟩
    · refine (congrFun (at3 _) a).trans ?_
      match a with
      | ⟨0, _⟩ => exact (show ((β (0 : Fin 3) : ℕ) * 8 + (β (2 : Fin 3) : ℕ)) / 8 = β (0 : Fin 3) by omega)
      | ⟨1, _⟩ => exact (show (0 : ℕ) = β (1 : Fin 3) by omega)
      | ⟨2, _⟩ => exact (show ((β (0 : Fin 3) : ℕ) * 8 + (β (2 : Fin 3) : ℕ)) % 8 = β (2 : Fin 3) by omega)
    · rfl

/-! ## What the blocks hold -/

theorem blk0 (c : Dev nD) (t : Fin cfg0.N) (r : Fin 24) (a : Fin 1024) :
    iblk m c (0 : Fin 4) t (ix2 r a) = m ((c : Thread nD τ).loc main_arg0) (ix2 r a) := by
  unfold iblk
  blk_simp
  rw [V_main_arg0]
  refine congrArg _ (funext fun x => Fin.ext ?_)
  have e : (cfg0.win (0 : Fin 4)).index t = ![0, 0] := at0 t
  match x with
  | ⟨0, _⟩ => blk_simp [e]
  | ⟨1, _⟩ => blk_simp [e]

theorem blk1 (c : Dev nD) (t : Fin cfg0.N) (ht : t.val < 16) (a : Fin 1024) (j : Fin 768) :
    iblk m c (1 : Fin 4) t (ix3 0 a j) = m ((c : Thread nD τ).loc main_arg1)
      (ix3 (⟨t.val / 8, by omega⟩ : Fin 2) a (⟨t.val % 8 * 768 + j.val, by omega⟩ : Fin 6144)) := by
  unfold iblk
  blk_simp
  rw [V_main_arg1]
  refine congrArg _ (funext fun x => Fin.ext ?_)
  have e : (cfg0.win (1 : Fin 4)).index t = ![t.val / 8, 0, t.val % 8] := at1 t
  match x with
  | ⟨0, _⟩ => blk_simp [e]; rfl
  | ⟨1, _⟩ => blk_simp [e]
  | ⟨2, _⟩ => blk_simp [e]

theorem blk2 (c : Dev nD) (t : Fin cfg0.N) (ht : t.val < 16) (j : Fin 768) :
    iblk m c (2 : Fin 4) t (ix3 0 0 j) = (V m c main_v0 : FVec Ideal S2x1x6144 .f32)
      (ix3 (⟨t.val / 8, by omega⟩ : Fin 2) 0 (⟨t.val % 8 * 768 + j.val, by omega⟩ : Fin 6144)) := by
  unfold iblk
  blk_simp
  refine congrArg _ (funext fun x => Fin.ext ?_)
  have e : (cfg0.win (2 : Fin 4)).index t = ![t.val / 8, 0, t.val % 8] := at2 t
  match x with
  | ⟨0, _⟩ => blk_simp [e]; rfl
  | ⟨1, _⟩ => blk_simp [e]
  | ⟨2, _⟩ => blk_simp [e]

theorem V_v0 (c : Dev nD) : V m c main_v0
    = shapeCast S2x1x6144 (m ((c : Thread nD τ).loc main_arg2) : FVec Ideal S2x6144 .f32) shapeCasts_S2x6144_S2x1x6144 := by
  unfold V
  after_results
  rfl

theorem flat (A : FVec Ideal S2x6144 .f32) (l : Fin 2) (j : Fin 6144) :
    shapeCast S2x1x6144 A shapeCasts_S2x6144_S2x1x6144 (ix3 l 0 j) = A (ix2 l j) := by
  pointwise

theorem bias (c : Dev nD) (l : Fin 2) (j : Fin 6144) :
    (V m c main_v0 : FVec Ideal S2x1x6144 .f32) (ix3 l 0 j) = (m ((c : Thread nD τ).loc main_arg2) : FVec Ideal S2x6144 .f32) (ix2 l j) :=
  (congrFun (V_v0 m c) _).trans (flat _ l j)

/-! ## The result -/

/-- The table, over the arguments. -/
abbrev tabled (c : Dev nD) : FVec Ideal S2x24x6144 .f32 :=
  table (m ((c : Thread nD τ).loc main_arg0)) (m ((c : Thread nD τ).loc main_arg1)) (m ((c : Thread nD τ).loc main_arg2))

theorem tile_table (x0 : Vec Ideal S24x1024 .f32) (x1 : Vec Ideal S1x1024x768 .f32) (x2 : Vec Ideal S1x1x768 .f32)
    (A0 : FVec Ideal S24x1024 .f32) (A1 : FVec Ideal S2x1024x6144 .f32) (A2 : FVec Ideal S2x6144 .f32) (l : Fin 2) (k : Fin 8)
    (b0 : ∀ (r : Fin 24) (a : Fin 1024), x0 (ix2 r a) = A0 (ix2 r a))
    (b1 : ∀ (a : Fin 1024) (j : Fin 768), x1 (ix3 0 a j) = A1 (ix3 l a (⟨k.val * 768 + j.val, by omega⟩ : Fin 6144)))
    (b2 : ∀ j : Fin 768, x2 (ix3 0 0 j) = A2 (ix2 l (⟨k.val * 768 + j.val, by omega⟩ : Fin 6144)))
    (h0 : ∀ y, Finite (A0 y)) (h1 : ∀ y, Finite (A1 y)) (r : Fin 24) (j : Fin 768) :
    out0_3 x0 x1 x2 (ix3 0 r j) = table A0 A1 A2 (ix3 l r (⟨k.val * 768 + j.val, by omega⟩ : Fin 6144)) := by
  rw [table_at, tile_at x0 x1 x2 r j (fun a => by rw [b0]; exact h0 _) (fun a => by rw [b1]; exact h1 _)]
  simp only [b0, b1, b2]

theorem eq_row (y : S1x24x768.Idx) : y = ix3 0 (y (1 : Fin 3)) (y (2 : Fin 3)) :=
  (eq_ix3 y).trans (congrArg (fun q : Fin 1 => (ix3 q (y (1 : Fin 3)) (y (2 : Fin 3)) : S1x24x768.Idx)) (Subsingleton.elim (α := Fin 1) _ _))

section
variable (c : Dev nD) (h0 : ∀ y : S24x1024.Idx, Finite ((m ((c : Thread nD τ).loc main_arg0) : FVec Ideal S24x1024 .f32) y))
  (h1 : ∀ y : S2x1024x6144.Idx, Finite ((m ((c : Thread nD τ).loc main_arg1) : FVec Ideal S2x1024x6144 .f32) y))

include h0 h1 in
theorem point (t : Fin cfg0.N) (ht : t.val < 16) (r : Fin 24) (j : Fin 768) :
    out0_3 (iblk m c (0 : Fin 4) t) (iblk m c (1 : Fin 4) t) (iblk m c (2 : Fin 4) t) (ix3 0 r j)
      = tabled m c (ix3 (⟨t.val / 8, by omega⟩ : Fin 2) r (⟨t.val % 8 * 768 + j.val, by omega⟩ : Fin 6144)) :=
  tile_table (iblk m c (0 : Fin 4) t) (iblk m c (1 : Fin 4) t) (iblk m c (2 : Fin 4) t)
    (m ((c : Thread nD τ).loc main_arg0)) (m ((c : Thread nD τ).loc main_arg1)) (m ((c : Thread nD τ).loc main_arg2))
    (⟨t.val / 8, by omega⟩ : Fin 2) (⟨t.val % 8, by omega⟩ : Fin 8)
    (fun r a => blk0 m c t r a) (fun a j => blk1 m c t ht a j) (fun j => (blk2 m c t ht j).trans (bias m c _ _)) h0 h1 r j

include h0 h1 in
/-- The result array after the run. -/
theorem final : (dats m 0 c).arrAt (3 : Fin 4) cfg0.N = (tabled m c : FVec Ideal S2x24x6144 .f32) := by
  refine (dats m 0 c).arrAt_eq_of_covers (3 : Fin 4) _ covers3 fun t _ y => ?_
  blk_simp
  rw [after0_3]
  have ht : t.val < 16 := lt_of_lt_of_eq t.isLt N_0
  have e : (cfg0.win (3 : Fin 4)).index t = ![t.val / 8, 0, t.val % 8] := at3 t
  have hy : y = (ix3 0 (y (1 : Fin 3)) (y (2 : Fin 3)) : S1x24x768.Idx) := eq_row (y : S1x24x768.Idx)
  rw [hy]
  refine (point m c h0 h1 t ht (y (1 : Fin 3)) (y (2 : Fin 3))).trans (congrArg (tabled m c) (funext fun x => Fin.ext ?_))
  match x with
  | ⟨0, _⟩ => blk_simp [e]; rfl
  | ⟨1, _⟩ => blk_simp [e]
  | ⟨2, _⟩ => blk_simp [e]
end

/-- The run, at the reference's table. -/
theorem run_result (ρ : Dev nD → PrngReg)
    (h0 : ∀ (c : Dev nD) (y : S24x1024.Idx), Finite ((m ((c : Thread nD τ).loc main_arg0) : FVec Ideal S24x1024 .f32) y))
    (h1 : ∀ (c : Dev nD) (y : S2x1024x6144.Idx), Finite ((m ((c : Thread nD τ).loc main_arg1) : FVec Ideal S2x1024x6144 .f32) y)) :
    θ_run (defs (F := Ideal)) (onTc (τ := τ) (main (F := Ideal))) ⟨m, fun _ => 0, ρ⟩ (fun r => ∀ c : Dev nD,
      r.2.mem ((c : Thread nD τ).loc main_v1) = tabled m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  θ_run_mono (run_blocks m ρ) fun _ h c => ⟨(h c).1.trans (final m c (h0 c) (h1 c)), (h c).2⟩

end Cert.Kernel4Ideal.Mod

end
-- ==== Proof.AttSoftmax.lean ====
/-
  A softmax over extended reals: a maximum, exponentials of the differences, a weighted sum divided by the sum of the
  exponentials. Scores of minus infinity carry no weight, so the sum may run over a window of the keys; and dividing
  each weight before the sum is dividing the sum.
-/
module

public import proofs.«01_k».proof.Proof.ModSpec

@[expose] public section

set_option maxRecDepth 16384

noncomputable section

namespace Cert.Att

open Idealize.ShloMosaic
open Cert.Mod (Finite exists_real)

/-- The maximum of a family. -/
def top {ι : Type} [Fintype ι] (f : ι → EReal) : EReal := Finset.univ.fold max ⊥ f

theorem top_eq {ι : Type} [Fintype ι] (f : ι → EReal) : top f = Finset.univ.sup f := rfl

/-- The divided sum: local keys and context keys under one maximum and one denominator. -/
def attend {ι κ : Type} [Fintype ι] [Fintype κ] (sl vl : ι → EReal) (sc vc : κ → EReal) : EReal :=
  Ideal.div
    ((∑ j, Ideal.exp (sl j - max (top sl) (top sc)) * vl j) + ∑ j, Ideal.exp (sc j - max (top sl) (top sc)) * vc j)
    ((∑ j, Ideal.exp (sl j - max (top sl) (top sc))) + ∑ j, Ideal.exp (sc j - max (top sl) (top sc)))

/-- The weights divided first. -/
def attendW {ι κ : Type} [Fintype ι] [Fintype κ] (sl vl : ι → EReal) (sc vc : κ → EReal) : EReal :=
  (∑ j, Ideal.div (Ideal.exp (sl j - max (top sl) (top sc)))
      ((∑ j, Ideal.exp (sl j - max (top sl) (top sc))) + ∑ j, Ideal.exp (sc j - max (top sl) (top sc))) * vl j)
    + ∑ j, Ideal.div (Ideal.exp (sc j - max (top sl) (top sc)))
      ((∑ j, Ideal.exp (sl j - max (top sl) (top sc))) + ∑ j, Ideal.exp (sc j - max (top sl) (top sc))) * vc j

theorem sum_mul_coe {ι : Type} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

theorem sum_finite {ι : Type} (s : Finset ι) (f : ι → EReal) (h : ∀ j ∈ s, Finite (f j)) : Finite (∑ j ∈ s, f j) := by
  classical
  induction s using Finset.induction_on with
  | empty => exact ⟨by simp, by simp⟩
  | insert a s ha ih =>
    rw [Finset.sum_insert ha]
    obtain ⟨x, hx⟩ := exists_real (h a (Finset.mem_insert_self a s))
    obtain ⟨y, hy⟩ := exists_real (ih fun j hj => h j (Finset.mem_insert_of_mem hj))
    rw [hx, hy, ← EReal.coe_add]
    exact ⟨EReal.coe_ne_top _, EReal.coe_ne_bot _⟩

theorem mul_finite {x y : EReal} (hx : Finite x) (hy : Finite y) : Finite (x * y) := by
  obtain ⟨a, rfl⟩ := exists_real hx
  obtain ⟨b, rfl⟩ := exists_real hy
  rw [← EReal.coe_mul]
  exact ⟨EReal.coe_ne_top _, EReal.coe_ne_bot _⟩

theorem add_finite {x y : EReal} (hx : Finite x) (hy : Finite y) : Finite (x + y) := by
  obtain ⟨a, rfl⟩ := exists_real hx
  obtain ⟨b, rfl⟩ := exists_real hy
  rw [← EReal.coe_add]
  exact ⟨EReal.coe_ne_top _, EReal.coe_ne_bot _⟩

/-- Not plus infinity, and every weight under a finite maximum is a nonnegative real. -/
theorem exp_real {x M : EReal} (hx : x ≠ ⊤) (hM : Finite M) : ∃ r : ℝ, 0 ≤ r ∧ Ideal.exp (x - M) = r := by
  obtain ⟨b, rfl⟩ := exists_real hM
  induction x using EReal.rec with
  | bot => exact ⟨0, le_refl _, by rw [EReal.bot_sub]; rfl⟩
  | coe a => exact ⟨Real.exp (a - b), (Real.exp_pos _).le, by rw [← EReal.coe_sub]; rfl⟩
  | top => exact absurd rfl hx

theorem exp_pos_real {x M : EReal} (hx : Finite x) (hM : Finite M) : ∃ r : ℝ, 0 < r ∧ Ideal.exp (x - M) = r := by
  obtain ⟨b, rfl⟩ := exists_real hM
  obtain ⟨a, rfl⟩ := exists_real hx
  exact ⟨Real.exp (a - b), Real.exp_pos _, by rw [← EReal.coe_sub]; rfl⟩

theorem sum_nonneg_real {ι : Type} (s : Finset ι) (f : ι → EReal) (h : ∀ j ∈ s, ∃ r : ℝ, 0 ≤ r ∧ f j = r) :
    ∃ r : ℝ, 0 ≤ r ∧ ∑ j ∈ s, f j = r := by
  classical
  induction s using Finset.induction_on with
  | empty => exact ⟨0, le_refl _, by simp⟩
  | insert a s ha ih =>
    obtain ⟨x, px, hx⟩ := h a (Finset.mem_insert_self a s)
    obtain ⟨y, py, hy⟩ := ih fun j hj => h j (Finset.mem_insert_of_mem hj)
    exact ⟨x + y, add_nonneg px py, by rw [Finset.sum_insert ha, hx, hy, EReal.coe_add]⟩

theorem top_ne_top {ι : Type} [Fintype ι] (f : ι → EReal) (h : ∀ j, f j ≠ ⊤) : top f ≠ ⊤ := by
  rw [top_eq]
  exact ((Finset.sup_lt_iff bot_lt_top).2 fun j _ => lt_top_iff_ne_top.2 (h j)).ne

theorem le_top {ι : Type} [Fintype ι] (f : ι → EReal) (j : ι) : f j ≤ top f := by
  rw [top_eq]
  exact Finset.le_sup (Finset.mem_univ j)

theorem max_finite {ι κ : Type} [Fintype ι] [Fintype κ] (sl : ι → EReal) (sc : κ → EReal) (j : κ)
    (hl : ∀ j, sl j ≠ ⊤) (hc : ∀ j, Finite (sc j)) : Finite (max (top sl) (top sc)) := by
  refine ⟨?_, ?_⟩
  · exact (max_lt (lt_top_iff_ne_top.2 (top_ne_top sl hl)) (lt_top_iff_ne_top.2 (top_ne_top sc fun j => (hc j).1))).ne
  · exact ((bot_lt_iff_ne_bot.2 (hc j).2).trans_le ((le_top sc j).trans (le_max_right _ _))).ne'

/-- Dividing each weight before the sum is dividing the sum. -/
theorem attend_eq_attendW {ι κ : Type} [Fintype ι] [Fintype κ] (sl vl : ι → EReal) (sc vc : κ → EReal) (j : κ)
    (hl : ∀ j, sl j ≠ ⊤) (hc : ∀ j, Finite (sc j)) : attend sl vl sc vc = attendW sl vl sc vc := by
  have hM := max_finite sl sc j hl hc
  unfold attend attendW
  generalize max (top sl) (top sc) = M at hM ⊢
  obtain ⟨a, pa, ha⟩ := sum_nonneg_real Finset.univ (fun j => Ideal.exp (sl j - M)) fun j _ => exp_real (hl j) hM
  obtain ⟨b, pb, hb⟩ : ∃ r : ℝ, 0 < r ∧ ∑ j, Ideal.exp (sc j - M) = r := by
    classical
    obtain ⟨x, px, hx⟩ := exp_pos_real (hc j) hM
    obtain ⟨y, py, hy⟩ := sum_nonneg_real (Finset.univ.erase j) (fun j => Ideal.exp (sc j - M))
      fun j _ => exp_real (hc j).1 hM
    exact ⟨x + y, add_pos_of_pos_of_nonneg px py, by
      rw [← Finset.add_sum_erase _ _ (Finset.mem_univ j), hx, hy, EReal.coe_add]⟩
  have p : a + b ≠ 0 := (add_pos_of_nonneg_of_pos pa pb).ne'
  have q : 0 ≤ 1 / (a + b) := (one_div_pos.2 (add_pos_of_nonneg_of_pos pa pb)).le
  rw [ha, hb, ← EReal.coe_add]
  simp only [Ideal.div_coe p]
  rw [EReal.right_distrib_of_nonneg_of_ne_top (EReal.coe_nonneg.2 q) (EReal.coe_ne_top _), sum_mul_coe _ _ q,
    sum_mul_coe _ _ q]
  exact congrArg₂ (· + ·) (Finset.sum_congr rfl fun j _ => mul_right_comm _ _ _)
    (Finset.sum_congr rfl fun j _ => mul_right_comm _ _ _)

/-- A score of minus infinity has the weight zero. -/
theorem exp_bot_sub {M : EReal} : Ideal.exp (⊥ - M) = 0 := by rw [EReal.bot_sub]; rfl

/-- Scores of minus infinity outside a window carry no weight: the keys may run over the window alone. -/
theorem attend_window {ι ω κ : Type} [Fintype ι] [Fintype ω] [Fintype κ] (e : ω → ι) (he : Function.Injective e)
    (sl vl : ι → EReal) (sw vw : ω → EReal) (sc vc : κ → EReal) (hs : ∀ w, sl (e w) = sw w) (hv : ∀ w, vl (e w) = vw w)
    (hbot : ∀ i, (∀ w, e w ≠ i) → sl i = ⊥) : attend sl vl sc vc = attend sw vw sc vc := by
  classical
  have hm : top sl = top sw := by
    refine le_antisymm ?_ ?_
    · rw [top_eq]
      refine Finset.sup_le fun i _ => ?_
      by_cases h : ∃ w, e w = i
      · obtain ⟨w, rfl⟩ := h
        rw [hs]
        exact le_top sw w
      · rw [hbot i fun w hw => h ⟨w, hw⟩]
        exact bot_le
    · rw [top_eq sw]
      exact Finset.sup_le fun w _ => (hs w) ▸ le_top sl (e w)
  have hsum : ∀ (f : ι → EReal) (g : ω → EReal), (∀ w, f (e w) = g w) → (∀ i, (∀ w, e w ≠ i) → f i = 0) →
      ∑ i, f i = ∑ w, g w := by
    intro f g h0 h1
    refine (Finset.sum_of_injOn e he.injOn (fun _ _ => Finset.mem_univ _) (fun i _ hi => ?_) fun w _ => (h0 w).symm).symm
    exact h1 i fun w hw => hi ⟨w, by simp, hw⟩
  unfold attend
  rw [hm]
  rw [hsum (fun j => Ideal.exp (sl j - max (top sw) (top sc)) * vl j)
      (fun w => Ideal.exp (sw w - max (top sw) (top sc)) * vw w) (fun w => by rw [hs, hv])
      (fun i hi => by rw [hbot i hi, exp_bot_sub, zero_mul]),
    hsum (fun j => Ideal.exp (sl j - max (top sw) (top sc)))
      (fun w => Ideal.exp (sw w - max (top sw) (top sc))) (fun w => by rw [hs])
      (fun i hi => by rw [hbot i hi, exp_bot_sub])]

end Cert.Att

end
-- ==== Proof.AttBody.lean ====
/-
  One block of queries, read at an index: its scores, its maximum, its weighted sum.
-/
module

public import proofs.«01_k».proof.Proof.AttSoftmax
public import proofs.«01_k».proof.Proof.Gen.Kernel5Ideal.Skeleton
public import Idealize.ShloMosaic.Lib.Pointwise

@[expose] public section

set_option maxRecDepth 16384

noncomputable section

namespace Cert.Kernel5Ideal.Att

open Idealize.ShloMosaic Idealize.ShloMosaic.TcCoe
open Cert.Kernel5Ideal Cert.Kernel5Ideal.Gen
open Cert.Att

variable (q kc vc : S1x256x128.Idx → EReal) (kl vl : S1x704x128.Idx → EReal) (bt : S1x2x256x704.Idx → EReal)

/-- A query row against a key row over the lanes of head `p` of the two. -/
def scoreC (p : Fin 2) (r : Fin 256) (j : Fin 256) : EReal :=
  ∑ d : Fin 64, q (ix3 0 r ⟨p * 64 + d, by omega⟩) * kc (ix3 0 j ⟨p * 64 + d, by omega⟩)

/-- The same against a row of the window's keys, plus the table's entry. -/
def scoreL (p : Fin 2) (r : Fin 256) (j : Fin 704) : EReal :=
  (∑ d : Fin 64, q (ix3 0 r ⟨p * 64 + d, by omega⟩) * kl (ix3 0 j ⟨p * 64 + d, by omega⟩)) + bt (ix4 0 p r j)

/-- The lanes of the first head. -/
theorem first_at (d : Fin 128) (a b : EReal) :
    Scalar.select (IntOp.cmpi .slt (BitVec.ofNat 32 d) 64#32) a b = if (d : ℕ) < 64 then a else b := by
  have h : ∀ d : Fin 128, IntOp.cmpi .slt (BitVec.ofNat 32 d) 64#32 = if (d : ℕ) < 64 then 1#1 else 0#1 := by
    decide +kernel
  rw [h d]
  by_cases c : (d : ℕ) < 64
  · rw [if_pos c, if_pos c]; rfl
  · rw [if_neg c, if_neg c]; rfl

theorem halves_first (f : Fin 128 → EReal) :
    (∑ d : Fin 128, if (d : ℕ) < 64 then f d else 0) = ∑ d : Fin 64, f ⟨((0 : Fin 2) : ℕ) * 64 + d, by simp; omega⟩ := by
  rw [Fin.sum_univ_two_halves 64 64 rfl]
  refine (congrArg₂ (· + ·) (Finset.sum_congr rfl fun d _ => ?_) (Finset.sum_eq_zero fun d _ => ?_)).trans (add_zero _)
  · rw [if_pos (by simp)]
    exact congrArg f (Fin.ext (by simp))
  · rw [if_neg (by simp)]

theorem halves_second (f : Fin 128 → EReal) :
    (∑ d : Fin 128, if (d : ℕ) < 64 then 0 else f d) = ∑ d : Fin 64, f ⟨((1 : Fin 2) : ℕ) * 64 + d, by simp; omega⟩ := by
  rw [Fin.sum_univ_two_halves 64 64 rfl]
  refine (congrArg₂ (· + ·) (Finset.sum_eq_zero fun d _ => ?_) (Finset.sum_congr rfl fun d _ => ?_)).trans (zero_add _)
  · rw [if_pos (by simp)]
  · rw [if_neg (by simp)]
    exact congrArg f (Fin.ext (by simp))

theorem score_loc0 (r : Fin 256) (j : Fin 704) :
    (k0_pay7 (F := Ideal) k0_pay2 q kl bt : FVec Ideal S512x704 .f32) (ix2 (⟨r, by omega⟩ : Fin 512) j)
      = scoreL q kl bt 0 r j := by
  pointwise [k0_pay7, k0_pay6, k0_pay2]
  simp only [first_at]
  rw [halves_first fun d => q (ix3 0 r d) * kl (ix3 0 j d)]
  exact congrArg₂ (· + ·) rfl (congrArg bt (by idx_ext))

theorem score_loc1 (r : Fin 256) (j : Fin 704) :
    (k0_pay7 (F := Ideal) k0_pay2 q kl bt : FVec Ideal S512x704 .f32) (ix2 (⟨256 + r, by omega⟩ : Fin 512) j)
      = scoreL q kl bt 1 r j := by
  pointwise [k0_pay7, k0_pay6, k0_pay2]
  simp only [first_at]
  rw [halves_second fun d => q (ix3 0 r d) * kl (ix3 0 j d)]
  exact congrArg₂ (· + ·) rfl (congrArg bt (by idx_ext))

theorem score_ctx0 (r : Fin 256) (j : Fin 256) :
    (k0_pay8 (F := Ideal) k0_pay2 (k0_pay3 kc) q : FVec Ideal S512x256 .f32) (ix2 (⟨r, by omega⟩ : Fin 512) j)
      = scoreC q kc 0 r j := by
  pointwise [k0_pay8, k0_pay6, k0_pay2, k0_pay3]
  simp only [first_at]
  exact halves_first fun d => q (ix3 0 r d) * kc (ix3 0 j d)

theorem score_ctx1 (r : Fin 256) (j : Fin 256) :
    (k0_pay8 (F := Ideal) k0_pay2 (k0_pay3 kc) q : FVec Ideal S512x256 .f32) (ix2 (⟨256 + r, by omega⟩ : Fin 512) j)
      = scoreC q kc 1 r j := by
  pointwise [k0_pay8, k0_pay6, k0_pay2, k0_pay3]
  simp only [first_at]
  exact halves_second fun d => q (ix3 0 r d) * kc (ix3 0 j d)

theorem mask_at (l : Fin 128) (a b : EReal) :
    Scalar.select ((k0_pay2 : IVec S1x128 1) (ix2 0 l)) a b = if (l : ℕ) < 64 then a else b := by
  pointwise [k0_pay2]
  exact first_at l a b

/-- What one block of the latent rows leaves. -/
def blk : FVec Ideal S1x256x128 .bf16 :=
  k0_pay15 k0_pay2 (k0_pay4 vc) (k0_pay12 k0_pay2 (k0_pay3 kc) q kl bt) (k0_pay13 k0_pay2 (k0_pay3 kc) q kl vl bt)
    (k0_pay14 k0_pay2 (k0_pay3 kc) q kl bt) (constant S512x128 .f32 0x00000000#32)

theorem blk_at (r : Fin 256) (l : Fin 128) :
    blk q kc vc kl vl bt (ix3 0 r l)
      = if (l : ℕ) < 64 then attend (scoreL q kl bt 0 r) (fun j => vl (ix3 0 j l)) (scoreC q kc 0 r) (fun j => vc (ix3 0 j l))
        else attend (scoreL q kl bt 1 r) (fun j => vl (ix3 0 j l)) (scoreC q kc 1 r) (fun j => vc (ix3 0 j l)) := by
  pointwise [blk, k0_pay15, k0_pay12, k0_pay13, k0_pay14, k0_pay10, k0_pay11, k0_pay9, k0_pay4]
  simp only [score_loc0, score_loc1, score_ctx0, score_ctx1, Mod.neg_inf_word]
  rw [mask_at]
  rfl

/-- The keys of the context alone. -/
def attendC {κ : Type} [Fintype κ] (sc vc : κ → EReal) : EReal :=
  Ideal.div (∑ j, Ideal.exp (sc j - top sc) * vc j) (∑ j, Ideal.exp (sc j - top sc))

/-- The context's rows, their scores by name. -/
def ctxOut : FVec Ideal S1x256x128 .bf16 :=
  let s : FVec Ideal S512x256 .f32 := k0_pay8 k0_pay2 (k0_pay3 kc) q
  let m : FVec Ideal S512x256 .f32 := broadcastTo S512x256
    (shapeCast S512x1 (multiReduction .maximumf [1] S512 s 0xFF800000#32 reduces_S512x256_S512 (.inl rfl) rfl) shapeCasts_S512_S512x1)
    broadcasts_S512x1_S512x256
  let e : FVec Ideal S512x256 .f32 := exp (subf s m)
  let den : FVec Ideal S512x128 .f32 := broadcastTo S512x128
    (shapeCast S512x1 (multiReduction .add [1] S512 e 0x00000000#32 reduces_S512x256_S512 (.inl rfl) rfl) shapeCasts_S512_S512x1)
    broadcasts_S512x1_S512x128
  let o : FVec Ideal S512x128 .f32 := divf (matmul dot_S512x256_S256x128_S512x128_1_0_0_1_n_n none
    (truncf .bf16 e bitsLt_bf16_f32) (k0_pay4 vc) (constant S512x128 .f32 0x00000000#32)) den
  shapeCast S1x256x128 (truncf .bf16 (select (broadcastTo S256x128 (shapeCast S1x128 k0_pay2 shapeCasts_S1x128_S1x128) broadcasts_S1x128_S256x128)
    (extractStridedSlice S256x128 ![0, 0] o slices_S512x128_o0_0_S256x128)
    (extractStridedSlice S256x128 ![256, 0] o slices_S512x128_o256_0_S256x128)) bitsLt_bf16_f32) shapeCasts_S256x128_S1x256x128

/-- What the context's rows leave. -/
theorem ctx_at (r : Fin 256) (l : Fin 128) :
    (k0_pay5 (F := Ideal) kc vc q : FVec Ideal S1x256x128 .bf16) (ix3 0 r l)
      = if (l : ℕ) < 64 then attendC (scoreC q kc 0 r) (fun j => vc (ix3 0 j l))
        else attendC (scoreC q kc 1 r) (fun j => vc (ix3 0 j l)) := by
  have h : (k0_pay5 (F := Ideal) kc vc q : FVec Ideal S1x256x128 .bf16) = ctxOut q kc vc := rfl
  rw [h]
  pointwise [ctxOut, k0_pay4]
  simp only [score_ctx0, score_ctx1, Mod.neg_inf_word]
  rw [mask_at]
  rfl

end Cert.Kernel5Ideal.Att

end
-- ==== Proof.AttPieces.lean ====
/-
  The nine pieces the body leaves: the context's rows and eight blocks of latent rows, each the same function of its
  own rows.
-/
module

public import proofs.«01_k».proof.Proof.AttBody
public import proofs.«01_k».proof.Proof.Gen.Kernel5Ideal.Value
public import Idealize.ShloMosaic.Lib.Pipeline.ValueKit

@[expose] public section

set_option maxRecDepth 16384

noncomputable section

namespace Cert.Kernel5Ideal.Att

open Idealize.ShloMosaic Idealize.ShloMosaic.TcCoe
open Cert.Kernel5Ideal Cert.Kernel5Ideal.Gen
open Cert.Att

section
variable (q kc vc : Vec Ideal S1x256x128 .bf16) (kl vl : Vec Ideal S1x704x128 .bf16) (bt : Vec Ideal S1x2x256x704 .f32)

theorem piece2 : (k0_pay21 k0_pay2 (k0_pay4 vc) (k0_pay17 vl) (k0_pay18 k0_pay2 q kl bt) (k0_pay19 k0_pay2 (k0_pay3 kc) q)
    (k0_pay20 k0_pay2 (k0_pay3 kc) q kl bt) : FVec Ideal S1x256x128 .bf16) = blk q kc vc kl vl bt := rfl

theorem piece3 : (k0_pay25 k0_pay2 (k0_pay3 kc) (k0_pay4 vc) (k0_pay22 k0_pay2 q) (k0_pay23 kl) (k0_pay24 vl)
    (constant S512x704 .f32 0x00000000#32) bt : FVec Ideal S1x256x128 .bf16) = blk q kc vc kl vl bt := rfl

theorem piece4 : (k0_pay31 k0_pay2 (k0_pay29 k0_pay2 (k0_pay3 kc) (k0_pay4 vc) (k0_pay26 q) (k0_pay27 (F := Ideal)) kl vl bt)
    (k0_pay30 k0_pay2 (k0_pay3 kc) (k0_pay4 vc) (k0_pay26 q) (k0_pay27 (F := Ideal)) kl vl bt) : FVec Ideal S1x256x128 .bf16)
    = blk q kc vc kl vl bt := rfl

theorem piece5 : (k0_pay39 k0_pay2 (k0_pay4 vc) (k0_pay33 vl) (k0_pay37 k0_pay2 (k0_pay3 kc) q kl bt)
    (k0_pay38 k0_pay2 (k0_pay3 kc) q kl bt) : FVec Ideal S1x256x128 .bf16) = blk q kc vc kl vl bt := rfl

theorem piece6 : (k0_pay43 k0_pay2 (k0_pay3 kc) (k0_pay4 vc) (k0_pay40 k0_pay2 q) (k0_pay41 vl) (k0_pay42 k0_pay2 q kl) bt
    : FVec Ideal S1x256x128 .bf16) = blk q kc vc kl vl bt := rfl

theorem piece7 : (k0_pay49 (k0_pay48 k0_pay2 (k0_pay3 kc) (k0_pay4 vc) (k0_pay46 k0_pay2 q) (k0_pay47 k0_pay2 q) kl vl bt)
    : FVec Ideal S1x256x128 .bf16) = blk q kc vc kl vl bt := rfl

theorem piece8 : (k0_pay1 k0_pay2 (k0_pay4 vc) (k0_pay51 vl) (k0_pay55 k0_pay2 (k0_pay3 kc) q kl bt)
    (k0_pay56 k0_pay2 (k0_pay3 kc) q kl bt) (k0_pay57 k0_pay2 (k0_pay3 kc) q kl bt) (k0_pay58 k0_pay2 (k0_pay3 kc) q kl bt)
    : FVec Ideal S1x256x128 .bf16) = blk q kc vc kl vl bt := rfl
end

/-! ## The block left, by rows -/

variable (x0 x1 x2 : S1x2304x128.Idx → EReal) (x3 : S3x2x256x704.Idx → EReal)

/-- A row's score against a key row, over one head's lanes. -/
def dotRow (p : Fin 2) (row key : Fin 2304) : EReal :=
  ∑ d : Fin 64, x0 (ix3 0 row ⟨p * 64 + d, by omega⟩) * x1 (ix3 0 key ⟨p * 64 + d, by omega⟩)

/-- A latent row's attention over a run of 704 keys from `ks` and over the context. -/
def latent (cls : Fin 3) (ks : Fin 1601) (p : Fin 2) (row : Fin 2304) (r : Fin 256) (l : Fin 128) : EReal :=
  attend (fun j : Fin 704 => dotRow x0 x1 p row ⟨ks + j, by omega⟩ + x3 (ix4 cls p r j))
    (fun j : Fin 704 => x2 (ix3 0 ⟨ks + j, by omega⟩ l))
    (fun j : Fin 256 => dotRow x0 x1 p row ⟨j, by omega⟩) (fun j : Fin 256 => x2 (ix3 0 ⟨j, by omega⟩ l))

/-- A context row's attention. -/
def context (p : Fin 2) (row : Fin 2304) (l : Fin 128) : EReal :=
  attendC (fun j : Fin 256 => dotRow x0 x1 p row ⟨j, by omega⟩) (fun j : Fin 256 => x2 (ix3 0 ⟨j, by omega⟩ l))

theorem blk_latent (q kc vc : S1x256x128.Idx → EReal) (kl vl : S1x704x128.Idx → EReal) (bt : S1x2x256x704.Idx → EReal)
    (cls : Fin 3) (ks : Fin 1601) (row : Fin 2304) (r : Fin 256) (l : Fin 128)
    (hq : ∀ a : Fin 128, q (ix3 0 r a) = x0 (ix3 0 row a))
    (hk : ∀ (j : Fin 256) (a : Fin 128), kc (ix3 0 j a) = x1 (ix3 0 ⟨j, by omega⟩ a))
    (hv : ∀ j : Fin 256, vc (ix3 0 j l) = x2 (ix3 0 ⟨j, by omega⟩ l))
    (hkl : ∀ (j : Fin 704) (a : Fin 128), kl (ix3 0 j a) = x1 (ix3 0 ⟨ks + j, by omega⟩ a))
    (hvl : ∀ j : Fin 704, vl (ix3 0 j l) = x2 (ix3 0 ⟨ks + j, by omega⟩ l))
    (hb : ∀ (p : Fin 2) (j : Fin 704), bt (ix4 0 p r j) = x3 (ix4 cls p r j)) :
    blk q kc vc kl vl bt (ix3 0 r l) = if (l : ℕ) < 64 then latent x0 x1 x2 x3 cls ks 0 row r l else latent x0 x1 x2 x3 cls ks 1 row r l := by
  rw [blk_at]
  unfold latent
  have e1 : ∀ p : Fin 2, scoreL q kl bt p r = fun j : Fin 704 => dotRow x0 x1 p row ⟨ks + j, by omega⟩ + x3 (ix4 cls p r j) := fun p =>
    funext fun j => congrArg₂ (· + ·) (Finset.sum_congr rfl fun d _ => by rw [hq, hkl]) (hb p j)
  have e2 : ∀ p : Fin 2, scoreC q kc p r = fun j : Fin 256 => dotRow x0 x1 p row ⟨j, by omega⟩ := fun p =>
    funext fun j => Finset.sum_congr rfl fun d _ => by rw [hq, hk]
  rw [e1, e2, e1, e2, funext hvl, funext hv]

theorem ctx_context (q kc vc : S1x256x128.Idx → EReal) (row : Fin 2304) (r : Fin 256) (l : Fin 128)
    (hq : ∀ a : Fin 128, q (ix3 0 r a) = x0 (ix3 0 row a))
    (hk : ∀ (j : Fin 256) (a : Fin 128), kc (ix3 0 j a) = x1 (ix3 0 ⟨j, by omega⟩ a))
    (hv : ∀ j : Fin 256, vc (ix3 0 j l) = x2 (ix3 0 ⟨j, by omega⟩ l)) :
    (k0_pay5 (F := Ideal) kc vc q : FVec Ideal S1x256x128 .bf16) (ix3 0 r l)
      = if (l : ℕ) < 64 then context x0 x1 x2 0 row l else context x0 x1 x2 1 row l := by
  rw [ctx_at]
  unfold context
  have e2 : ∀ p : Fin 2, scoreC q kc p r = fun j : Fin 256 => dotRow x0 x1 p row ⟨j, by omega⟩ := fun p =>
    funext fun j => Finset.sum_congr rfl fun d _ => by rw [hq, hk]
  rw [e2, e2, funext hv]

/-- Which table class, and which first key, a block of latent rows takes. -/
def clsOf (b : Fin 8) : Fin 3 := if b = 0 then 0 else if b = 7 then 2 else 1
def keyOf (b : Fin 8) : Fin 1601 := ![256, 256, 512, 768, 1024, 1280, 1536, 1600] b

theorem out_latent (b : Fin 8) (r : Fin 256) (l : Fin 128) :
    out0_4 (F := Ideal) x0 x1 x2 x3 (ix3 0 (⟨256 * (b + 1) + r, by omega⟩ : Fin 2304) l)
      = if (l : ℕ) < 64 then latent x0 x1 x2 x3 (clsOf b) (keyOf b) 0 ⟨256 * (b + 1) + r, by omega⟩ r l
        else latent x0 x1 x2 x3 (clsOf b) (keyOf b) 1 ⟨256 * (b + 1) + r, by omega⟩ r l := by
  unfold out0_4
  canon_tiles x h
  case piece0 =>
    obtain rfl : b = 7 := Fin.ext (by simp at h1 ⊢; omega)
    obtain rfl : x = ix3 0 r l := by idx_ext
    refine (congrFun (piece8 _ _ _ _ _ _) _).trans (blk_latent x0 x1 x2 x3 _ _ _ _ _ _ 2 1600 _ r l ?_ ?_ ?_ ?_ ?_ ?_)
    all_goals intros; pointwise
  case piece1 =>
    obtain rfl : b = 6 := Fin.ext (by simp at h1 ⊢; omega)
    obtain rfl : x = ix3 0 r l := by idx_ext
    refine (congrFun (piece7 _ _ _ _ _ _) _).trans (blk_latent x0 x1 x2 x3 _ _ _ _ _ _ 1 1536 _ r l ?_ ?_ ?_ ?_ ?_ ?_)
    all_goals intros; pointwise
  case piece2 =>
    obtain rfl : b = 5 := Fin.ext (by simp at h1 ⊢; omega)
    obtain rfl : x = ix3 0 r l := by idx_ext
    refine (congrFun (piece6 _ _ _ _ _ _) _).trans (blk_latent x0 x1 x2 x3 _ _ _ _ _ _ 1 1280 _ r l ?_ ?_ ?_ ?_ ?_ ?_)
    all_goals intros; pointwise
  case piece3 =>
    obtain rfl : b = 4 := Fin.ext (by simp at h1 ⊢; omega)
    obtain rfl : x = ix3 0 r l := by idx_ext
    refine (congrFun (piece5 _ _ _ _ _ _) _).trans (blk_latent x0 x1 x2 x3 _ _ _ _ _ _ 1 1024 _ r l ?_ ?_ ?_ ?_ ?_ ?_)
    all_goals intros; pointwise
  case piece4 =>
    obtain rfl : b = 3 := Fin.ext (by simp at h1 ⊢; omega)
    obtain rfl : x = ix3 0 r l := by idx_ext
    refine (congrFun (piece4 _ _ _ _ _ _) _).trans (blk_latent x0 x1 x2 x3 _ _ _ _ _ _ 1 768 _ r l ?_ ?_ ?_ ?_ ?_ ?_)
    all_goals intros; pointwise
  case piece5 =>
    obtain rfl : b = 2 := Fin.ext (by simp at h1 ⊢; omega)
    obtain rfl : x = ix3 0 r l := by idx_ext
    refine (congrFun (piece3 _ _ _ _ _ _) _).trans (blk_latent x0 x1 x2 x3 _ _ _ _ _ _ 1 512 _ r l ?_ ?_ ?_ ?_ ?_ ?_)
    all_goals intros; pointwise
  case piece6 =>
    obtain rfl : b = 1 := Fin.ext (by simp at h1 ⊢; omega)
    obtain rfl : x = ix3 0 r l := by idx_ext
    refine (congrFun (piece2 _ _ _ _ _ _) _).trans (blk_latent x0 x1 x2 x3 _ _ _ _ _ _ 1 256 _ r l ?_ ?_ ?_ ?_ ?_ ?_)
    all_goals intros; pointwise
  case piece7 =>
    obtain rfl : b = 0 := Fin.ext (by simp at h1 ⊢; omega)
    obtain rfl : x = ix3 0 r l := by idx_ext
    refine (blk_latent x0 x1 x2 x3 _ _ _ _ _ _ 0 256 _ r l ?_ ?_ ?_ ?_ ?_ ?_)
    all_goals intros; pointwise
  case piece8 =>
    exfalso
    simp at h1
    omega

theorem out_context (r : Fin 256) (l : Fin 128) :
    out0_4 (F := Ideal) x0 x1 x2 x3 (ix3 0 (⟨r, by omega⟩ : Fin 2304) l)
      = if (l : ℕ) < 64 then context x0 x1 x2 0 ⟨r, by omega⟩ l else context x0 x1 x2 1 ⟨r, by omega⟩ l := by
  unfold out0_4
  canon_tiles x h
  case piece8 =>
    obtain rfl : x = ix3 0 r l := by idx_ext
    refine ctx_context x0 x1 x2 _ _ _ _ r l ?_ ?_ ?_
    all_goals intros; pointwise
  all_goals
    exfalso
    simp at h1
    omega

end Cert.Kernel5Ideal.Att

end
-- ==== Proof.AttTable.lean ====
/-
  The table of position offsets the host makes for the attention: three classes of row blocks, each head's 256 queries by
  704 keys, minus infinity outside a query's window.
-/
module

public import proofs.«01_k».proof.Proof.AttPieces

@[expose] public section
set_option maxRecDepth 16384
noncomputable section
namespace Cert.Kernel5Ideal.Att
open Idealize.ShloMosaic Idealize.ShloMosaic.TcCoe
open Cert.Kernel5Ideal Cert.Kernel5Ideal.Gen Cert.Kernel5Ideal.Value

/-! ## The table's parts, by name -/

/-- The first column of a window, at each of the 64 columns. -/
def colStart : Vec Ideal S64 .i32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- The column part of a pair's offset, held inside the table. -/
def colOff : Vec Ideal S64x64 .i32 :=
  minsi (broadcastInDim S64x64 ![] bcast_S_S64x64 (constantI S_ 32 30#32))
    (maxsi (broadcastInDim S64x64 ![] bcast_S_S64x64 (constantI S_ 32 0#32))
      (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- Whether a column lies in another's window. -/
def colOk : Vec Ideal S64x64 .i1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- Whether one of the eleven key rows lies in the window of one of the block's four rows. -/
def rowOk (st : Vec Ideal S4 .i32) : Vec Ideal S4x11 .i1 :=
  andi (cmpi .sge (broadcastInDim S4x11 ![0, 1] bcast_S1x11_S4x11_0_1 (broadcastInDim S1x11 ![1] bcast_S11_S1x11_1 (iotaInDim S11 32 0)))
      (broadcastInDim S4x11 ![0, 1] bcast_S4x1_S4x11_0_1 (broadcastInDim S4x1 ![0] bcast_S4_S4x1_0 st)))
    (cmpi .slt (broadcastInDim S4x11 ![0, 1] bcast_S1x11_S4x11_0_1 (broadcastInDim S1x11 ![1] bcast_S11_S1x11_1 (iotaInDim S11 32 0)))
      (broadcastInDim S4x11 ![0, 1] bcast_S4x1_S4x11_0_1
        (addi (broadcastInDim S4x1 ![0] bcast_S4_S4x1_0 st) (broadcastInDim S4x1 ![] bcast_S_S4x1 (constantI S_ 32 8#32)))))

/-- The row part of a pair's offset, held inside the table. -/
def rowOff (o : BitVec 32) : Vec Ideal S4x11 .i32 :=
  minsi (broadcastInDim S4x11 ![] bcast_S_S4x11 (constantI S_ 32 14#32))
    (maxsi (broadcastInDim S4x11 ![] bcast_S_S4x11 (constantI S_ 32 0#32))
      (addi (subi (broadcastInDim S4x11 ![0, 1] bcast_S1x11_S4x11_0_1 (broadcastInDim S1x11 ![1] bcast_S11_S1x11_1 (iotaInDim S11 32 0)))
          (broadcastInDim S4x11 ![0, 1] bcast_S4x1_S4x11_0_1
            (addi (broadcastInDim S4x1 ![] bcast_S_S4x1 (constantI S_ 32 o)) (broadcastInDim S4x1 ![0] bcast_S4_S4x1_0 (iotaInDim S4 32 0)))))
        (broadcastInDim S4x11 ![] bcast_S_S4x11 (constantI S_ 32 7#32))))

/-- The row offsets as the gather takes them. -/
def rowIdx (o : BitVec 32) : Vec Ideal S44x1 .i32 :=
  let x : Vec Ideal S44 .i32 := shapeCast S44 (rowOff o) shapeCasts_S4x11_S44
  broadcastInDim S44x1 ![0] bcast_S44_S44x1_0
    (select (cmpi .slt x (broadcastInDim S44 ![] bcast_S_S44 (constantI S_ 32 0#32)))
      (addi x (broadcastInDim S44 ![] bcast_S_S44 (constantI S_ 32 15#32))) x)

/-- The column offsets as the gather takes them. -/
def colIdx (off : Vec Ideal S64x64 .i32) : Vec Ideal S4096x1 .i32 :=
  let x : Vec Ideal S4096 .i32 := shapeCast S4096 off shapeCasts_S64x64_S4096
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 31#32))) x)

/-- One class of the table. -/
def clsTab (st : Vec Ideal S4 .i32) (o : BitVec 32) (off : Vec Ideal S64x64 .i32) (ok : Vec Ideal S64x64 .i1)
    (rpb : Vec Ideal S8x15x31 .f32) : Vec Ideal S8x4x64x11x64 .f32 :=
  let g : Vec Ideal S8x44x4096 .f32 := Host.gather gather_S8x44x31_S4096x1_S8x44x4096_01_2_n_n_2_1_8441
    (Host.gather gather_S8x15x31_S44x1_S8x44x31_02_1_n_n_1_1_8131 rpb (rowIdx o)) (colIdx off)
  let k : Vec Ideal S4x64x11x64 .i1 :=
    andi (broadcastInDim S4x64x11x64 ![0, 1, 2, 3] bcast_S4x1x11x1_S4x64x11x64_0_1_2_3 (broadcastInDim S4x1x11x1 ![0, 2] bcast_S4x11_S4x1x11x1_0_2 (rowOk st)))
      (broadcastInDim S4x64x11x64 ![0, 1, 2, 3] bcast_S1x64x1x64_S4x64x11x64_0_1_2_3 (broadcastInDim S1x64x1x64 ![1, 3] bcast_S64x64_S1x64x1x64_1_3 ok))
  select (broadcastInDim S8x4x64x11x64 ![0, 1, 2, 3, 4] bcast_S1x4x64x11x64_S8x4x64x11x64_0_1_2_3_4
      (broadcastInDim S1x4x64x11x64 ![1, 2, 3, 4] bcast_S4x64x11x64_S1x4x64x11x64_1_2_3_4 k))
    (transpose S8x4x64x11x64 [0, 1, 3, 2, 4] (shapeCast S8x4x11x64x64 g shapeCasts_S8x44x4096_S8x4x11x64x64)
      transposes_S8x4x11x64x64_S8x4x64x11x64_0_1_3_2_4)
    (broadcastInDim S8x4x64x11x64 ![] bcast_S_S8x4x64x11x64 (constant (F := Ideal) S_ .f32 0xFF800000#32 : Vec Ideal S_ .f32))

/-- A class as one of the stacked planes. -/
def plane (a : Vec Ideal S8x256x704 .f32) : Vec Ideal S1x8x256x704 .f32 :=
  broadcastInDim S1x8x256x704 ![1, 2, 3] bcast_S8x256x704_S1x8x256x704_1_2_3 a

def flatTab (a : Vec Ideal S8x4x64x11x64 .f32) : Vec Ideal S8x256x704 .f32 := shapeCast S8x256x704 a shapeCasts_S8x4x64x11x64_S8x256x704

/-- Three planes, stacked. -/
def stacked (a b d : Vec Ideal S1x8x256x704 .f32) : Vec Ideal S3x8x256x704 .f32 :=
  concatenate S3x8x256x704 0 [⟨S1x8x256x704, a⟩, ⟨S1x8x256x704, b⟩, ⟨S1x8x256x704, d⟩]
    concatenates_S1x8x256x704_S1x8x256x704_S1x8x256x704_S3x8x256x704_d0

/-- The whole table. -/
def table (rpb : Vec Ideal S8x15x31 .f32) : Vec Ideal S3x8x256x704 .f32 :=
  stacked (plane (flatTab (clsTab (constantI S4 32 0#32) 0#32 colOff colOk rpb)))
    (plane (flatTab (clsTab (fun i => lit0 (S4.rowMajor i)) 4#32 colOff colOk rpb)))
    (plane (flatTab (clsTab (constantI S4 32 3#32) 7#32 colOff colOk rpb)))

/-! ## The host lines, run over any contents -/

variable (W : Valuation τ sig (Elt Ideal))

/-- The lines up to the offsets. -/
abbrev lines0 : Valuation τ sig (Elt Ideal) :=
  StableHlo.after hostOps0_3 (StableHlo.after hostOps0_2 (StableHlo.after hostOps0_1 (StableHlo.after hostOps0 W)))
abbrev lines1 : Valuation τ sig (Elt Ideal) :=
  StableHlo.after hostOps0_7 (StableHlo.after hostOps0_6 (StableHlo.after hostOps0_5 (StableHlo.after hostOps0_4 W)))
abbrev lines2 : Valuation τ sig (Elt Ideal) :=
  StableHlo.after hostOps0_11 (StableHlo.after hostOps0_10 (StableHlo.after hostOps0_9 (StableHlo.after hostOps0_8 W)))
abbrev lines3 : Valuation τ sig (Elt Ideal) :=
  StableHlo.after hostOps0_15 (StableHlo.after hostOps0_14 (StableHlo.after hostOps0_13 (StableHlo.after hostOps0_12 W)))

theorem lines0_v3 : lines0 W (main_v3 : DevRef τ sig) = colStart := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp
  rfl

theorem lines0_v11 : lines0 W (main_v11 : DevRef τ sig) = colOff := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp
  rfl

theorem lines0_v0 : lines0 W (main_v0 : DevRef τ sig) = (iotaInDim S64 32 0 : Vec Ideal S64 .i32) := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp

theorem lines0_c : lines0 W (main_c : DevRef τ sig) = (constantI S4 32 0#32 : Vec Ideal S4 .i32) := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp

theorem lines0_c_0 : lines0 W (main_c_0 : DevRef τ sig) = (fun i => lit0 (S4.rowMajor i) : Vec Ideal S4 .i32) := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp
  rfl

theorem lines0_c_1 : lines0 W (main_c_1 : DevRef τ sig) = (constantI S4 32 3#32 : Vec Ideal S4 .i32) := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp

theorem lines0_arg3 : lines0 W (main_arg3 : DevRef τ sig) = W (main_arg3 : DevRef τ sig) := by
  simp only [lines0, hostOps0, hostOps0_1, hostOps0_2, hostOps0_3, StableHlo.TRef.ternary, StableHlo.TRef.binary, StableHlo.TRef.unary, StableHlo.TRef.toBuf, StableHlo.TRef.ofBuf, cast_eq]
  after_results_simp

theorem lines1_v24 (h0 : W (main_v0 : DevRef τ sig) = (iotaInDim S64 32 0 : Vec Ideal S64 .i32)) (h3 : W (main_v3 : DevRef τ sig) = colStart) :
    lines1 W (main_v24 : DevRef τ sig) = colOk := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp
  simp only [h0, h3]
  rfl

theorem lines1_v71 (h0 : W (main_v0 : DevRef τ sig) = (iotaInDim S64 32 0 : Vec Ideal S64 .i32)) (h3 : W (main_v3 : DevRef τ sig) = colStart) :
    lines1 W (main_v71 : DevRef τ sig) = clsTab (W (main_c : DevRef τ sig)) 0#32 (W (main_v11 : DevRef τ sig)) colOk (W (main_arg3 : DevRef τ sig)) := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp
  simp only [h0, h3]
  rfl

theorem lines1_c_0 : lines1 W (main_c_0 : DevRef τ sig) = W (main_c_0 : DevRef τ sig) := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp

theorem lines1_c_1 : lines1 W (main_c_1 : DevRef τ sig) = W (main_c_1 : DevRef τ sig) := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp

theorem lines1_v11 : lines1 W (main_v11 : DevRef τ sig) = W (main_v11 : DevRef τ sig) := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp

theorem lines1_arg3 : lines1 W (main_arg3 : DevRef τ sig) = W (main_arg3 : DevRef τ sig) := by
  simp only [lines1, hostOps0_4, hostOps0_5, hostOps0_6, hostOps0_7, StableHlo.TRef.ternary, StableHlo.TRef.binary, StableHlo.TRef.unary, StableHlo.TRef.toBuf, StableHlo.TRef.ofBuf, cast_eq]
  after_results_simp

theorem lines2_v72 : lines2 W (main_v72 : DevRef τ sig) = flatTab (W (main_v71 : DevRef τ sig)) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp
  rfl

theorem lines2_v119 : lines2 W (main_v119 : DevRef τ sig) = clsTab (W (main_c_0 : DevRef τ sig)) 4#32 (W (main_v11 : DevRef τ sig)) (W (main_v24 : DevRef τ sig)) (W (main_arg3 : DevRef τ sig)) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp
  rfl

theorem lines2_c_1 : lines2 W (main_c_1 : DevRef τ sig) = W (main_c_1 : DevRef τ sig) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp

theorem lines2_v11 : lines2 W (main_v11 : DevRef τ sig) = W (main_v11 : DevRef τ sig) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp

theorem lines2_v24 : lines2 W (main_v24 : DevRef τ sig) = W (main_v24 : DevRef τ sig) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp

theorem lines2_arg3 : lines2 W (main_arg3 : DevRef τ sig) = W (main_arg3 : DevRef τ sig) := by
  simp only [lines2, hostOps0_8, hostOps0_9, hostOps0_10, hostOps0_11, StableHlo.TRef.ternary, StableHlo.TRef.binary, StableHlo.TRef.unary, StableHlo.TRef.toBuf, StableHlo.TRef.ofBuf, cast_eq]
  after_results_simp

theorem lines3_v120 : lines3 W (main_v120 : DevRef τ sig) = flatTab (W (main_v119 : DevRef τ sig)) := by
  simp only [lines3, hostOps0_12, hostOps0_13, hostOps0_14, hostOps0_15, StableHlo.TRef.ternary, StableHlo.TRef.binary, StableHlo.TRef.unary, StableHlo.TRef.toBuf, StableHlo.TRef.ofBuf, cast_eq]
  after_results_simp
  rfl

theorem lines3_v72 : lines3 W (main_v72 : DevRef τ sig) = W (main_v72 : DevRef τ sig) := by
  simp only [lines3, hostOps0_12, hostOps0_13, hostOps0_14, hostOps0_15, StableHlo.TRef.ternary, StableHlo.TRef.binary, StableHlo.TRef.unary, StableHlo.TRef.toBuf, StableHlo.TRef.ofBuf, cast_eq]
  after_results_simp

theorem lines3_v167 : lines3 W (main_v167 : DevRef τ sig) = clsTab (W (main_c_1 : DevRef τ sig)) 7#32 (W (main_v11 : DevRef τ sig)) (W (main_v24 : DevRef τ sig)) (W (main_arg3 : DevRef τ sig)) := by
  simp only [lines3, hostOps0_12, hostOps0_13, hostOps0_14, hostOps0_15, StableHlo.TRef.ternary, StableHlo.TRef.binary, StableHlo.TRef.unary, StableHlo.TRef.toBuf, StableHlo.TRef.ofBuf, cast_eq]
  after_results_simp
  rfl

theorem tail_table : StableHlo.after hostOps0_16 W (main_v172 : DevRef τ sig)
    = stacked (plane (W (main_v72 : DevRef τ sig))) (plane (W (main_v120 : DevRef τ sig))) (plane (flatTab (W (main_v167 : DevRef τ sig)))) := by
  simp only [hostOps0_16, StableHlo.TRef.binary, StableHlo.TRef.unary, StableHlo.TRef.toBuf, StableHlo.TRef.ofBuf, cast_eq]
  after_results_simp
  dsimp only [Matrix.cons_val]
  refine (show _ = stacked _ _ _ from rfl).trans ?_
  congr 1
  all_goals after_results_simp <;> rfl

variable (m : (ℓ : Loc nD τ sig) → Buf (Elt Ideal) ℓ)

theorem V_lines (c : Dev nD) : V m c main_v172
    = StableHlo.after hostOps0_16 (lines3 (lines2 (lines1 (lines0 fun b => m (c, b))))) (main_v172 : DevRef τ sig) := by
  unfold V lines3 lines2 lines1 lines0
  simp only [List.flatten_cons, List.flatten_nil, List.append_nil, StableHlo.after_append]

theorem V_table (c : Dev nD) : V m c main_v172 = table (m ((c : Thread nD τ).loc main_arg3)) := by
  rw [V_lines, tail_table]
  have h1 := lines1_v24 (lines0 fun b => m (c, b)) (lines0_v0 _) (lines0_v3 _)
  have h2 := lines1_v71 (lines0 fun b => m (c, b)) (lines0_v0 _) (lines0_v3 _)
  rw [lines3_v72, lines2_v72, h2, lines3_v120, lines2_v119, lines3_v167, lines2_v24, h1, lines2_c_1, lines1_c_1, lines1_c_0, lines2_v11, lines1_v11, lines2_arg3, lines1_arg3,
    lines0_c, lines0_c_0, lines0_c_1, lines0_v11, lines0_arg3]
  rfl

end Cert.Kernel5Ideal.Att
end
-- ==== Proof.AttWindow.lean ====
/-
  The offset table at an index, and the attention over a run of 704 keys as one over the window's 128.
-/
module

public import proofs.«01_k».proof.Proof.AttTable

@[expose] public section
set_option maxRecDepth 16384
noncomputable section
namespace Cert.Kernel5Ideal.Att
open Idealize.ShloMosaic Idealize.ShloMosaic.TcCoe
open Cert.Kernel5Ideal Cert.Kernel5Ideal.Gen Cert.Kernel5Ideal.Value
open Cert.Att

theorem gather_rows (x : S8x15x31.Idx → EReal) (idx : IVec S44x1 32) (h : Fin 8) (p : Fin 44) (c : Fin 31) :
    Host.gather gather_S8x15x31_S44x1_S8x44x31_02_1_n_n_1_1_8131 x idx (ix3 h p c)
      = x (ix3 h (⟨min (idx (ix2 p 0)).toInt.toNat 14, by omega⟩ : Fin 15) c) := by
  unfold Host.gather
  refine congrArg x (funext fun a => Fin.ext ?_)
  match a with
  | ⟨0, _⟩ => exact (show 0 + 0 + (h : ℕ) = h by omega)
  | ⟨1, _⟩ =>
    refine (show min (idx _).toInt.toNat 14 + 0 + 0 = min (idx (ix2 p 0)).toInt.toNat 14 from ?_)
    refine congrArg (fun i => min (idx i).toInt.toNat 14) (funext fun b => Fin.ext ?_)
    match b with
    | ⟨0, _⟩ => rfl
    | ⟨1, _⟩ => rfl
  | ⟨2, _⟩ => exact (show 0 + 0 + (c : ℕ) = c by omega)

theorem gather_cols (x : S8x44x31.Idx → EReal) (idx : IVec S4096x1 32) (h : Fin 8) (p : Fin 44) (c : Fin 4096) :
    Host.gather gather_S8x44x31_S4096x1_S8x44x4096_01_2_n_n_2_1_8441 x idx (ix3 h p c)
      = x (ix3 h p (⟨min (idx (ix2 c 0)).toInt.toNat 30, by omega⟩ : Fin 31)) := by
  unfold Host.gather
  refine congrArg x (funext fun a => Fin.ext ?_)
  match a with
  | ⟨0, _⟩ => exact (show 0 + 0 + (h : ℕ) = h by omega)
  | ⟨1, _⟩ => exact (show 0 + 0 + (p : ℕ) = p by omega)
  | ⟨2, _⟩ =>
    refine (show min (idx _).toInt.toNat 30 + 0 + 0 = min (idx (ix2 c 0)).toInt.toNat 30 from ?_)
    refine congrArg (fun i => min (idx i).toInt.toNat 30) (funext fun b => Fin.ext ?_)
    match b with
    | ⟨0, _⟩ => rfl
    | ⟨1, _⟩ => rfl

/-! ## The integers -/

/-- The window's first row, counted from the run's first row, for one of the block's four rows. -/
def stN (cls : Fin 3) (rr : Fin 4) : Fin 4 := ![0, rr, 3] cls
/-- The block's first row, counted from the run's first row. -/
def oN (cls : Fin 3) : Fin 8 := ![0, 4, 7] cls
/-- The window's first column. -/
def csN (c : Fin 64) : ℕ := min ((c : ℕ) - 8) 48

theorem csN_le (c : Fin 64) : csN c ≤ 48 := Nat.min_le_right _ _

theorem rowOk_at (st : S4.Idx → BitVec 32) (s : Fin 4) (rr : Fin 4) (i : Fin 11) (hs : st (ix1 rr) = BitVec.ofNat 32 s) :
    (rowOk st : IVec S4x11 1) (ix2 rr i) = if (s : ℕ) ≤ i ∧ (i : ℕ) < s + 8 then 1#1 else 0#1 := by
  pointwise [rowOk]
  rw [hs]
  exact (by decide +kernel : ∀ (s : Fin 4) (i : Fin 11), IntOp.andi (IntOp.cmpi .sge (BitVec.ofNat 32 i) (BitVec.ofNat 32 s))
    (IntOp.cmpi .slt (BitVec.ofNat 32 i) (IntOp.addi (BitVec.ofNat 32 s) 8#32)) = if (s : ℕ) ≤ i ∧ (i : ℕ) < s + 8 then 1#1 else 0#1) s i

theorem colOk_at (c k : Fin 64) :
    (colOk : IVec S64x64 1) (ix2 c k) = if csN c ≤ k ∧ (k : ℕ) < csN c + 16 then 1#1 else 0#1 := by
  pointwise [colOk, colStart]
  revert c k
  unfold csN
  decide +kernel

theorem rowIdx_at (o : Fin 8) (rr : Fin 4) (i : Fin 11) :
    min ((rowIdx (BitVec.ofNat 32 o) : IVec S44x1 32) (ix2 (⟨rr * 11 + i, by omega⟩ : Fin 44) 0)).toInt.toNat 14
      = min ((i : ℕ) + 7 - ((o : ℕ) + (rr : ℕ))) 14 := by
  pointwise [rowIdx, rowOff]
  revert o rr i
  decide +kernel

theorem colIdx_at (c k : Fin 64) :
    min ((colIdx colOff : IVec S4096x1 32) (ix2 (⟨c * 64 + k, by omega⟩ : Fin 4096) 0)).toInt.toNat 30
      = min ((k : ℕ) + 15 - (c : ℕ)) 30 := by
  pointwise [colIdx, colOff]
  revert c k
  decide +kernel

theorem clsTab_at (st : S4.Idx → BitVec 32) (s : Fin 4) (o : Fin 8) (rpb : S8x15x31.Idx → EReal) (h : Fin 8) (rr : Fin 4) (cq : Fin 64)
    (i : Fin 11) (ck : Fin 64) (hs : st (ix1 rr) = BitVec.ofNat 32 s) :
    (clsTab st (BitVec.ofNat 32 o) colOff colOk rpb : FVec Ideal S8x4x64x11x64 .f32) (ix5 h rr cq i ck)
      = if ((s : ℕ) ≤ i ∧ (i : ℕ) < s + 8) ∧ (csN cq ≤ ck ∧ (ck : ℕ) < csN cq + 16)
        then rpb (ix3 h (⟨min (i + 7 - (o + rr)) 14, by omega⟩ : Fin 15) (⟨min (ck + 15 - cq) 30, by omega⟩ : Fin 31)) else ⊥ := by
  pointwise [clsTab]
  rw [gather_cols, gather_rows, rowOk_at st s rr i hs, colOk_at, Mod.neg_inf_word]
  by_cases h1 : (s : ℕ) ≤ i ∧ (i : ℕ) < s + 8
  · by_cases h2 : csN cq ≤ ck ∧ (ck : ℕ) < csN cq + 16
    · rw [if_pos h1, if_pos h2, if_pos ⟨h1, h2⟩]
      refine (show _ = rpb _ from rfl).trans (congrArg rpb ?_)
      exact congrArg₂ (fun a b => ix3 h a b) (Fin.ext (rowIdx_at o rr i)) (Fin.ext (colIdx_at cq ck))
    · rw [if_pos h1, if_neg h2]
      refine Eq.trans (b := ⊥) rfl (Eq.symm (if_neg fun h => h2 h.2))
  · rw [if_neg h1]
    refine Eq.trans (b := ⊥) ?_ (Eq.symm (if_neg fun h => h1 h.1))
    by_cases h2 : csN cq ≤ ck ∧ (ck : ℕ) < csN cq + 16
    · rw [if_pos h2]; rfl
    · rw [if_neg h2]; rfl

theorem table_at (rpb : S8x15x31.Idx → EReal) (cls : Fin 3) (h : Fin 8) (rr : Fin 4) (cq : Fin 64) (i : Fin 11) (ck : Fin 64)
    (r : Fin 256) (j : Fin 704) (hr : (r : ℕ) = rr * 64 + cq) (hj : (j : ℕ) = i * 64 + ck) :
    (table rpb : FVec Ideal S3x8x256x704 .f32) (ix4 cls h r j)
      = if ((stN cls rr : ℕ) ≤ i ∧ (i : ℕ) < stN cls rr + 8) ∧ (csN cq ≤ ck ∧ (ck : ℕ) < csN cq + 16)
        then rpb (ix3 h (⟨min (i + 7 - (oN cls + rr)) 14, by omega⟩ : Fin 15) (⟨min (ck + 15 - cq) 30, by omega⟩ : Fin 31)) else ⊥ := by
  have a1 : (⟨r / 64, by omega⟩ : Fin 4) = rr := Fin.ext (by simp; omega)
  have a2 : (⟨r % 64, by omega⟩ : Fin 64) = cq := Fin.ext (by simp; omega)
  have a3 : (⟨j / 64, by omega⟩ : Fin 11) = i := Fin.ext (by simp; omega)
  have a4 : (⟨j % 64, by omega⟩ : Fin 64) = ck := Fin.ext (by simp; omega)
  match cls with
  | 0 =>
    refine Eq.trans ?_ (clsTab_at (constantI S4 32 0#32) 0 0 rpb h rr cq i ck rfl)
    pointwise [table, stacked, plane, flatTab]
    rw [a1, a2, a3, a4]
  | 1 =>
    refine Eq.trans ?_ (clsTab_at (fun i => lit0 (S4.rowMajor i)) rr 4 rpb h rr cq i ck ((by decide +kernel : ∀ rr : Fin 4, lit0 (S4.rowMajor (ix1 rr)) = BitVec.ofNat 32 rr) rr))
    pointwise [table, stacked, plane, flatTab]
    rw [a1, a2, a3, a4]
  | 2 =>
    refine Eq.trans ?_ (clsTab_at (constantI S4 32 3#32) 3 7 rpb h rr cq i ck rfl)
    pointwise [table, stacked, plane, flatTab]
    rw [a1, a2, a3, a4]

/-! ## The window -/

/-- The window's first row, for one of the 32 rows. -/
def sN (R : Fin 32) : ℕ := min ((R : ℕ) - 4) 24

theorem sN_le (R : Fin 32) : sN R ≤ 24 := Nat.min_le_right _ _

/-- The row of the keys a window's place names. -/
def tok (R : Fin 32) (c : Fin 64) (w : Fin 128) : Fin 2304 :=
  ⟨256 + (sN R + w / 16) * 64 + csN c + w % 16, by have := sN_le R; have := csN_le c; omega⟩

/-- The row and the column of the offset table a window's place names. -/
def ro (R : Fin 32) (w : Fin 128) : Fin 15 := ⟨min (sN R + w / 16 + 7 - R) 14, by omega⟩
def co (c : Fin 64) (w : Fin 128) : Fin 31 := ⟨min (csN c + w % 16 + 15 - c) 30, by omega⟩

/-- A window's place in the run of 704 keys. -/
def place (cls : Fin 3) (rr : Fin 4) (c : Fin 64) (w : Fin 128) : Fin 704 :=
  ⟨(stN cls rr + w / 16) * 64 + csN c + w % 16, by have := csN_le c; omega⟩

theorem place_injective (cls : Fin 3) (rr : Fin 4) (c : Fin 64) : Function.Injective (place cls rr c) := by
  intro a b h
  have := congrArg Fin.val h
  simp only [place] at this
  have := csN_le c
  exact Fin.ext (by omega)

theorem key_start : ∀ (b : Fin 8) (rr : Fin 4), (keyOf b : ℕ) + 64 * (stN (clsOf b) rr : ℕ) = 256 + 64 * sN ⟨4 * b + rr, by omega⟩ := by
  unfold sN
  decide +kernel

theorem row_start : ∀ (b : Fin 8) (rr : Fin 4),
    sN ⟨4 * b + rr, by omega⟩ + (oN (clsOf b) : ℕ) + rr = (stN (clsOf b) rr : ℕ) + (4 * (b : ℕ) + rr) := by
  unfold sN
  decide +kernel

theorem latent_window (x0 x1 x2 : S1x2304x128.Idx → EReal) (x3 : S3x2x256x704.Idx → EReal) (rpb : S8x15x31.Idx → EReal) (h : Fin 8) (p : Fin 2)
    (b : Fin 8) (rr : Fin 4) (c : Fin 64) (r : Fin 256) (hr : (r : ℕ) = rr * 64 + c) (row : Fin 2304) (l : Fin 128)
    (hx : ∀ j : Fin 704, x3 (ix4 (clsOf b) p r j) = (table rpb : FVec Ideal S3x8x256x704 .f32) (ix4 (clsOf b) h r j)) :
    latent x0 x1 x2 x3 (clsOf b) (keyOf b) p row r l
      = attend (fun w : Fin 128 => dotRow x0 x1 p row (tok ⟨4 * b + rr, by omega⟩ c w) + rpb (ix3 h (ro ⟨4 * b + rr, by omega⟩ w) (co c w)))
          (fun w : Fin 128 => x2 (ix3 0 (tok ⟨4 * b + rr, by omega⟩ c w) l))
          (fun j : Fin 256 => dotRow x0 x1 p row ⟨j, by omega⟩) (fun j : Fin 256 => x2 (ix3 0 ⟨j, by omega⟩ l)) := by
  have hk := key_start b rr
  have ho := row_start b rr
  have hc := csN_le c
  have e : ∀ w : Fin 128, (⟨keyOf b + place (clsOf b) rr c w, by omega⟩ : Fin 2304) = tok ⟨4 * b + rr, by omega⟩ c w := fun w =>
    Fin.ext (by simp only [place, tok]; omega)
  unfold latent
  refine attend_window (place (clsOf b) rr c) (place_injective _ _ _) _ _ _ _ _ _ (fun w => ?_) (fun w => ?_) (fun i hi => ?_)
  · have ht := table_at rpb (clsOf b) h rr c ⟨stN (clsOf b) rr + w / 16, by omega⟩ ⟨csN c + w % 16, by omega⟩ r (place (clsOf b) rr c w) hr
      (by simp only [place]; omega)
    rw [e w, hx, ht, if_pos ⟨⟨by simp, by simp; omega⟩, ⟨by simp, by simp; omega⟩⟩]
    refine congrArg (_ + rpb ·) ?_
    exact congrArg₂ (fun a b => ix3 h a b) (Fin.ext (by simp only [ro]; omega)) (Fin.ext (by simp only [co]))
  · rw [e w]
  · have ht := table_at rpb (clsOf b) h rr c ⟨i / 64, by omega⟩ ⟨i % 64, by omega⟩ r i hr (by simp; omega)
    rw [hx, ht, if_neg ?_]
    · exact EReal.add_bot _
    · rintro ⟨⟨h1, h2⟩, h3, h4⟩
      simp only at h1 h2 h3 h4
      refine hi ⟨(i / 64 - stN (clsOf b) rr) * 16 + (i % 64 - csN c), by omega⟩ (Fin.ext ?_)
      simp only [place]
      omega

end Cert.Kernel5Ideal.Att
end
-- ==== Proof.AttReference.lean ====
/-
  The reference's attention, its parts by name, and its entries.
-/
module

public import proofs.«01_k».proof.Proof.AttWindow
public import proofs.«01_k».proof.Proof.Gen.Reference5Ideal.Run
public import Idealize.ShloMosaic.Lib.Pipeline.ValueKit

@[expose] public section

set_option maxRecDepth 16384

noncomputable section

namespace Cert.Reference5Ideal.Att

open Idealize.ShloMosaic Idealize.ShloMosaic.TcCoe
open Cert.Reference5Ideal Cert.Reference5Ideal.Gen
open Cert.Reference5Ideal.Value Cert.Att

/-! ## The parts -/

/-- An operand by heads. -/
def heads (x : FVec Ideal S16x2304x512 .bf16) : FVec Ideal S16x2304x8x64 .f32 :=
  shapeCast S16x2304x8x64 (extf .f32 (x : FVec Ideal S16x2304x512 .bf16) bitsLt_bf16_f32) shapeCasts_S16x2304x512_S16x2304x8x64

def ctxRows (y : FVec Ideal S16x2304x8x64 .f32) : FVec Ideal S16x256x8x64 .f32 :=
  extractStridedSlice S16x256x8x64 ![0, 0, 0, 0] y slices_S16x2304x8x64_S16x256x8x64_0_0_0_0
def latRows (y : FVec Ideal S16x2304x8x64 .f32) : FVec Ideal S16x2048x8x64 .f32 :=
  extractStridedSlice S16x2048x8x64 ![0, 256, 0, 0] y slices_S16x2304x8x64_S16x2048x8x64_0_256_0_0

/-- The largest of the context's scores, the weights before their division, and the softmax. -/
def peak256 (s : FVec Ideal S16x8x256x256 .f32) : FVec Ideal S16x8x256 .f32 :=
  maximumf (broadcastInDim S16x8x256 ![] bcast_S_S16x8x256 (constant S_ .f32 0xFF800000#32))
    (Host.reduce FloatOps.maximumf s (constant S_ .f32 0xFF800000#32) reducesTo_S16x8x256x256_S16x8x256_d3 h_S_)
def over256 (x : FVec Ideal S16x8x256 .f32) : FVec Ideal S16x8x256x256 .f32 :=
  broadcastInDim S16x8x256x256 ![0, 1, 2, 3] bcast_S16x8x256x1_S16x8x256x256_0_1_2_3 (broadcastInDim S16x8x256x1 ![0, 1, 2] bcast_S16x8x256_S16x8x256x1_0_1_2 x)
def exps256 (s : FVec Ideal S16x8x256x256 .f32) : FVec Ideal S16x8x256x256 .f32 := Host.exp (subf s (over256 (peak256 s)))
def total256 (e : FVec Ideal S16x8x256x256 .f32) : FVec Ideal S16x8x256 .f32 :=
  Host.reduceAdd e (constant S_ .f32 0x00000000#32) reducesTo_S16x8x256x256_S16x8x256_d3 h_S_
def soft256 (s : FVec Ideal S16x8x256x256 .f32) : FVec Ideal S16x8x256x256 .f32 := Host.divf (exps256 s) (over256 (total256 (exps256 s)))

/-- The largest of the latents' scores, the weights before their division, and the softmax. -/
def peak384 (s : FVec Ideal S16x8x2048x384 .f32) : FVec Ideal S16x8x2048 .f32 :=
  maximumf (broadcastInDim S16x8x2048 ![] bcast_S_S16x8x2048 (constant S_ .f32 0xFF800000#32))
    (Host.reduce FloatOps.maximumf s (constant S_ .f32 0xFF800000#32) reducesTo_S16x8x2048x384_S16x8x2048_d3 h_S_)
def over384 (x : FVec Ideal S16x8x2048 .f32) : FVec Ideal S16x8x2048x384 .f32 :=
  broadcastInDim S16x8x2048x384 ![0, 1, 2, 3] bcast_S16x8x2048x1_S16x8x2048x384_0_1_2_3 (broadcastInDim S16x8x2048x1 ![0, 1, 2] bcast_S16x8x2048_S16x8x2048x1_0_1_2 x)
def exps384 (s : FVec Ideal S16x8x2048x384 .f32) : FVec Ideal S16x8x2048x384 .f32 := Host.exp (subf s (over384 (peak384 s)))
def total384 (e : FVec Ideal S16x8x2048x384 .f32) : FVec Ideal S16x8x2048 .f32 :=
  Host.reduceAdd e (constant S_ .f32 0x00000000#32) reducesTo_S16x8x2048x384_S16x8x2048_d3 h_S_
def soft384 (s : FVec Ideal S16x8x2048x384 .f32) : FVec Ideal S16x8x2048x384 .f32 := Host.divf (exps384 s) (over384 (total384 (exps384 s)))

def contextScores (q k : FVec Ideal S16x2304x8x64 .f32) : FVec Ideal S16x8x256x256 .f32 :=
  Host.dotGeneral dot_S16x256x8x64_S16x256x8x64_S16x8x256x256_3_3_1_1_02_02 none (ctxRows q) (ctxRows k)

/-- The context's rows. -/
def outC (q k v : FVec Ideal S16x2304x8x64 .f32) : FVec Ideal S16x256x8x64 .f32 :=
  transpose S16x256x8x64 [0, 3, 1, 2] (Host.dotGeneral dot_S16x256x8x64_S16x8x256x256_S16x8x64x256_1_3_3_2_02_01 none (ctxRows v)
    (extf .f32 (truncf .bf16 (soft256 (contextScores q k)) bitsLt_bf16_f32) bitsLt_bf16_f32)) transposes_S16x8x64x256_S16x256x8x64_0_3_1_2

/-- The window's rows and its columns. -/
def rowIx : Vec Ideal S32x8 .i32 :=
  addi (broadcastInDim S32x8 ![0, 1] bcast_S32x1_S32x8_0_1 (broadcastInDim S32x1 ![0] bcast_S32_S32x1_0
      (minsi (broadcastInDim S32 ![] bcast_S_S32 (constantI S_ 32 24#32))
        (maxsi (broadcastInDim S32 ![] bcast_S_S32 (constantI S_ 32 0#32))
          (subi (iotaInDim S32 32 0) (broadcastInDim S32 ![] bcast_S_S32 (constantI S_ 32 4#32)))))))
    (broadcastInDim S32x8 ![0, 1] bcast_S1x8_S32x8_0_1 (broadcastInDim S1x8 ![1] bcast_S8_S1x8_1 (iotaInDim S8 32 0)))

def colIx : Vec Ideal S64x16 .i32 :=
  addi (broadcastInDim S64x16 ![0, 1] bcast_S64x1_S64x16_0_1 (broadcastInDim S64x1 ![0] bcast_S64_S64x1_0
      (minsi (broadcastInDim S64 ![] bcast_S_S64 (constantI S_ 32 48#32))
        (maxsi (broadcastInDim S64 ![] bcast_S_S64 (constantI S_ 32 0#32))
          (subi (iotaInDim S64 32 0) (broadcastInDim S64 ![] bcast_S_S64 (constantI S_ 32 8#32)))))))
    (broadcastInDim S64x16 ![0, 1] bcast_S1x16_S64x16_0_1 (broadcastInDim S1x16 ![1] bcast_S16_S1x16_1 (iotaInDim S16 32 0)))

/-- The window's keys. -/
def keyIx : Vec Ideal S2048x128x1 .i32 :=
  let x : Vec Ideal S2048x128 .i32 := shapeCast S2048x128
    (addi (broadcastInDim S32x64x8x16 ![0, 1, 2, 3] bcast_S32x1x8x1_S32x64x8x16_0_1_2_3
        (muli (broadcastInDim S32x1x8x1 ![0, 2] bcast_S32x8_S32x1x8x1_0_2 rowIx) (broadcastInDim S32x1x8x1 ![] bcast_S_S32x1x8x1 (constantI S_ 32 64#32))))
      (broadcastInDim S32x64x8x16 ![0, 1, 2, 3] bcast_S1x64x1x16_S32x64x8x16_0_1_2_3 (broadcastInDim S1x64x1x16 ![1, 3] bcast_S64x16_S1x64x1x16_1_3 colIx)))
    shapeCasts_S32x64x8x16_S2048x128
  broadcastInDim S2048x128x1 ![0, 1] bcast_S2048x128_S2048x128x1_0_1
    (select (cmpi .slt x (broadcastInDim S2048x128 ![] bcast_S_S2048x128 (constantI S_ 32 0#32)))
      (addi x (broadcastInDim S2048x128 ![] bcast_S_S2048x128 (constantI S_ 32 2048#32))) x)

def window (y : FVec Ideal S16x2048x8x64 .f32) : FVec Ideal S16x2048x128x8x64 .f32 :=
  Host.gather gather_S16x2048x8x64_S2048x128x1_S16x2048x128x8x64_034_1_n_n_1_2_161864 y keyIx

/-- The offsets, as the gathers take them. -/
def rowOffIx : Vec Ideal S32x8x1 .i32 :=
  let x : Vec Ideal S32x8 .i32 := addi (subi rowIx (broadcastInDim S32x8 ![0, 1] bcast_S32x1_S32x8_0_1 (broadcastInDim S32x1 ![0] bcast_S32_S32x1_0 (iotaInDim S32 32 0))))
    (broadcastInDim S32x8 ![] bcast_S_S32x8 (constantI S_ 32 7#32))
  broadcastInDim S32x8x1 ![0, 1] bcast_S32x8_S32x8x1_0_1
    (select (cmpi .slt x (broadcastInDim S32x8 ![] bcast_S_S32x8 (constantI S_ 32 0#32)))
      (addi x (broadcastInDim S32x8 ![] bcast_S_S32x8 (constantI S_ 32 15#32))) x)

def colOffIx : Vec Ideal S64x16x1 .i32 :=
  let x : Vec Ideal S64x16 .i32 := addi (subi colIx (broadcastInDim S64x16 ![0, 1] bcast_S64x1_S64x16_0_1 (broadcastInDim S64x1 ![0] bcast_S64_S64x1_0 (iotaInDim S64 32 0))))
    (broadcastInDim S64x16 ![] bcast_S_S64x16 (constantI S_ 32 15#32))
  broadcastInDim S64x16x1 ![0, 1] bcast_S64x16_S64x16x1_0_1
    (select (cmpi .slt x (broadcastInDim S64x16 ![] bcast_S_S64x16 (constantI S_ 32 0#32)))
      (addi x (broadcastInDim S64x16 ![] bcast_S_S64x16 (constantI S_ 32 31#32))) x)

def offsets (rpb : FVec Ideal S8x15x31 .f32) : FVec Ideal S8x2048x128 .f32 :=
  shapeCast S8x2048x128 (transpose S8x32x64x8x16 [0, 1, 3, 2, 4]
    (Host.gather gather_S8x32x8x31_S64x16x1_S8x32x8x64x16_012_3_n_n_3_2_83281
      (Host.gather gather_S8x15x31_S32x8x1_S8x32x8x31_03_1_n_n_1_2_8131 rpb rowOffIx) colOffIx)
    transposes_S8x32x8x64x16_S8x32x64x8x16_0_1_3_2_4) shapeCasts_S8x32x64x8x16_S8x2048x128

/-- The latents' scores with the window and with the context. -/
def scoresW (q k : FVec Ideal S16x2304x8x64 .f32) (rpb : FVec Ideal S8x15x31 .f32) : FVec Ideal S16x8x2048x128 .f32 :=
  addf (Host.dotGeneral dot_S16x2048x8x64_S16x2048x128x8x64_S16x8x2048x128_3_4_n_2_021_031 none (latRows q) (window (latRows k)))
    (broadcastInDim S16x8x2048x128 ![0, 1, 2, 3] bcast_S1x8x2048x128_S16x8x2048x128_0_1_2_3
      (broadcastInDim S1x8x2048x128 ![1, 2, 3] bcast_S8x2048x128_S1x8x2048x128_1_2_3 (offsets rpb)))
def scoresC (q k : FVec Ideal S16x2304x8x64 .f32) : FVec Ideal S16x8x2048x256 .f32 :=
  Host.dotGeneral dot_S16x2048x8x64_S16x256x8x64_S16x8x2048x256_3_3_1_1_02_02 none (latRows q) (ctxRows k)

/-- The latents' scores: the window's, then the context's. -/
def scores (q k : FVec Ideal S16x2304x8x64 .f32) (rpb : FVec Ideal S8x15x31 .f32) : FVec Ideal S16x8x2048x384 .f32 :=
  concatenate S16x8x2048x384 3 [⟨S16x8x2048x128, scoresW q k rpb⟩, ⟨S16x8x2048x256, scoresC q k⟩]
    concatenates_S16x8x2048x128_S16x8x2048x256_S16x8x2048x384_d3

/-- The latents' rows, over the weights. -/
def outL (w : FVec Ideal S16x8x2048x384 .f32) (v : FVec Ideal S16x2304x8x64 .f32) : FVec Ideal S16x2048x8x64 .f32 :=
  let w' : FVec Ideal S16x8x2048x384 .f32 := extf .f32 (truncf .bf16 w bitsLt_bf16_f32) bitsLt_bf16_f32
  addf (Host.dotGeneral dot_S16x8x2048x128_S16x2048x128x8x64_S16x2048x8x64_3_2_n_4_021_013 none
      (extractStridedSlice S16x8x2048x128 ![0, 0, 0, 0] w' slices_S16x8x2048x384_S16x8x2048x128_0_0_0_0) (window (latRows v)))
    (transpose S16x2048x8x64 [0, 3, 1, 2] (Host.dotGeneral dot_S16x256x8x64_S16x8x2048x256_S16x8x64x2048_1_3_3_2_02_01 none (ctxRows v)
      (extractStridedSlice S16x8x2048x256 ![0, 0, 0, 128] w' slices_S16x8x2048x384_S16x8x2048x256_0_0_0_128)) transposes_S16x8x64x2048_S16x2048x8x64_0_3_1_2)

/-- The whole result. -/
def attended (q k v : FVec Ideal S16x2304x512 .bf16) (rpb : FVec Ideal S8x15x31 .f32) : FVec Ideal S16x2304x512 .bf16 :=
  shapeCast S16x2304x512 (truncf .bf16 (concatenate S16x2304x8x64 1 [⟨S16x256x8x64, outC (heads q) (heads k) (heads v)⟩,
      ⟨S16x2048x8x64, outL (soft384 (scores (heads q) (heads k) rpb)) (heads v)⟩] concatenates_S16x256x8x64_S16x2048x8x64_S16x2304x8x64_d1)
    bitsLt_bf16_f32) shapeCasts_S16x2304x8x64_S16x2304x512

theorem out_eq (m : (ℓ : Loc nD τ sig) → Buf (Elt Ideal) ℓ) (c : Dev nD) :
    res_main_v123 m c = attended (m ((c.tc : Thread nD τ).loc main_arg0)) (m ((c.tc : Thread nD τ).loc main_arg1))
      (m ((c.tc : Thread nD τ).loc main_arg2)) (m ((c.tc : Thread nD τ).loc main_arg3)) := by
  unfold res_main_v123
  rfl

end Cert.Reference5Ideal.Att

end
-- ==== Proof.AttReferenceAt.lean ====
/-
  The reference's attention at an index.
-/
module

public import proofs.«01_k».proof.Proof.AttReference

@[expose] public section

set_option maxRecDepth 16384

noncomputable section

namespace Cert.Reference5Ideal.Att

open Idealize.ShloMosaic Idealize.ShloMosaic.TcCoe
open Cert.Reference5Ideal Cert.Reference5Ideal.Gen
open Cert.Att
open Cert.Kernel5Ideal.Att (csN csN_le sN sN_le tok ro co)

/-! ## The gathers -/

theorem gather_window (x : S16x2048x8x64.Idx → EReal) (idx : IVec S2048x128x1 32) (b : Fin 16) (t : Fin 2048) (w : Fin 128) (h : Fin 8) (d : Fin 64) :
    Host.gather gather_S16x2048x8x64_S2048x128x1_S16x2048x128x8x64_034_1_n_n_1_2_161864 x idx (ix5 b t w h d)
      = x (ix4 b (⟨min (idx (ix3 t w 0)).toInt.toNat 2047, by omega⟩ : Fin 2048) h d) := by
  unfold Host.gather
  refine congrArg x (funext fun a => Fin.ext ?_)
  match a with
  | ⟨0, _⟩ => exact (show 0 + 0 + (b : ℕ) = b by omega)
  | ⟨1, _⟩ =>
    refine (show min (idx _).toInt.toNat 2047 + 0 + 0 = min (idx (ix3 t w 0)).toInt.toNat 2047 from ?_)
    refine congrArg (fun i => min (idx i).toInt.toNat 2047) (funext fun b => Fin.ext ?_)
    match b with
    | ⟨0, _⟩ => rfl
    | ⟨1, _⟩ => rfl
    | ⟨2, _⟩ => rfl
  | ⟨2, _⟩ => exact (show 0 + 0 + (h : ℕ) = h by omega)
  | ⟨3, _⟩ => exact (show 0 + 0 + (d : ℕ) = d by omega)

theorem gather_rows (x : S8x15x31.Idx → EReal) (idx : IVec S32x8x1 32) (h : Fin 8) (R : Fin 32) (i : Fin 8) (c : Fin 31) :
    Host.gather gather_S8x15x31_S32x8x1_S8x32x8x31_03_1_n_n_1_2_8131 x idx (ix4 h R i c)
      = x (ix3 h (⟨min (idx (ix3 R i 0)).toInt.toNat 14, by omega⟩ : Fin 15) c) := by
  unfold Host.gather
  refine congrArg x (funext fun a => Fin.ext ?_)
  match a with
  | ⟨0, _⟩ => exact (show 0 + 0 + (h : ℕ) = h by omega)
  | ⟨1, _⟩ =>
    refine (show min (idx _).toInt.toNat 14 + 0 + 0 = min (idx (ix3 R i 0)).toInt.toNat 14 from ?_)
    refine congrArg (fun i => min (idx i).toInt.toNat 14) (funext fun b => Fin.ext ?_)
    match b with
    | ⟨0, _⟩ => rfl
    | ⟨1, _⟩ => rfl
    | ⟨2, _⟩ => rfl
  | ⟨2, _⟩ => exact (show 0 + 0 + (c : ℕ) = c by omega)

theorem gather_cols (x : S8x32x8x31.Idx → EReal) (idx : IVec S64x16x1 32) (h : Fin 8) (R : Fin 32) (i : Fin 8) (c : Fin 64) (j : Fin 16) :
    Host.gather gather_S8x32x8x31_S64x16x1_S8x32x8x64x16_012_3_n_n_3_2_83281 x idx (ix5 h R i c j)
      = x (ix4 h R i (⟨min (idx (ix3 c j 0)).toInt.toNat 30, by omega⟩ : Fin 31)) := by
  unfold Host.gather
  refine congrArg x (funext fun a => Fin.ext ?_)
  match a with
  | ⟨0, _⟩ => exact (show 0 + 0 + (h : ℕ) = h by omega)
  | ⟨1, _⟩ => exact (show 0 + 0 + (R : ℕ) = R by omega)
  | ⟨2, _⟩ => exact (show 0 + 0 + (i : ℕ) = i by omega)
  | ⟨3, _⟩ =>
    refine (show min (idx _).toInt.toNat 30 + 0 + 0 = min (idx (ix3 c j 0)).toInt.toNat 30 from ?_)
    refine congrArg (fun i => min (idx i).toInt.toNat 30) (funext fun b => Fin.ext ?_)
    match b with
    | ⟨0, _⟩ => rfl
    | ⟨1, _⟩ => rfl
    | ⟨2, _⟩ => rfl

/-! ## The integers -/

theorem rowIx_at (R : Fin 32) (i : Fin 8) : (rowIx : IVec S32x8 32) (ix2 R i) = BitVec.ofNat 32 (sN R + i) := by
  pointwise [rowIx]
  revert R i
  unfold sN
  decide +kernel

theorem colIx_at (c : Fin 64) (j : Fin 16) : (colIx : IVec S64x16 32) (ix2 c j) = BitVec.ofNat 32 (csN c + j) := by
  pointwise [colIx]
  revert c j
  unfold csN
  decide +kernel

theorem rowOffIx_at (R : Fin 32) (i : Fin 8) :
    min ((rowOffIx : IVec S32x8x1 32) (ix3 R i 0)).toInt.toNat 14 = min (sN R + i + 7 - R) 14 := by
  pointwise [rowOffIx]
  rw [rowIx_at]
  revert R i
  unfold sN
  decide +kernel

theorem colOffIx_at (c : Fin 64) (j : Fin 16) :
    min ((colOffIx : IVec S64x16x1 32) (ix3 c j 0)).toInt.toNat 30 = min (csN c + j + 15 - c) 30 := by
  pointwise [colOffIx]
  rw [colIx_at]
  revert c j
  unfold csN
  decide +kernel

theorem key_word : ∀ (n : Fin 32) (k : Fin 64), min (BitVec.toInt (Scalar.select
    (IntOp.cmpi .slt (IntOp.addi (IntOp.muli (BitVec.ofNat 32 n) 64#32) (BitVec.ofNat 32 k)) 0#32)
    (IntOp.addi (IntOp.addi (IntOp.muli (BitVec.ofNat 32 n) 64#32) (BitVec.ofNat 32 k)) 2048#32)
    (IntOp.addi (IntOp.muli (BitVec.ofNat 32 n) 64#32) (BitVec.ofNat 32 k)))).toNat 2047 = n * 64 + k := by
  decide +kernel

theorem keyIx_at (t : Fin 2048) (w : Fin 128) :
    min ((keyIx : IVec S2048x128x1 32) (ix3 t w 0)).toInt.toNat 2047
      = (sN ⟨t / 64, by omega⟩ + w / 16) * 64 + (csN ⟨t % 64, by omega⟩ + w % 16) := by
  have h1 := sN_le ⟨t / 64, by omega⟩
  have h2 := csN_le ⟨t % 64, by omega⟩
  refine Eq.trans ?_ (key_word ⟨sN ⟨t / 64, by omega⟩ + w / 16, by omega⟩ ⟨csN ⟨t % 64, by omega⟩ + w % 16, by omega⟩)
  pointwise [keyIx]
  rw [rowIx_at, colIx_at]

theorem offsets_at (rpb : S8x15x31.Idx → EReal) (h : Fin 8) (t : Fin 2048) (w : Fin 128) :
    (offsets rpb : FVec Ideal S8x2048x128 .f32) (ix3 h t w) = rpb (ix3 h (ro ⟨t / 64, by omega⟩ w) (co ⟨t % 64, by omega⟩ w)) := by
  pointwise [offsets]
  rw [gather_cols, gather_rows]
  exact congrArg rpb (congrArg₂ (fun a b => ix3 h a b) (Fin.ext (rowOffIx_at _ _)) (Fin.ext (colOffIx_at _ _)))

/-! ## The scores -/

theorem window_at (y : S16x2048x8x64.Idx → EReal) (b : Fin 16) (t : Fin 2048) (w : Fin 128) (h : Fin 8) (d : Fin 64) :
    (window y : FVec Ideal S16x2048x128x8x64 .f32) (ix5 b t w h d)
      = y (ix4 b (⟨(sN ⟨t / 64, by omega⟩ + w / 16) * 64 + (csN ⟨t % 64, by omega⟩ + w % 16),
          by have := sN_le ⟨t / 64, by omega⟩; have := csN_le ⟨t % 64, by omega⟩; omega⟩ : Fin 2048) h d) := by
  unfold window
  rw [gather_window]
  exact congrArg (fun a => y (ix4 b a h d)) (Fin.ext (keyIx_at t w))

theorem window_latRows_at (y : S16x2304x8x64.Idx → EReal) (b : Fin 16) (t : Fin 2048) (w : Fin 128) (h : Fin 8) (d : Fin 64) :
    (window (latRows y) : FVec Ideal S16x2048x128x8x64 .f32) (ix5 b t w h d)
      = y (ix4 b (tok ⟨t / 64, by omega⟩ ⟨t % 64, by omega⟩ w) h d) := by
  rw [window_at]
  pointwise [latRows]
  exact congrArg (fun a => y (ix4 b a h d)) (Fin.ext (by simp only [tok]; omega))

/-- A row's product with a row of the keys, in one head. -/
def dotH (q k : S16x2304x8x64.Idx → EReal) (b : Fin 16) (h : Fin 8) (t s : Fin 2304) : EReal :=
  ∑ d : Fin 64, q (ix4 b t h d) * k (ix4 b s h d)

theorem scoresW_at (q k : S16x2304x8x64.Idx → EReal) (rpb : S8x15x31.Idx → EReal) (b : Fin 16) (h : Fin 8) (t : Fin 2048) (w : Fin 128) :
    scoresW q k rpb (ix4 b h t w)
      = dotH q k b h ⟨256 + t, by omega⟩ (tok ⟨t / 64, by omega⟩ ⟨t % 64, by omega⟩ w)
        + rpb (ix3 h (ro ⟨t / 64, by omega⟩ w) (co ⟨t % 64, by omega⟩ w)) := by
  unfold dotH
  refine Eq.trans ?_ (congrArg (_ + ·) (offsets_at rpb h t w))
  refine Eq.trans ?_ (congrArg (· + _) (Finset.sum_congr rfl fun d _ => congrArg (_ * ·) (window_latRows_at k b t w h d)))
  pointwise [scoresW]
  refine congrArg (· + _) (Finset.sum_congr rfl fun d _ => congrArg (· * _) ?_)
  pointwise [latRows]

theorem scoresC_at (q k : S16x2304x8x64.Idx → EReal) (b : Fin 16) (h : Fin 8) (t : Fin 2048) (j : Fin 256) :
    scoresC q k (ix4 b h t j) = dotH q k b h ⟨256 + t, by omega⟩ ⟨j, by omega⟩ := by
  unfold dotH
  pointwise [scoresC, latRows, ctxRows]

theorem scores_W (q k : S16x2304x8x64.Idx → EReal) (rpb : S8x15x31.Idx → EReal) (b : Fin 16) (h : Fin 8) (t : Fin 2048) (w : Fin 128) :
    scores q k rpb (ix4 b h t (⟨w, by omega⟩ : Fin 384)) = scoresW q k rpb (ix4 b h t w) := by
  pointwise [scores]
theorem scores_C (q k : S16x2304x8x64.Idx → EReal) (rpb : S8x15x31.Idx → EReal) (b : Fin 16) (h : Fin 8) (t : Fin 2048) (j : Fin 256) :
    scores q k rpb (ix4 b h t (⟨128 + j, by omega⟩ : Fin 384)) = scoresC q k (ix4 b h t j) := by
  pointwise [scores]

/-! ## The weights -/

theorem top_split (f : Fin 384 → EReal) :
    top f = max (top fun w : Fin 128 => f ⟨w, by omega⟩) (top fun j : Fin 256 => f ⟨128 + j, by omega⟩) := by
  refine le_antisymm ?_ (max_le ?_ ?_)
  · rw [top_eq]
    refine Finset.sup_le fun i _ => ?_
    by_cases hi : (i : ℕ) < 128
    · exact (le_top (fun w : Fin 128 => f ⟨w, by omega⟩) ⟨i, hi⟩).trans (le_max_left _ _)
    · refine le_trans ?_ (le_max_right _ _)
      have e := le_top (fun j : Fin 256 => f ⟨128 + j, by omega⟩) ⟨i - 128, by omega⟩
      refine le_trans (le_of_eq (congrArg f (Fin.ext ?_))) e
      simp; omega
  · rw [top_eq]; exact Finset.sup_le fun i _ => le_top f _
  · rw [top_eq]; exact Finset.sup_le fun i _ => le_top f _

theorem sum_split (f : Fin 384 → EReal) :
    ∑ i, f i = (∑ w : Fin 128, f ⟨w, by omega⟩) + ∑ j : Fin 256, f ⟨128 + j, by omega⟩ :=
  Fin.sum_univ_add (a := 128) (b := 256) f

theorem reduce_max_at {n0 n1 n2 n3 : ℕ} (x : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (b : Fin n0) (p : Fin n1) (t : Fin n2) :
    Host.reduce FloatOps.maximumf x c h hu (ix3 b p t)
      = Finset.univ.fold max (c (Shape.Idx.first hu)) fun k : Fin n3 => (x (ix4 b p t k) : EReal) := by
  rw [Host.reduce_eq_fold, Shape.ReducesTo.fold_fiber_r4_a3]
  rfl

theorem max_at {S : Shape} (x y : FVec Ideal S .f32) (i : S.Idx) : maximumf x y i = (max (x i) (y i) : EReal) := rfl

/-- The maximum of minus infinity and a maximum over the last axis from minus infinity. -/
theorem peak_at {n0 n1 n2 n3 : ℕ} (s : FVec Ideal ⟨4, ![n0, n1, n2, n3]⟩ .f32) (hb : S_.BroadcastsInDim ⟨3, ![n0, n1, n2]⟩ ![])
    (h : (⟨4, ![n0, n1, n2, n3]⟩ : Shape).ReducesTo [3] ⟨3, ![n0, n1, n2]⟩) (hu : 0 < S_.numel) (b : Fin n0) (p : Fin n1) (t : Fin n2) :
    maximumf (broadcastInDim ⟨3, ![n0, n1, n2]⟩ ![] hb (constant S_ .f32 0xFF800000#32))
      (Host.reduce FloatOps.maximumf s (constant S_ .f32 0xFF800000#32) h hu) (ix3 b p t) = top fun j : Fin n3 => (s (ix4 b p t j) : EReal) := by
  have e : (constant S_ .f32 0xFF800000#32 : FVec Ideal S_ .f32) = fun _ => (⊥ : EReal) := funext fun _ => Cert.Mod.neg_inf_word
  rw [max_at, e, reduce_max_at]
  exact max_eq_right bot_le

theorem peak384_at (s : S16x8x2048x384.Idx → EReal) (b : Fin 16) (h : Fin 8) (t : Fin 2048) :
    peak384 s (ix3 b h t) = top fun j => s (ix4 b h t j) :=
  peak_at s bcast_S_S16x8x2048 reducesTo_S16x8x2048x384_S16x8x2048_d3 h_S_ b h t
theorem peak256_at (s : S16x8x256x256.Idx → EReal) (b : Fin 16) (h : Fin 8) (t : Fin 256) :
    peak256 s (ix3 b h t) = top fun j => s (ix4 b h t j) :=
  peak_at s bcast_S_S16x8x256 reducesTo_S16x8x256x256_S16x8x256_d3 h_S_ b h t
theorem exps384_at (s : S16x8x2048x384.Idx → EReal) (b : Fin 16) (h : Fin 8) (t : Fin 2048) (j : Fin 384) :
    exps384 s (ix4 b h t j) = Ideal.exp (s (ix4 b h t j) - top fun j => s (ix4 b h t j)) := by
  refine Eq.trans ?_ (congrArg (fun m => Ideal.exp (s (ix4 b h t j) - m)) (peak384_at s b h t))
  pointwise [exps384, over384]
theorem total384_at (e : S16x8x2048x384.Idx → EReal) (b : Fin 16) (h : Fin 8) (t : Fin 2048) :
    total384 e (ix3 b h t) = ∑ j : Fin 384, e (ix4 b h t j) := by
  pointwise [total384]
theorem soft384_at (s : S16x8x2048x384.Idx → EReal) (b : Fin 16) (h : Fin 8) (t : Fin 2048) (j : Fin 384) :
    soft384 s (ix4 b h t j) = Ideal.div (Ideal.exp (s (ix4 b h t j) - top fun j => s (ix4 b h t j)))
      (∑ i : Fin 384, Ideal.exp (s (ix4 b h t i) - top fun j => s (ix4 b h t j))) := by
  refine Eq.trans (b := Ideal.div (exps384 s (ix4 b h t j)) (total384 (exps384 s) (ix3 b h t))) ?_ ?_
  · pointwise [soft384, over384]
  · rw [total384_at]
    exact congrArg₂ Ideal.div (exps384_at s b h t j) (Finset.sum_congr rfl fun i _ => exps384_at s b h t i)

theorem exps256_at (s : S16x8x256x256.Idx → EReal) (b : Fin 16) (h : Fin 8) (t : Fin 256) (j : Fin 256) :
    exps256 s (ix4 b h t j) = Ideal.exp (s (ix4 b h t j) - top fun j => s (ix4 b h t j)) := by
  refine Eq.trans ?_ (congrArg (fun m => Ideal.exp (s (ix4 b h t j) - m)) (peak256_at s b h t))
  pointwise [exps256, over256]
theorem total256_at (e : S16x8x256x256.Idx → EReal) (b : Fin 16) (h : Fin 8) (t : Fin 256) :
    total256 e (ix3 b h t) = ∑ j : Fin 256, e (ix4 b h t j) := by
  pointwise [total256]
theorem soft256_at (s : S16x8x256x256.Idx → EReal) (b : Fin 16) (h : Fin 8) (t : Fin 256) (j : Fin 256) :
    soft256 s (ix4 b h t j) = Ideal.div (Ideal.exp (s (ix4 b h t j) - top fun j => s (ix4 b h t j)))
      (∑ i : Fin 256, Ideal.exp (s (ix4 b h t i) - top fun j => s (ix4 b h t j))) := by
  refine Eq.trans (b := Ideal.div (exps256 s (ix4 b h t j)) (total256 (exps256 s) (ix3 b h t))) ?_ ?_
  · pointwise [soft256, over256]
  · rw [total256_at]
    exact congrArg₂ Ideal.div (exps256_at s b h t j) (Finset.sum_congr rfl fun i _ => exps256_at s b h t i)

theorem outL_at (w : S16x8x2048x384.Idx → EReal) (v : S16x2304x8x64.Idx → EReal) (b : Fin 16) (t : Fin 2048) (h : Fin 8) (d : Fin 64) :
    outL w v (ix4 b t h d)
      = (∑ i : Fin 128, w (ix4 b h t (⟨i, by omega⟩ : Fin 384)) * v (ix4 b (tok ⟨t / 64, by omega⟩ ⟨t % 64, by omega⟩ i) h d))
        + ∑ j : Fin 256, w (ix4 b h t (⟨128 + j, by omega⟩ : Fin 384)) * v (ix4 b (⟨j, by omega⟩ : Fin 2304) h d) := by
  refine Eq.trans ?_ (congrArg (· + _) (Finset.sum_congr rfl fun i _ => congrArg (_ * ·) (window_latRows_at v b t i h d)))
  pointwise [outL, ctxRows]
  exact congrArg (_ + ·) (Finset.sum_congr rfl fun j _ => mul_comm _ _)

theorem outC_at (q k v : S16x2304x8x64.Idx → EReal) (b : Fin 16) (t : Fin 256) (h : Fin 8) (d : Fin 64) :
    outC q k v (ix4 b t h d)
      = ∑ j : Fin 256, soft256 (contextScores q k) (ix4 b h t j) * v (ix4 b (⟨j, by omega⟩ : Fin 2304) h d) := by
  refine Eq.trans ?_ (Finset.sum_congr rfl fun j _ => mul_comm _ _)
  pointwise [outC, ctxRows]

theorem contextScores_at (q k : S16x2304x8x64.Idx → EReal) (b : Fin 16) (h : Fin 8) (t j : Fin 256) :
    contextScores q k (ix4 b h t j) = dotH q k b h ⟨t, by omega⟩ ⟨j, by omega⟩ := by
  unfold dotH
  pointwise [contextScores, ctxRows]

end Cert.Reference5Ideal.Att

end
-- ==== Proof.AttSpec.lean ====
/-
  The attention over whole arrays, its divisions last, and the reference's result as it: over finite queries, keys and
  offsets the two orders of division agree.
-/
module

public import proofs.«01_k».proof.Proof.AttReferenceAt
public import proofs.«01_k».proof.Proof.Gen.Pre_finite_scores
public import Idealize.ShloMosaic.Lib.Affine
public import Idealize.ShloMosaic.Lib.ReduceAll

@[expose] public section

set_option maxRecDepth 16384

noncomputable section

namespace Cert.Att

open Idealize.ShloMosaic
open Cert.Mod (Finite exists_real inf_word neg_inf_word ofBool_one)
open Cert.Kernel5Ideal.Att (tok ro co attendC)
open Cert.Reference5Ideal (S16x2304x512 S8x15x31)

/-! ## The precondition -/

section
variable (a0 a1 a2 : FVec Ideal Pre_finite_scores.S16x2304x512 .bf16) (a3 : FVec Ideal Pre_finite_scores.S8x15x31 .f32)
  (h : Pre_finite_scores.fn a0 a1 a2 a3 = fun _ => 1#1)

include h in
theorem query_finite (y : Pre_finite_scores.S16x2304x512.Idx) : Finite (a0 y) := by
  have e := congrFun h (fun a => a.elim0)
  dsimp only [Pre_finite_scores.fn, Pre_finite_scores.fn_part1] at e
  obtain ⟨e0, e1⟩ := IntOp.andi_eq_one.1 (IntOp.andi_eq_one.1 (IntOp.andi_eq_one.1 e).1).1
  have g0 := Host.reduce_andi_all _ _ _ _ _ e0 y
  have g1 := Host.reduce_andi_all _ _ _ _ _ e1 y
  clear e e0 e1 h
  constructor
  · revert g0; pointwise; rw [inf_word]; exact fun h => ne_of_lt (of_decide_eq_true (ofBool_one _ h))
  · revert g1; pointwise; rw [neg_inf_word]; exact fun h => ne_of_gt (of_decide_eq_true (ofBool_one _ h))

include h in
theorem key_finite (y : Pre_finite_scores.S16x2304x512.Idx) : Finite (a1 y) := by
  have e := congrFun h (fun a => a.elim0)
  dsimp only [Pre_finite_scores.fn, Pre_finite_scores.fn_part1] at e
  obtain ⟨e0, e1⟩ := IntOp.andi_eq_one.1 (IntOp.andi_eq_one.1 (IntOp.andi_eq_one.1 e).1).2
  have g0 := Host.reduce_andi_all _ _ _ _ _ e0 y
  have g1 := Host.reduce_andi_all _ _ _ _ _ e1 y
  clear e e0 e1 h
  constructor
  · revert g0; pointwise; rw [inf_word]; exact fun h => ne_of_lt (of_decide_eq_true (ofBool_one _ h))
  · revert g1; pointwise; rw [neg_inf_word]; exact fun h => ne_of_gt (of_decide_eq_true (ofBool_one _ h))

include h in
theorem offset_finite (y : Pre_finite_scores.S8x15x31.Idx) : Finite (a3 y) := by
  have e := congrFun h (fun a => a.elim0)
  dsimp only [Pre_finite_scores.fn, Pre_finite_scores.fn_part1] at e
  obtain ⟨e0, e1⟩ := IntOp.andi_eq_one.1 (IntOp.andi_eq_one.1 e).2
  have g0 := Host.reduce_andi_all _ _ _ _ _ e0 y
  have g1 := Host.reduce_andi_all _ _ _ _ _ e1 y
  clear e e0 e1 h
  constructor
  · revert g0; pointwise; rw [inf_word]; exact fun h => ne_of_lt (of_decide_eq_true (ofBool_one _ h))
  · revert g1; pointwise; rw [neg_inf_word]; exact fun h => ne_of_gt (of_decide_eq_true (ofBool_one _ h))
end

/-! ## The context alone -/

theorem attendC_eq {κ : Type} [Fintype κ] (sc vc : κ → EReal) (j : κ) (hc : ∀ j, Finite (sc j)) :
    attendC sc vc = ∑ j, Ideal.div (Ideal.exp (sc j - top sc)) (∑ j, Ideal.exp (sc j - top sc)) * vc j := by
  have e := attend_eq_attendW (ι := Fin 0) (fun i => i.elim0) (fun i => i.elim0) sc vc j (fun i => i.elim0) hc
  have t : max (top fun i : Fin 0 => (i.elim0 : EReal)) (top sc) = top sc := max_eq_right bot_le
  unfold attend attendW at e
  rw [t] at e
  simp only [Finset.univ_eq_empty, Finset.sum_empty, zero_add] at e
  exact e

/-! ## The attention over whole arrays -/

section
variable (q k v : S16x2304x512.Idx → EReal) (rpb : S8x15x31.Idx → EReal)

/-- A row's product with a row of the keys, over one head's lanes. -/
def dotX (b : Fin 16) (h : Fin 8) (t s : Fin 2304) : EReal :=
  ∑ d : Fin 64, q (ix3 b t (⟨h * 64 + d, by omega⟩ : Fin 512)) * k (ix3 b s (⟨h * 64 + d, by omega⟩ : Fin 512))

/-- A latent row's score with a place of its window. -/
def scoreX (b : Fin 16) (h : Fin 8) (t : Fin 2048) (w : Fin 128) : EReal :=
  dotX q k b h ⟨256 + t, by omega⟩ (tok ⟨t / 64, by omega⟩ ⟨t % 64, by omega⟩ w)
    + rpb (ix3 h (ro ⟨t / 64, by omega⟩ w) (co ⟨t % 64, by omega⟩ w))

/-- A latent row. -/
def latentX (b : Fin 16) (t : Fin 2048) (h : Fin 8) (y : Fin 512) : EReal :=
  attend (scoreX q k rpb b h t) (fun w => v (ix3 b (tok ⟨t / 64, by omega⟩ ⟨t % 64, by omega⟩ w) y))
    (fun j : Fin 256 => dotX q k b h ⟨256 + t, by omega⟩ ⟨j, by omega⟩) (fun j : Fin 256 => v (ix3 b ⟨j, by omega⟩ y))

/-- A context row. -/
def contextX (b : Fin 16) (t : Fin 256) (h : Fin 8) (y : Fin 512) : EReal :=
  attendC (fun j : Fin 256 => dotX q k b h ⟨t, by omega⟩ ⟨j, by omega⟩) (fun j : Fin 256 => v (ix3 b ⟨j, by omega⟩ y))

theorem dotX_finite (hq : ∀ y, Finite (q y)) (hk : ∀ y, Finite (k y)) (b : Fin 16) (h : Fin 8) (t s : Fin 2304) : Finite (dotX q k b h t s) :=
  sum_finite _ _ fun d _ => mul_finite (hq _) (hk _)
end

end Cert.Att

namespace Cert.Reference5Ideal.Att

open Idealize.ShloMosaic Idealize.ShloMosaic.TcCoe
open Cert.Reference5Ideal Cert.Reference5Ideal.Gen Cert.Att
open Cert.Mod (Finite)

section
variable (q k v : S16x2304x512.Idx → EReal) (rpb : S8x15x31.Idx → EReal)

theorem heads_at (x : S16x2304x512.Idx → EReal) (b : Fin 16) (t : Fin 2304) (h : Fin 8) (d : Fin 64) :
    heads x (ix4 b t h d) = x (ix3 b t (⟨h * 64 + d, by omega⟩ : Fin 512)) := by
  pointwise [heads]

theorem dotH_heads (b : Fin 16) (h : Fin 8) (t s : Fin 2304) : dotH (heads q) (heads k) b h t s = dotX q k b h t s := by
  unfold dotH dotX
  exact Finset.sum_congr rfl fun d _ => congrArg₂ (· * ·) (heads_at q b t h d) (heads_at k b s h d)

variable (hq : ∀ y, Finite (q y)) (hk : ∀ y, Finite (k y)) (hr : ∀ y, Finite (rpb y))

include hq hk hr in
theorem latent_at (b : Fin 16) (t : Fin 2048) (h : Fin 8) (d : Fin 64) :
    outL (soft384 (scores (heads q) (heads k) rpb)) (heads v) (ix4 b t h d) = latentX q k v rpb b t h ⟨h * 64 + d, by omega⟩ := by
  have sW : ∀ w : Fin 128, scores (heads q) (heads k) rpb (ix4 b h t (⟨w, by omega⟩ : Fin 384)) = scoreX q k rpb b h t w := fun w => by
    rw [scores_W, scoresW_at, dotH_heads]; rfl
  have sC : ∀ j : Fin 256, scores (heads q) (heads k) rpb (ix4 b h t (⟨128 + j, by omega⟩ : Fin 384))
      = dotX q k b h ⟨256 + t, by omega⟩ ⟨j, by omega⟩ := fun j => by
    rw [scores_C, scoresC_at, dotH_heads]
  rw [outL_at]
  unfold latentX
  rw [attend_eq_attendW (scoreX q k rpb b h t) _ (fun j : Fin 256 => dotX q k b h ⟨256 + t, by omega⟩ ⟨j, by omega⟩) _ 0
    (fun w => (add_finite (dotX_finite q k hq hk _ _ _ _) (hr _)).1) (fun j => dotX_finite q k hq hk _ _ _ _)]
  unfold attendW
  refine congrArg₂ (· + ·) (Finset.sum_congr rfl fun w _ => ?_) (Finset.sum_congr rfl fun j _ => ?_)
  · rw [soft384_at, top_split, sum_split, heads_at]
    simp only [sW, sC]
  · rw [soft384_at, top_split, sum_split, heads_at]
    simp only [sW, sC]

include hq hk in
theorem context_at (b : Fin 16) (t : Fin 256) (h : Fin 8) (d : Fin 64) :
    outC (heads q) (heads k) (heads v) (ix4 b t h d) = contextX q k v b t h ⟨h * 64 + d, by omega⟩ := by
  have sC : ∀ j : Fin 256, contextScores (heads q) (heads k) (ix4 b h t j) = dotX q k b h ⟨t, by omega⟩ ⟨j, by omega⟩ := fun j => by
    rw [contextScores_at, dotH_heads]
  rw [outC_at]
  unfold contextX
  rw [attendC_eq _ _ (0 : Fin 256) (fun j => dotX_finite q k hq hk _ _ _ _)]
  refine Finset.sum_congr rfl fun j _ => ?_
  rw [soft256_at, heads_at]
  simp only [sC]

include hq hk hr in
theorem attended_latent (b : Fin 16) (t : Fin 2048) (y : Fin 512) :
    attended q k v rpb (ix3 b (⟨256 + t, by omega⟩ : Fin 2304) y) = latentX q k v rpb b t ⟨y / 64, by omega⟩ y := by
  have e : (⟨(⟨y / 64, by omega⟩ : Fin 8) * 64 + (⟨y % 64, by omega⟩ : Fin 64), by simp; omega⟩ : Fin 512) = y := Fin.ext (by simp; omega)
  refine Eq.trans ?_ ((latent_at q k v rpb hq hk hr b t ⟨y / 64, by omega⟩ ⟨y % 64, by omega⟩).trans (congrArg (latentX q k v rpb b t _) e))
  pointwise [attended]

include hq hk in
theorem attended_context (b : Fin 16) (t : Fin 256) (y : Fin 512) :
    attended q k v rpb (ix3 b (⟨t, by omega⟩ : Fin 2304) y) = contextX q k v b t ⟨y / 64, by omega⟩ y := by
  have e : (⟨(⟨y / 64, by omega⟩ : Fin 8) * 64 + (⟨y % 64, by omega⟩ : Fin 64), by simp; omega⟩ : Fin 512) = y := Fin.ext (by simp; omega)
  refine Eq.trans ?_ ((context_at q k v hq hk b t ⟨y / 64, by omega⟩ ⟨y % 64, by omega⟩).trans (congrArg (contextX q k v b t _) e))
  pointwise [attended]
end

end Cert.Reference5Ideal.Att

end
-- ==== Proof.AttValue.lean ====
/-
  The attention the kernel leaves: the reference's, over finite queries, keys and offsets. Each tile reads two heads' lanes
  of one sample's queries, keys and values and those heads' offset tables, and writes those lanes; the tiles cover the array.
-/
module

public import proofs.«01_k».proof.Proof.AttSpec

@[expose] public section

set_option maxRecDepth 16384

noncomputable section

namespace Cert.Kernel5Ideal.Att

open Cert.Kernel5Ideal Cert.Kernel5Ideal.Gen Cert.Kernel5Ideal.Value Cert.Att
open Cert.Mod (Finite)
open Cert.Reference5Ideal.Att (attended attended_latent attended_context)
open Idealize.ShloMosaic Idealize.ShloMosaic.TcCoe Idealize.SL.Sem
open Idealize.ShloMosaic.Pipeline (Dat)

/-! ## One tile -/

section
variable (x0 x1 x2 : S1x2304x128.Idx → EReal) (x3 : S3x2x256x704.Idx → EReal)
  (q k v : S16x2304x512.Idx → EReal) (rpb : S8x15x31.Idx → EReal) (s : Fin 16) (g : Fin 4)
  (b0 : ∀ (t : Fin 2304) (l : Fin 128), x0 (ix3 0 t l) = q (ix3 s t (⟨g * 128 + l, by omega⟩ : Fin 512)))
  (b1 : ∀ (t : Fin 2304) (l : Fin 128), x1 (ix3 0 t l) = k (ix3 s t (⟨g * 128 + l, by omega⟩ : Fin 512)))
  (b2 : ∀ (t : Fin 2304) (l : Fin 128), x2 (ix3 0 t l) = v (ix3 s t (⟨g * 128 + l, by omega⟩ : Fin 512)))
  (b3 : ∀ (a : Fin 3) (p : Fin 2) (r : Fin 256) (j : Fin 704), x3 (ix4 a p r j)
    = (table rpb : FVec Ideal S3x8x256x704 .f32) (ix4 a (⟨g * 2 + p, by omega⟩ : Fin 8) r j))

include b0 b1 in
theorem dotRow_eq (p : Fin 2) (t u : Fin 2304) : dotRow x0 x1 p t u = dotX q k s ⟨g * 2 + p, by omega⟩ t u := by
  unfold dotRow dotX
  refine Finset.sum_congr rfl fun d _ => ?_
  rw [b0, b1]
  exact congrArg₂ (fun a b => q (ix3 s t a) * k (ix3 s u b)) (Fin.ext (by simp; omega)) (Fin.ext (by simp; omega))

include b0 b1 b2 b3 in
theorem tile_latent (p : Fin 2) (b : Fin 8) (r : Fin 256) (l : Fin 128) :
    latent x0 x1 x2 x3 (clsOf b) (keyOf b) p ⟨256 * (b + 1) + r, by omega⟩ r l
      = latentX q k v rpb s ⟨256 * b + r, by omega⟩ ⟨g * 2 + p, by omega⟩ ⟨g * 128 + l, by omega⟩ := by
  rw [latent_window x0 x1 x2 x3 rpb ⟨g * 2 + p, by omega⟩ p b ⟨r / 64, by omega⟩ ⟨r % 64, by omega⟩ r (by simp; omega) _ l (fun j => b3 _ _ _ _)]
  have e1 : (⟨4 * b + (⟨r / 64, by omega⟩ : Fin 4), by simp; omega⟩ : Fin 32)
      = ⟨(⟨256 * b + r, by omega⟩ : Fin 2048) / 64, by simp; omega⟩ := Fin.ext (by simp; omega)
  have e2 : (⟨r % 64, by omega⟩ : Fin 64) = ⟨(⟨256 * b + r, by omega⟩ : Fin 2048) % 64, by simp; omega⟩ := Fin.ext (by simp; omega)
  have e3 : (⟨256 * (b + 1) + r, by omega⟩ : Fin 2304) = ⟨256 + (⟨256 * b + r, by omega⟩ : Fin 2048), by simp; omega⟩ := Fin.ext (by simp; omega)
  rw [e1, e2, e3]
  simp only [dotRow_eq x0 x1 q k s g b0 b1, b2]
  rfl

include b0 b1 b2 in
theorem tile_context (p : Fin 2) (r : Fin 256) (l : Fin 128) :
    context x0 x1 x2 p ⟨r, by omega⟩ l = contextX q k v s r ⟨g * 2 + p, by omega⟩ ⟨g * 128 + l, by omega⟩ := by
  unfold context contextX
  simp only [dotRow_eq x0 x1 q k s g b0 b1, b2]

variable (hq : ∀ y, Finite (q y)) (hk : ∀ y, Finite (k y)) (hr : ∀ y, Finite (rpb y))

theorem head_of (l : Fin 128) (p : Fin 2) (hp : (l : ℕ) / 64 = p) :
    (⟨g * 2 + p, by omega⟩ : Fin 8) = ⟨(⟨g * 128 + l, by omega⟩ : Fin 512) / 64, by simp; omega⟩ :=
  Fin.ext (by simp; omega)

include b0 b1 b2 hq hk in
theorem tile_at_context (r : Fin 256) (l : Fin 128) :
    out0_4 (F := Ideal) x0 x1 x2 x3 (ix3 0 (⟨r, by omega⟩ : Fin 2304) l)
      = attended q k v rpb (ix3 s (⟨r, by omega⟩ : Fin 2304) (⟨g * 128 + l, by omega⟩ : Fin 512)) := by
  rw [out_context, attended_context q k v rpb hq hk s r]
  by_cases hl : (l : ℕ) < 64
  · rw [if_pos hl, tile_context x0 x1 x2 q k v s g b0 b1 b2, head_of g l 0 (by simp; omega)]
  · rw [if_neg hl, tile_context x0 x1 x2 q k v s g b0 b1 b2, head_of g l 1 (by simp; omega)]

include b0 b1 b2 b3 hq hk hr in
theorem tile_at_latent (b : Fin 8) (r : Fin 256) (l : Fin 128) :
    out0_4 (F := Ideal) x0 x1 x2 x3 (ix3 0 (⟨256 * (b + 1) + r, by omega⟩ : Fin 2304) l)
      = attended q k v rpb (ix3 s (⟨256 * (b + 1) + r, by omega⟩ : Fin 2304) (⟨g * 128 + l, by omega⟩ : Fin 512)) := by
  have e : (⟨256 * (b + 1) + r, by omega⟩ : Fin 2304) = ⟨256 + (⟨256 * b + r, by omega⟩ : Fin 2048), by simp; omega⟩ := Fin.ext (by simp; omega)
  refine Eq.trans ?_ ((attended_latent q k v rpb hq hk hr s ⟨256 * b + r, by omega⟩ ⟨g * 128 + l, by omega⟩).symm.trans
    (congrArg (fun a => attended q k v rpb (ix3 s a _)) e.symm))
  rw [out_latent]
  by_cases hl : (l : ℕ) < 64
  · rw [if_pos hl, tile_latent x0 x1 x2 x3 q k v rpb s g b0 b1 b2 b3, head_of g l 0 (by simp; omega)]
  · rw [if_neg hl, tile_latent x0 x1 x2 x3 q k v rpb s g b0 b1 b2 b3, head_of g l 1 (by simp; omega)]

include b0 b1 b2 b3 hq hk hr in
theorem tile_at (t : Fin 2304) (l : Fin 128) :
    out0_4 (F := Ideal) x0 x1 x2 x3 (ix3 0 t l) = attended q k v rpb (ix3 s t (⟨g * 128 + l, by omega⟩ : Fin 512)) := by
  by_cases ht : (t : ℕ) < 256
  · exact tile_at_context x0 x1 x2 x3 q k v rpb s g b0 b1 b2 hq hk ⟨t, ht⟩ l
  · have e : t = (⟨256 * ((⟨t / 256 - 1, by omega⟩ : Fin 8) + 1) + (⟨t % 256, by omega⟩ : Fin 256), by simp; omega⟩ : Fin 2304) :=
      Fin.ext (by simp; omega)
    rw [e]
    exact tile_at_latent x0 x1 x2 x3 q k v rpb s g b0 b1 b2 b3 hq hk hr _ _ l
end

variable (m : (ℓ : Loc nD τ sig) → Buf (Elt Ideal) ℓ)

/-! ## Where the blocks sit -/

theorem at0 (t : Fin grid0.N) : cc0_transform_0 (grid0.coords t) = ![t.val / 4, 0, t.val % 4] :=
  (by decide +kernel : ∀ t : Fin grid0.N, cc0_transform_0 (grid0.coords t) = ![t.val / 4, 0, t.val % 4]) t
theorem at1 (t : Fin grid0.N) : cc0_transform_1 (grid0.coords t) = ![t.val / 4, 0, t.val % 4] :=
  (by decide +kernel : ∀ t : Fin grid0.N, cc0_transform_1 (grid0.coords t) = ![t.val / 4, 0, t.val % 4]) t
theorem at2 (t : Fin grid0.N) : cc0_transform_2 (grid0.coords t) = ![t.val / 4, 0, t.val % 4] :=
  (by decide +kernel : ∀ t : Fin grid0.N, cc0_transform_2 (grid0.coords t) = ![t.val / 4, 0, t.val % 4]) t
theorem at3 (t : Fin grid0.N) : cc0_transform_3 (grid0.coords t) = ![0, t.val % 4, 0, 0] :=
  (by decide +kernel : ∀ t : Fin grid0.N, cc0_transform_3 (grid0.coords t) = ![0, t.val % 4, 0, 0]) t
theorem at4 (t : Fin grid0.N) : cc0_transform_4 (grid0.coords t) = ![t.val / 4, 0, t.val % 4] :=
  (by decide +kernel : ∀ t : Fin grid0.N, cc0_transform_4 (grid0.coords t) = ![t.val / 4, 0, t.val % 4]) t
theorem flush4 (t : Fin grid0.N) : Pipeline.Window.flushOf grid0 true cc0_transform_4 t = true :=
  (by decide +kernel : ∀ t : Fin grid0.N, Pipeline.Window.flushOf grid0 true cc0_transform_4 t = true) t

theorem covers4 : (cfg0.win (4 : Fin 5)).Covers := by
  refine ⟨fun a => ?_, fun β => ?_⟩
  · match a with
    | ⟨0, _⟩ => exact (by decide : 0 < 1)
    | ⟨1, _⟩ => exact (by decide : 0 < 2304)
    | ⟨2, _⟩ => exact (by decide : 0 < 128)
  · have h0 : (β (0 : Fin 3) : ℕ) < (16 + 1 - 1) / 1 := (β (0 : Fin 3)).isLt
    have h1 : (β (1 : Fin 3) : ℕ) < (2304 + 2304 - 1) / 2304 := (β (1 : Fin 3)).isLt
    have h2 : (β (2 : Fin 3) : ℕ) < (512 + 128 - 1) / 128 := (β (2 : Fin 3)).isLt
    refine ⟨(⟨(β (0 : Fin 3) : ℕ) * 4 + (β (2 : Fin 3) : ℕ), by rw [N_0]; omega⟩ : Fin grid0.N), flush4 _, fun a => ⟨?_, .inl ?_⟩⟩
    · refine (congrFun (at4 _) a).trans ?_
      match a with
      | ⟨0, _⟩ => exact (show ((β (0 : Fin 3) : ℕ) * 4 + (β (2 : Fin 3) : ℕ)) / 4 = β (0 : Fin 3) by omega)
      | ⟨1, _⟩ => exact (show (0 : ℕ) = β (1 : Fin 3) by omega)
      | ⟨2, _⟩ => exact (show ((β (0 : Fin 3) : ℕ) * 4 + (β (2 : Fin 3) : ℕ)) % 4 = β (2 : Fin 3) by omega)
    · rfl

/-! ## What the blocks hold -/

theorem blk0 (c : Dev nD) (t : Fin cfg0.N) (ht : t.val < 64) (r : Fin 2304) (l : Fin 128) :
    iblk m c (0 : Fin 5) t (ix3 0 r l) = m ((c : Thread nD τ).loc main_arg0)
      (ix3 (⟨t.val / 4, by omega⟩ : Fin 16) r (⟨t.val % 4 * 128 + l.val, by omega⟩ : Fin 512)) := by
  unfold iblk
  blk_simp
  rw [V_main_arg0]
  refine congrArg _ (funext fun x => Fin.ext ?_)
  have e : (cfg0.win (0 : Fin 5)).index t = ![t.val / 4, 0, t.val % 4] := at0 t
  match x with
  | ⟨0, _⟩ => blk_simp [e]; rfl
  | ⟨1, _⟩ => blk_simp [e]
  | ⟨2, _⟩ => blk_simp [e]

theorem blk1 (c : Dev nD) (t : Fin cfg0.N) (ht : t.val < 64) (r : Fin 2304) (l : Fin 128) :
    iblk m c (1 : Fin 5) t (ix3 0 r l) = m ((c : Thread nD τ).loc main_arg1)
      (ix3 (⟨t.val / 4, by omega⟩ : Fin 16) r (⟨t.val % 4 * 128 + l.val, by omega⟩ : Fin 512)) := by
  unfold iblk
  blk_simp
  rw [V_main_arg1]
  refine congrArg _ (funext fun x => Fin.ext ?_)
  have e : (cfg0.win (1 : Fin 5)).index t = ![t.val / 4, 0, t.val % 4] := at1 t
  match x with
  | ⟨0, _⟩ => blk_simp [e]; rfl
  | ⟨1, _⟩ => blk_simp [e]
  | ⟨2, _⟩ => blk_simp [e]

theorem blk2 (c : Dev nD) (t : Fin cfg0.N) (ht : t.val < 64) (r : Fin 2304) (l : Fin 128) :
    iblk m c (2 : Fin 5) t (ix3 0 r l) = m ((c : Thread nD τ).loc main_arg2)
      (ix3 (⟨t.val / 4, by omega⟩ : Fin 16) r (⟨t.val % 4 * 128 + l.val, by omega⟩ : Fin 512)) := by
  unfold iblk
  blk_simp
  rw [V_main_arg2]
  refine congrArg _ (funext fun x => Fin.ext ?_)
  have e : (cfg0.win (2 : Fin 5)).index t = ![t.val / 4, 0, t.val % 4] := at2 t
  match x with
  | ⟨0, _⟩ => blk_simp [e]; rfl
  | ⟨1, _⟩ => blk_simp [e]
  | ⟨2, _⟩ => blk_simp [e]

theorem blk3 (c : Dev nD) (t : Fin cfg0.N) (ht : t.val < 64) (a : Fin 3) (p : Fin 2) (r : Fin 256) (j : Fin 704) :
    iblk m c (3 : Fin 5) t (ix4 a p r j) = (V m c main_v172 : FVec Ideal S3x8x256x704 .f32)
      (ix4 a (⟨t.val % 4 * 2 + p.val, by omega⟩ : Fin 8) r j) := by
  unfold iblk
  blk_simp
  refine congrArg _ (funext fun x => Fin.ext ?_)
  have e : (cfg0.win (3 : Fin 5)).index t = ![0, t.val % 4, 0, 0] := at3 t
  match x with
  | ⟨0, _⟩ => blk_simp [e]
  | ⟨1, _⟩ => blk_simp [e]
  | ⟨2, _⟩ => blk_simp [e]
  | ⟨3, _⟩ => blk_simp [e]

/-! ## The result -/

/-- The attention, over the arguments. -/
abbrev result (c : Dev nD) : FVec Ideal S16x2304x512 .bf16 :=
  attended (m ((c : Thread nD τ).loc main_arg0)) (m ((c : Thread nD τ).loc main_arg1)) (m ((c : Thread nD τ).loc main_arg2)) (m ((c : Thread nD τ).loc main_arg3))

theorem eq_row (y : S1x2304x128.Idx) : y = ix3 0 (y (1 : Fin 3)) (y (2 : Fin 3)) :=
  (eq_ix3 y).trans (congrArg (fun q : Fin 1 => (ix3 q (y (1 : Fin 3)) (y (2 : Fin 3)) : S1x2304x128.Idx)) (Subsingleton.elim (α := Fin 1) _ _))

section
variable (c : Dev nD) (h0 : ∀ y : S16x2304x512.Idx, Finite ((m ((c : Thread nD τ).loc main_arg0) : FVec Ideal S16x2304x512 .bf16) y))
  (h1 : ∀ y : S16x2304x512.Idx, Finite ((m ((c : Thread nD τ).loc main_arg1) : FVec Ideal S16x2304x512 .bf16) y))
  (h3 : ∀ y : S8x15x31.Idx, Finite ((m ((c : Thread nD τ).loc main_arg3) : FVec Ideal S8x15x31 .f32) y))

include h0 h1 h3 in
theorem point (t : Fin cfg0.N) (ht : t.val < 64) (r : Fin 2304) (l : Fin 128) :
    out0_4 (iblk m c (0 : Fin 5) t) (iblk m c (1 : Fin 5) t) (iblk m c (2 : Fin 5) t) (iblk m c (3 : Fin 5) t) (ix3 0 r l)
      = result m c (ix3 (⟨t.val / 4, by omega⟩ : Fin 16) r (⟨t.val % 4 * 128 + l.val, by omega⟩ : Fin 512)) :=
  tile_at (iblk m c (0 : Fin 5) t) (iblk m c (1 : Fin 5) t) (iblk m c (2 : Fin 5) t) (iblk m c (3 : Fin 5) t)
    (m ((c : Thread nD τ).loc main_arg0)) (m ((c : Thread nD τ).loc main_arg1)) (m ((c : Thread nD τ).loc main_arg2)) (m ((c : Thread nD τ).loc main_arg3))
    (⟨t.val / 4, by omega⟩ : Fin 16) (⟨t.val % 4, by omega⟩ : Fin 4)
    (fun r l => blk0 m c t ht r l) (fun r l => blk1 m c t ht r l) (fun r l => blk2 m c t ht r l)
    (fun a p r j => (blk3 m c t ht a p r j).trans (congrFun (V_table m c) _)) h0 h1 h3 r l

include h0 h1 h3 in
/-- The result array after the run. -/
theorem final : (dats m 0 c).arrAt (4 : Fin 5) cfg0.N = (result m c : FVec Ideal S16x2304x512 .bf16) := by
  refine (dats m 0 c).arrAt_eq_of_covers (4 : Fin 5) _ covers4 fun t _ y => ?_
  blk_simp
  rw [after0_4]
  have ht : t.val < 64 := lt_of_lt_of_eq t.isLt N_0
  have e : (cfg0.win (4 : Fin 5)).index t = ![t.val / 4, 0, t.val % 4] := at4 t
  have hy : y = (ix3 0 (y (1 : Fin 3)) (y (2 : Fin 3)) : S1x2304x128.Idx) := eq_row (y : S1x2304x128.Idx)
  rw [hy]
  refine (point m c h0 h1 h3 t ht (y (1 : Fin 3)) (y (2 : Fin 3))).trans (congrArg (result m c) (funext fun x => Fin.ext ?_))
  match x with
  | ⟨0, _⟩ => blk_simp [e]; rfl
  | ⟨1, _⟩ => blk_simp [e]
  | ⟨2, _⟩ => blk_simp [e]
end

/-- The run, at the reference's attention. -/
theorem run_result (ρ : Dev nD → PrngReg)
    (h0 : ∀ (c : Dev nD) (y : S16x2304x512.Idx), Finite ((m ((c : Thread nD τ).loc main_arg0) : FVec Ideal S16x2304x512 .bf16) y))
    (h1 : ∀ (c : Dev nD) (y : S16x2304x512.Idx), Finite ((m ((c : Thread nD τ).loc main_arg1) : FVec Ideal S16x2304x512 .bf16) y))
    (h3 : ∀ (c : Dev nD) (y : S8x15x31.Idx), Finite ((m ((c : Thread nD τ).loc main_arg3) : FVec Ideal S8x15x31 .f32) y)) :
    θ_run (defs (F := Ideal)) (onTc (τ := τ) (main (F := Ideal))) ⟨m, fun _ => 0, ρ⟩ (fun r => ∀ c : Dev nD,
      r.2.mem ((c : Thread nD τ).loc main_v173) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  θ_run_mono (run_blocks m ρ) fun _ h c => ⟨(h c).1.trans (final m c (h0 c) (h1 c) (h3 c)), (h c).2⟩

end Cert.Kernel5Ideal.Att

end
-- ==== Proof.lean ====
/- The claims about the grouped expert feed-forward, the input projection, the output projection, the modulation and the
   attention: for each the frames of its kernel, of the kernel read over the extended reals and of the reference, and that the last two
   end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_in_range
public import proofs.«01_k».proof.Proof.Gen.Pre_valid
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_scores
public import Idealize.ShloMosaic.Adequacy
public import Idealize.ShloMosaic.Init
public import proofs.«01_k».proof.Proof.FfnPre
public import proofs.«01_k».proof.Proof.FfnRunBits
public import proofs.«01_k».proof.Proof.FfnValue
public import proofs.«01_k».proof.Proof.InProjValue
public import proofs.«01_k».proof.Proof.OutProjValue
public import proofs.«01_k».proof.Proof.ModValue
public import proofs.«01_k».proof.Proof.AttValue

@[expose] public section

set_option maxRecDepth 16384

noncomputable section

namespace Cert.Proof

open Cert.ReferenceIdeal.Ffn (ref_congr)
open Idealize.ShloMosaic Idealize.ShloMosaic.TcCoe Idealize.SL.Sem

theorem frame_kernel : Cert.quiescent_Kernel (hKernel := Cert.Kernel.Gen.facts) (hPre_in_range := Cert.Pre_in_range.Gen.facts) :=
  fun m ρ h => θ_run_mono (Cert.Kernel.Ffn.run_args m ρ (Cert.FfnPre.groups_of_in_range _ _ _ _ _ _ (h 0)))
    fun _ hr => ⟨fun c => (hr.1 c).2, hr.2⟩

theorem frame_ideal : Cert.quiescent_KernelIdeal (hKernelIdeal := Cert.KernelIdeal.Gen.facts) (hPre_in_range := Cert.Pre_in_range.Gen.facts) :=
  fun m ρ h => θ_run_mono (Cert.KernelIdeal.Ffn.run_args m ρ (Cert.FfnPre.groups_of_in_range _ _ _ _ _ _ (h 0)))
    fun _ hr => ⟨fun c => (hr.1 c).2, hr.2⟩

theorem frame_ideal_valid : Cert.quiescent_KernelIdeal_pre_valid (hKernelIdeal := Cert.KernelIdeal.Gen.facts) (hPre_valid := Cert.Pre_valid.Gen.facts) :=
  fun m ρ h => θ_run_mono (Cert.KernelIdeal.Ffn.run_args m ρ (Cert.FfnPre.groups_of_valid _ _ _ _ _ _ (h 0)))
    fun _ hr => ⟨fun c => (hr.1 c).2, hr.2⟩

theorem frame_reference : Cert.quiescent_ReferenceIdeal (hReferenceIdeal := Cert.ReferenceIdeal.Gen.facts) := by
  intro m g _
  exact θ_run_mono (Cert.ReferenceIdeal.Value.run m g) fun r hr => ⟨fun c => (hr c).2, sem_eq_zero_of_no_sems rfl r.2⟩

theorem algebraic : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m g m' g' hpre hagree
  refine ⟨fun c => Cert.KernelIdeal.Ffn.result m c, Cert.KernelIdeal.Ffn.run_result m (Cert.FfnPre.groups_of_valid _ _ _ _ _ _ (hpre 0)) g
      (fun c => Cert.FfnPre.gate_of_valid _ _ _ _ _ _ (hpre c)), ?_⟩
  refine θ_run_mono (Cert.ReferenceIdeal.Ffn.run_ref m' g') fun r h c => ⟨(h c).1.trans ?_, (h c).2⟩
  obtain ⟨h0, h1, h2, h3, h4, h5⟩ := hagree c
  exact ref_congr _ _ _ _ _ _ h0 h1 h2 h3 h4 h5

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) := fun m ρ _ => Cert.Kernel2Ideal.Gen.frame m ρ

theorem frame_reference2 : Cert.quiescent_Reference2Ideal (hReference2Ideal := Cert.Reference2Ideal.Gen.facts) := by
  intro m g _
  exact θ_run_mono (Cert.Reference2Ideal.Value.run m g) fun r hr => ⟨fun c => (hr c).2.2.2.2.2, sem_eq_zero_of_no_sems rfl r.2⟩

section
open Cert.Reference2Ideal Cert.Reference2Ideal.InProj

theorem rows_congr {A0 B0 : FVec Ideal S16x2304x1024 .f32} {A1 B1 : FVec Ideal S16x2x6x1024 .f32} {A2 B2 : FVec Ideal S1024 .f32}
    {A3 B3 : FVec Ideal S1024x2048 .f32} (h0 : A0 = B0) (h1 : A1 = B1) (h2 : A2 = B2) (h3 : A3 = B3) : rows A0 A1 A2 A3 = rows B0 B1 B2 B3 := by
  subst h0 h1 h2 h3; rfl
theorem refQ_congr {P P' : FVec Ideal S16x2304x2048 .f32} {g g' : FVec Ideal S64 .f32} (an : FVec Ideal S2048x32 .f32) (h : P = P') (hg : g = g') :
    refQ P g an = refQ P' g' an := by subst h hg; rfl
theorem refK_congr {P P' : FVec Ideal S16x2304x2048 .f32} {g g' : FVec Ideal S64 .f32} (an : FVec Ideal S2048x32 .f32) (h : P = P') (hg : g = g') :
    refK P g an = refK P' g' an := by subst h hg; rfl
end

theorem algebraic2 : Cert.algebraic_Kernel2Ideal_Reference2Ideal (hKernel2Ideal := Cert.Kernel2Ideal.Gen.facts)
    (hReference2Ideal := Cert.Reference2Ideal.Gen.facts) := by
  intro m g m' g' _ hagree
  let an := Cert.Reference2Ideal.InProj.angles (fun b => m' ((0 : Dev Cert.Reference2Ideal.nD), b))
  refine ⟨fun c => Cert.Reference2Ideal.InProj.refQ (Cert.Kernel2Ideal.InProj.projected m c) (m ((c.tc : Thread Cert.Kernel2Ideal.nD Cert.Kernel2Ideal.τ).loc Cert.Kernel2Ideal.main_arg4)) an,
    fun c => Cert.Reference2Ideal.InProj.refK (Cert.Kernel2Ideal.InProj.projected m c) (m ((c.tc : Thread Cert.Kernel2Ideal.nD Cert.Kernel2Ideal.τ).loc Cert.Kernel2Ideal.main_arg5)) an,
    fun c => Cert.Reference2Ideal.InProj.refV (Cert.Kernel2Ideal.InProj.projected m c),
    fun c => Cert.Reference2Ideal.InProj.refS (Cert.Kernel2Ideal.InProj.projected m c),
    fun c => Cert.Reference2Ideal.InProj.refF (Cert.Kernel2Ideal.InProj.projected m c),
    Cert.Kernel2Ideal.InProj.run_result m an g fun c => Cert.Kernel2Ideal.InProj.V_v21 m c _, ?_⟩
  refine θ_run_mono (Cert.Reference2Ideal.InProj.run_ref m' g') fun r h c => ?_
  obtain rfl : c = 0 := Subsingleton.elim _ _
  obtain ⟨h0, h1, h2, h3, h4, h5⟩ := hagree 0
  have hp := rows_congr h0 h1 h2 h3
  exact ⟨(h 0).1.trans (refQ_congr _ hp h4), (h 0).2.1.trans (refK_congr _ hp h5),
    (h 0).2.2.1.trans (congrArg Cert.Reference2Ideal.InProj.refV hp), (h 0).2.2.2.1.trans (congrArg Cert.Reference2Ideal.InProj.refS hp),
    (h 0).2.2.2.2.1.trans (congrArg Cert.Reference2Ideal.InProj.refF hp), (h 0).2.2.2.2.2⟩

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := by
  intro m g _
  exact θ_run_mono (Cert.Reference3Ideal.Value.run m g) fun r hr => ⟨fun c => (hr c).2.2, sem_eq_zero_of_no_sems rfl r.2⟩

section
open Cert.Reference3Ideal Cert.Reference3Ideal.OutProj

theorem refX_congr {A0 B0 : FVec Ideal S16x2304x1024 .f32} {A1 B1 : FVec Ideal S16x2304x512 .bf16} {A2 B2 : FVec Ideal S16x2304x256 .f32} {A3 B3 : FVec Ideal S16x2304x256 .f32}
    {A4 B4 : FVec Ideal S16x2304x256 .f32} {A5 B5 : FVec Ideal S16x2304x256 .bf16} {A6 B6 : FVec Ideal S16x2x6x1024 .f32} {A7 B7 : FVec Ideal S256 .f32}
    {A8 B8 : FVec Ideal S256x256 .f32} {A9 B9 : FVec Ideal S256 .f32} {A10 B10 : FVec Ideal S1024x1024 .f32}
    (h0 : A0 = B0) (h1 : A1 = B1) (h2 : A2 = B2) (h3 : A3 = B3) (h4 : A4 = B4) (h5 : A5 = B5) (h6 : A6 = B6) (h7 : A7 = B7) (h8 : A8 = B8) (h9 : A9 = B9) (h10 : A10 = B10) :
    refX A0 A1 A2 A3 A4 A5 A6 A7 A8 A9 A10 = refX B0 B1 B2 B3 B4 B5 B6 B7 B8 B9 B10 := by
  subst h0 h1 h2 h3 h4 h5 h6 h7 h8 h9 h10; rfl
theorem norm_congr {X Y : FVec Ideal S16x2304x1024 .f32} {A6 B6 : FVec Ideal S16x2x6x1024 .f32} {A11 B11 : FVec Ideal S1024 .f32}
    (h : X = Y) (h6 : A6 = B6) (h11 : A11 = B11) : norm X A6 A11 = norm Y B6 B11 := by
  subst h h6 h11; rfl
end

theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.OutProj.streamed m c, fun c => Cert.Kernel3Ideal.OutProj.normed m c,
    Cert.Kernel3Ideal.OutProj.run_result m g, ?_⟩
  refine θ_run_mono (Cert.Reference3Ideal.Value.run m' g') fun r h c => ?_
  obtain ⟨h0, h1, h2, h3, h4, h5, h6, h7, h8, h9, h10, h11, h12, h13⟩ := hagree c
  have hX := refX_congr h0 h1 h2 h3 h4 h5 h6 h7 h8 h9 h10
  exact ⟨(h c).1.trans ((Cert.Reference3Ideal.OutProj.first_eq m' c).trans hX),
    (h c).2.1.trans ((Cert.Reference3Ideal.OutProj.second_eq m' c).trans (norm_congr hX h6 h11)), (h c).2.2⟩

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_reference4 : Cert.quiescent_Reference4Ideal (hReference4Ideal := Cert.Reference4Ideal.Gen.facts) := by
  intro m g _
  exact θ_run_mono (Cert.Reference4Ideal.Value.run m g) fun r hr => ⟨fun c => (hr c).2, sem_eq_zero_of_no_sems rfl r.2⟩

section
open Cert.Reference4Ideal Cert.Reference4Ideal.Mod

theorem table_congr {A0 B0 : FVec Ideal S24x1024 .f32} {A1 B1 : FVec Ideal S2x1024x6144 .f32} {A2 B2 : FVec Ideal S2x6144 .f32}
    (h0 : A0 = B0) (h1 : A1 = B1) (h2 : A2 = B2) : table A0 A1 A2 = table B0 B1 B2 := by
  subst h0 h1 h2; rfl
end

theorem algebraic4 : Cert.algebraic_Kernel4Ideal_Reference4Ideal_pre_finite (hKernel4Ideal := Cert.Kernel4Ideal.Gen.facts)
    (hReference4Ideal := Cert.Reference4Ideal.Gen.facts) (hPre_finite := Cert.Pre_finite.Gen.facts) := by
  intro m g m' g' hpre hagree
  refine ⟨fun c => Cert.Kernel4Ideal.Mod.tabled m c, Cert.Kernel4Ideal.Mod.run_result m g
      (fun c => Cert.Mod.cond_finite _ _ _ (hpre c)) (fun c => Cert.Mod.weight_finite _ _ _ (hpre c)), ?_⟩
  refine θ_run_mono (Cert.Reference4Ideal.Mod.run_ref m' g') fun r h c => ⟨(h c).1.trans ?_, (h c).2⟩
  obtain ⟨h0, h1, h2⟩ := hagree c
  exact table_congr h0 h1 h2

theorem frame_kernel5 : Cert.quiescent_Kernel5 (hKernel5 := Cert.Kernel5.Gen.facts) := fun m ρ _ => Cert.Kernel5.Gen.frame m ρ

theorem frame_ideal5 : Cert.quiescent_Kernel5Ideal (hKernel5Ideal := Cert.Kernel5Ideal.Gen.facts) := fun m ρ _ => Cert.Kernel5Ideal.Gen.frame m ρ

theorem frame_reference5 : Cert.quiescent_Reference5Ideal (hReference5Ideal := Cert.Reference5Ideal.Gen.facts) := by
  intro m g _
  exact θ_run_mono (Cert.Reference5Ideal.Value.run m g) fun r hr => ⟨fun c => (hr c).2, sem_eq_zero_of_no_sems rfl r.2⟩

section
open Cert.Reference5Ideal Cert.Reference5Ideal.Att

theorem attended_congr {A0 B0 A1 B1 A2 B2 : FVec Ideal S16x2304x512 .bf16} {A3 B3 : FVec Ideal S8x15x31 .f32}
    (h0 : A0 = B0) (h1 : A1 = B1) (h2 : A2 = B2) (h3 : A3 = B3) : attended A0 A1 A2 A3 = attended B0 B1 B2 B3 := by
  subst h0 h1 h2 h3; rfl
end

theorem algebraic5 : Cert.algebraic_Kernel5Ideal_Reference5Ideal_pre_finite_scores (hKernel5Ideal := Cert.Kernel5Ideal.Gen.facts)
    (hReference5Ideal := Cert.Reference5Ideal.Gen.facts) (hPre_finite_scores := Cert.Pre_finite_scores.Gen.facts) := by
  intro m g m' g' hpre hagree
  refine ⟨fun c => Cert.Kernel5Ideal.Att.result m c, Cert.Kernel5Ideal.Att.run_result m g
      (fun c => Cert.Att.query_finite _ _ _ _ (hpre c)) (fun c => Cert.Att.key_finite _ _ _ _ (hpre c))
      (fun c => Cert.Att.offset_finite _ _ _ _ (hpre c)), ?_⟩
  refine θ_run_mono (Cert.Reference5Ideal.Value.run m' g') fun r h c => ⟨((h c).1.trans (Cert.Reference5Ideal.Att.out_eq m' c)).trans ?_, (h c).2⟩
  obtain ⟨h0, h1, h2, h3⟩ := hagree c
  exact attended_congr h0 h1 h2 h3

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_in_range.Gen.facts, Cert.Pre_valid.Gen.facts, Cert.Pre_finite.Gen.facts, Cert.Pre_finite_scores.Gen.facts,
    frame_kernel, frame_ideal, frame_ideal_valid, frame_reference, fun m g _ => frame_reference m g trivial,
    frame_kernel2, frame_ideal2, frame_reference2, frame_kernel3, frame_ideal3, frame_reference3,
    frame_kernel4, frame_ideal4, fun m g _ => frame_ideal4 m g trivial, frame_reference4, fun m g _ => frame_reference4 m g trivial,
    frame_kernel5, frame_ideal5, fun m g _ => frame_ideal5 m g trivial, frame_reference5, fun m g _ => frame_reference5 m g trivial,
    trivial, algebraic, trivial, algebraic2, trivial, algebraic3, trivial, algebraic4, trivial, algebraic5⟩

end Cert.Proof

end
